-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_well_formed2 [hPre_well_formed2 : Cert.Pre_well_formed2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_well_formed2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_well_formed2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_well_formed2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_well_formed2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.1 = (fun _ => 1#1)
    ∧ (Cert.Pre_well_formed2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.2.1 = (fun _ => 1#1)
    ∧ (Cert.Pre_well_formed2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.2.2.1 = (fun _ => 1#1)
    ∧ (Cert.Pre_well_formed2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_well_formed2 [hPre_well_formed2 : Cert.Pre_well_formed2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_well_formed2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_well_formed2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_well_formed2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_well_formed2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2.1 = (fun _ => 1#1)
    ∧ (Cert.Pre_well_formed2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2.2.1 = (fun _ => 1#1)
    ∧ (Cert.Pre_well_formed2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2.2.2.1 = (fun _ => 1#1)
    ∧ (Cert.Pre_well_formed2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_well_formed2 [hKernel2Ideal : Cert.Kernel2Ideal.Facts] [hPre_well_formed2 : Cert.Pre_well_formed2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_well_formed2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_well_formed2 [hReference2Ideal : Cert.Reference2Ideal.Facts] [hPre_well_formed2 : Cert.Pre_well_formed2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_well_formed2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_well_formed2 [hKernel2Ideal : Cert.Kernel2Ideal.Facts] [hReference2Ideal : Cert.Reference2Ideal.Facts] [hPre_well_formed2 : Cert.Pre_well_formed2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_well_formed2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v81) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_well_formed : Cert.Pre_well_formed.Facts) (hPre_well_formed2 : Cert.Pre_well_formed2.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ quiescent_Kernel2 (hKernel2 := hKernel2)
    ∧ quiescent_Kernel2Ideal (hKernel2Ideal := hKernel2Ideal)
    ∧ quiescent_Kernel2Ideal_pre_well_formed2 (hKernel2Ideal := hKernel2Ideal) (hPre_well_formed2 := hPre_well_formed2)
    ∧ quiescent_Reference2Ideal (hReference2Ideal := hReference2Ideal)
    ∧ quiescent_Reference2Ideal_pre_well_formed2 (hReference2Ideal := hReference2Ideal) (hPre_well_formed2 := hPre_well_formed2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_well_formed (hKernelIdeal := hKernelIdeal) (hReferenceIdeal := hReferenceIdeal) (hPre_well_formed := hPre_well_formed)
    ∧ preserves_Kernel2_Kernel2Ideal
    ∧ algebraic_Kernel2Ideal_Reference2Ideal_pre_well_formed2 (hKernel2Ideal := hKernel2Ideal) (hReference2Ideal := hReference2Ideal) (hPre_well_formed2 := hPre_well_formed2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_well_formed.lean ====
abbrev S2x65x128x1024 : Shape := ⟨4, ![2, 65, 128, 1024]⟩
abbrev S16640x256 : Shape := ⟨2, ![16640, 256]⟩
abbrev S2x65x144x256 : Shape := ⟨4, ![2, 65, 144, 256]⟩
abbrev S_ : Shape := ⟨0, ![]⟩
abbrev S2x65x1x256 : Shape := ⟨4, ![2, 65, 1, 256]⟩
abbrev S2x65x256 : Shape := ⟨3, ![2, 65, 256]⟩

class Facts : Prop where
  bitsLt_bf16_f32 : FTy.bits .bf16 < FTy.bits .f32
  bcast_S_S2x65x128x1024 : S_.BroadcastsInDim S2x65x128x1024 (![] : Fin 0 → Fin S2x65x128x1024.rank)
  bcast_S_S16640x256 : S_.BroadcastsInDim S16640x256 (![] : Fin 0 → Fin S16640x256.rank)
  slices_S2x65x144x256_S2x65x1x256_0_0_128_0 : S2x65x144x256.Slices ![0, 0, 128, 0] S2x65x1x256
  shapeCasts_S2x65x1x256_S2x65x256 : S2x65x1x256.ShapeCasts S2x65x256
  bcast_S_S2x65x256 : S_.BroadcastsInDim S2x65x256 (![] : Fin 0 → Fin S2x65x256.rank)

variable [Facts]

def fn {F : FTy → Type} [FloatOps F] (main_arg0 : FVec F S2x65x128x1024 .bf16) (main_arg1 : FVec F S16640x256 .bf16) (main_arg2 : FVec F S2x65x144x256 .bf16) : IVec S2x65x128x1024 1 × IVec S16640x256 1 × IVec S2x65x256 1 :=
  let main_v0 : FVec F S2x65x128x1024 .f32 := (extf .f32 · bitsLt_bf16_f32) main_arg0
  let main_v1 : FVec F S2x65x128x1024 .f32 := Host.absf main_v0
  let main_cst : FVec F S_ .f32 := constant S_ .f32 0x7F800000#32
  let main_v2 : FVec F S2x65x128x1024 .f32 := broadcastInDim S2x65x128x1024 ![] bcast_S_S2x65x128x1024 main_cst
  let main_v3 : IVec S2x65x128x1024 1 := cmpf .olt main_v1 main_v2
  let main_v4 : FVec F S16640x256 .f32 := (extf .f32 · bitsLt_bf16_f32) main_arg1
  let main_v5 : FVec F S16640x256 .f32 := Host.absf main_v4
  let main_cst_0 : FVec F S_ .f32 := constant S_ .f32 0x7F800000#32
  let main_v6 : FVec F S16640x256 .f32 := broadcastInDim S16640x256 ![] bcast_S_S16640x256 main_cst_0
  let main_v7 : IVec S16640x256 1 := cmpf .olt main_v5 main_v6
  let main_v8 : FVec F S2x65x144x256 .f32 := (extf .f32 · bitsLt_bf16_f32) main_arg2
  let main_v9 : FVec F S2x65x1x256 .f32 := (extractStridedSlice S2x65x1x256 ![0, 0, 128, 0] · slices_S2x65x144x256_S2x65x1x256_0_0_128_0) main_v8
  let main_v10 : FVec F S2x65x256 .f32 := shapeCast S2x65x256 main_v9 shapeCasts_S2x65x1x256_S2x65x256
  let main_cst_1 : FVec F S_ .f32 := constant S_ .f32 0x3F800000#32
  let main_v11 : FVec F S2x65x256 .f32 := broadcastInDim S2x65x256 ![] bcast_S_S2x65x256 main_cst_1
  let main_v12 : IVec S2x65x256 1 := cmpf .oeq main_v10 main_v11
  (main_v3, main_v7, main_v12)
-- ==== Pre_well_formed2.lean ====
abbrev S8x65x128x512 : Shape := ⟨4, ![8, 65, 128, 512]⟩
abbrev S16640x1024 : Shape := ⟨2, ![16640, 1024]⟩
abbrev S8x65x144x256 : Shape := ⟨4, ![8, 65, 144, 256]⟩
abbrev S4x64 : Shape := ⟨2, ![4, 64]⟩
abbrev S_ : Shape := ⟨0, ![]⟩
abbrev S8x65x128x256 : Shape := ⟨4, ![8, 65, 128, 256]⟩
abbrev S8x65x1x256 : Shape := ⟨4, ![8, 65, 1, 256]⟩
abbrev S8x65x256 : Shape := ⟨3, ![8, 65, 256]⟩
abbrev S8x65x64x256 : Shape := ⟨4, ![8, 65, 64, 256]⟩

class Facts : Prop where
  bitsLt_bf16_f32 : FTy.bits .bf16 < FTy.bits .f32
  bcast_S_S8x65x128x512 : S_.BroadcastsInDim S8x65x128x512 (![] : Fin 0 → Fin S8x65x128x512.rank)
  bcast_S_S16640x1024 : S_.BroadcastsInDim S16640x1024 (![] : Fin 0 → Fin S16640x1024.rank)
  slices_S8x65x144x256_S8x65x128x256_0_0_0_0 : S8x65x144x256.Slices ![0, 0, 0, 0] S8x65x128x256
  bcast_S_S8x65x128x256 : S_.BroadcastsInDim S8x65x128x256 (![] : Fin 0 → Fin S8x65x128x256.rank)
  bcast_S_S4x64 : S_.BroadcastsInDim S4x64 (![] : Fin 0 → Fin S4x64.rank)
  slices_S8x65x144x256_S8x65x1x256_0_0_128_0 : S8x65x144x256.Slices ![0, 0, 128, 0] S8x65x1x256
  shapeCasts_S8x65x1x256_S8x65x256 : S8x65x1x256.ShapeCasts S8x65x256
  bcast_S_S8x65x256 : S_.BroadcastsInDim S8x65x256 (![] : Fin 0 → Fin S8x65x256.rank)
  slices_S8x65x128x512_S8x65x64x256_0_0_64_0 : S8x65x128x512.Slices ![0, 0, 64, 0] S8x65x64x256
  bcast_S_S8x65x64x256 : S_.BroadcastsInDim S8x65x64x256 (![] : Fin 0 → Fin S8x65x64x256.rank)
  slices_S8x65x128x512_S8x65x64x256_0_0_0_256 : S8x65x128x512.Slices ![0, 0, 0, 256] S8x65x64x256

variable [Facts]

def fn_part1 {F : FTy → Type} [FloatOps F] (main_arg0 : FVec F S8x65x128x512 .bf16) (main_v3 : IVec S8x65x128x512 1) (main_v7 : IVec S16640x1024 1) (main_v12 : IVec S8x65x128x256 1) (main_v15 : IVec S4x64 1) (main_v18 : FVec F S8x65x256 .f32) (main_cst_3 : FVec F S_ .f32) : IVec S8x65x128x512 1 × IVec S16640x1024 1 × IVec S8x65x128x256 1 × IVec S4x64 1 × IVec S8x65x256 1 × IVec S8x65x64x256 1 × IVec S8x65x64x256 1 :=
  let main_v19 : FVec F S8x65x256 .f32 := broadcastInDim S8x65x256 ![] bcast_S_S8x65x256 main_cst_3
  let main_v20 : IVec S8x65x256 1 := cmpf .oeq main_v18 main_v19
  let main_v21 : FVec F S8x65x128x512 .f32 := (extf .f32 · bitsLt_bf16_f32) main_arg0
  let main_v22 : FVec F S8x65x64x256 .f32 := (extractStridedSlice S8x65x64x256 ![0, 0, 64, 0] · slices_S8x65x128x512_S8x65x64x256_0_0_64_0) main_v21
  let main_cst_4 : FVec F S_ .f32 := constant S_ .f32 0x00000000#32
  let main_v23 : FVec F S8x65x64x256 .f32 := broadcastInDim S8x65x64x256 ![] bcast_S_S8x65x64x256 main_cst_4
  let main_v24 : IVec S8x65x64x256 1 := cmpf .oeq main_v22 main_v23
  let main_v25 : FVec F S8x65x128x512 .f32 := (extf .f32 · bitsLt_bf16_f32) main_arg0
  let main_v26 : FVec F S8x65x64x256 .f32 := (extractStridedSlice S8x65x64x256 ![0, 0, 0, 256] · slices_S8x65x128x512_S8x65x64x256_0_0_0_256) main_v25
  let main_cst_5 : FVec F S_ .f32 := constant S_ .f32 0x00000000#32
  let main_v27 : FVec F S8x65x64x256 .f32 := broadcastInDim S8x65x64x256 ![] bcast_S_S8x65x64x256 main_cst_5
  let main_v28 : IVec S8x65x64x256 1 := cmpf .oeq main_v26 main_v27
  (main_v3, main_v7, main_v12, main_v15, main_v20, main_v24, main_v28)

def fn {F : FTy → Type} [FloatOps F] (main_arg0 : FVec F S8x65x128x512 .bf16) (main_arg1 : FVec F S16640x1024 .bf16) (main_arg2 : FVec F S8x65x144x256 .bf16) (main_arg3 : FVec F S4x64 .f32) : IVec S8x65x128x512 1 × IVec S16640x1024 1 × IVec S8x65x128x256 1 × IVec S4x64 1 × IVec S8x65x256 1 × IVec S8x65x64x256 1 × IVec S8x65x64x256 1 :=
  let main_v0 : FVec F S8x65x128x512 .f32 := (extf .f32 · bitsLt_bf16_f32) main_arg0
  let main_v1 : FVec F S8x65x128x512 .f32 := Host.absf main_v0
  let main_cst : FVec F S_ .f32 := constant S_ .f32 0x7F800000#32
  let main_v2 : FVec F S8x65x128x512 .f32 := broadcastInDim S8x65x128x512 ![] bcast_S_S8x65x128x512 main_cst
  let main_v3 : IVec S8x65x128x512 1 := cmpf .olt main_v1 main_v2
  let main_v4 : FVec F S16640x1024 .f32 := (extf .f32 · bitsLt_bf16_f32) main_arg1
  let main_v5 : FVec F S16640x1024 .f32 := Host.absf main_v4
  let main_cst_0 : FVec F S_ .f32 := constant S_ .f32 0x7F800000#32
  let main_v6 : FVec F S16640x1024 .f32 := broadcastInDim S16640x1024 ![] bcast_S_S16640x1024 main_cst_0
  let main_v7 : IVec S16640x1024 1 := cmpf .olt main_v5 main_v6
  let main_v8 : FVec F S8x65x144x256 .f32 := (extf .f32 · bitsLt_bf16_f32) main_arg2
  let main_v9 : FVec F S8x65x128x256 .f32 := (extractStridedSlice S8x65x128x256 ![0, 0, 0, 0] · slices_S8x65x144x256_S8x65x128x256_0_0_0_0) main_v8
  let main_v10 : FVec F S8x65x128x256 .f32 := Host.absf main_v9
  let main_cst_1 : FVec F S_ .f32 := constant S_ .f32 0x7F800000#32
  let main_v11 : FVec F S8x65x128x256 .f32 := broadcastInDim S8x65x128x256 ![] bcast_S_S8x65x128x256 main_cst_1
  let main_v12 : IVec S8x65x128x256 1 := cmpf .olt main_v10 main_v11
  let main_v13 : FVec F S4x64 .f32 := Host.absf main_arg3
  let main_cst_2 : FVec F S_ .f32 := constant S_ .f32 0x7F800000#32
  let main_v14 : FVec F S4x64 .f32 := broadcastInDim S4x64 ![] bcast_S_S4x64 main_cst_2
  let main_v15 : IVec S4x64 1 := cmpf .olt main_v13 main_v14
  let main_v16 : FVec F S8x65x144x256 .f32 := (extf .f32 · bitsLt_bf16_f32) main_arg2
  let main_v17 : FVec F S8x65x1x256 .f32 := (extractStridedSlice S8x65x1x256 ![0, 0, 128, 0] · slices_S8x65x144x256_S8x65x1x256_0_0_128_0) main_v16
  let main_v18 : FVec F S8x65x256 .f32 := shapeCast S8x65x256 main_v17 shapeCasts_S8x65x1x256_S8x65x256
  let main_cst_3 : FVec F S_ .f32 := constant S_ .f32 0x3F800000#32
  fn_part1 (F := F) main_arg0 main_v3 main_v7 main_v12 main_v15 main_v18 main_cst_3
-- ==== Kernel.lean ====
abbrev S2x65x128x1024 : Shape := ⟨4, ![2, 65, 128, 1024]⟩
abbrev S16640x256 : Shape := ⟨2, ![16640, 256]⟩
abbrev S2x65x144x256 : Shape := ⟨4, ![2, 65, 144, 256]⟩
abbrev S8x128x16640 : Shape := ⟨3, ![8, 128, 16640]⟩
abbrev S1x1x128x512 : Shape := ⟨4, ![1, 1, 128, 512]⟩
abbrev S16640x128 : Shape := ⟨2, ![16640, 128]⟩
abbrev S1x65x144x256 : Shape := ⟨4, ![1, 65, 144, 256]⟩
abbrev S2x128x256 : Shape := ⟨3, ![2, 128, 256]⟩
abbrev S1x512 : Shape := ⟨2, ![1, 512]⟩
abbrev S144x512 : Shape := ⟨2, ![144, 512]⟩
abbrev S4x512x512 : Shape := ⟨3, ![4, 512, 512]⟩
abbrev S256x512 : Shape := ⟨2, ![256, 512]⟩
abbrev S256x128 : Shape := ⟨2, ![256, 128]⟩
abbrev S128x512 : Shape := ⟨2, ![128, 512]⟩
abbrev S512 : Shape := ⟨1, ![512]⟩
abbrev S1x1x144x256 : Shape := ⟨4, ![1, 1, 144, 256]⟩
abbrev S144x256 : Shape := ⟨2, ![144, 256]⟩
abbrev S512x128 : Shape := ⟨2, ![512, 128]⟩
abbrev S512x512 : Shape := ⟨2, ![512, 512]⟩
abbrev S1x512x512 : Shape := ⟨3, ![1, 512, 512]⟩
abbrev S128x256 : Shape := ⟨2, ![128, 256]⟩
abbrev S1x256 : Shape := ⟨2, ![1, 256]⟩
abbrev S1x128x256 : Shape := ⟨3, ![1, 128, 256]⟩

abbrev nBuf : Space → Nat
  | .hbm => 4
  | .vmem => 12
  | .smem => 0
  | _ => 0

abbrev bufTy : (tb : Table) → Fin (tcTables nBuf tb) → BufTy
  | .hbm, ⟨0, _⟩ => ⟨S2x65x128x1024, .bf16⟩
  | .hbm, ⟨1, _⟩ => ⟨S16640x256, .bf16⟩
  | .hbm, ⟨2, _⟩ => ⟨S2x65x144x256, .bf16⟩
  | .hbm, ⟨3, _⟩ => ⟨S8x128x16640, .f32⟩
  | .local _ .vmem, ⟨0, _⟩ => ⟨S1x1x128x512, .bf16⟩
  | .local _ .vmem, ⟨1, _⟩ => ⟨S1x1x128x512, .bf16⟩
  | .local _ .vmem, ⟨2, _⟩ => ⟨S16640x128, .bf16⟩
  | .local _ .vmem, ⟨3, _⟩ => ⟨S16640x128, .bf16⟩
  | .local _ .vmem, ⟨4, _⟩ => ⟨S1x65x144x256, .bf16⟩
  | .local _ .vmem, ⟨5, _⟩ => ⟨S1x65x144x256, .bf16⟩
  | .local _ .vmem, ⟨6, _⟩ => ⟨S2x128x256, .f32⟩
  | .local _ .vmem, ⟨7, _⟩ => ⟨S2x128x256, .f32⟩
  | .local _ .vmem, ⟨8, _⟩ => ⟨S1x512, .f32⟩
  | .local _ .vmem, ⟨9, _⟩ => ⟨S144x512, .f32⟩
  | .local _ .vmem, ⟨10, _⟩ => ⟨S4x512x512, .f32⟩
  | .local _ .vmem, ⟨11, _⟩ => ⟨S256x512, .f32⟩
  | _, _ => ⟨S2x65x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 65], ![false, false, false]⟩

def k0_cond2 (i : grid0.Coords) : BitVec 1 :=
  let arg2 : BitVec 32 := BitVec.ofNat 32 (i 2).val
  let c64_i32 : BitVec 32 := 64#32
  let v0 : BitVec 1 := Scalar.cmpi .slt arg2 c64_i32
  let v12 : BitVec 32 := Scalar.extui v0
  let c0_i32_4 : BitVec 32 := 0#32
  let v13 : BitVec 1 := Scalar.cmpi .ne v12 c0_i32_4
  v13

@[reducible] def k0_t1_loop (i : grid0.Coords) : Scf.Loop 32 :=
  let c0_i32_18 : BitVec 32 := 0#32
  let arg1 : BitVec 32 := BitVec.ofNat 32 (i 1).val
  let c1_i32 : BitVec 32 := 1#32
  let v31 : BitVec 32 := Scalar.addi arg1 c1_i32
  let c1_i32_15 : BitVec 32 := 1#32
  let v32 : BitVec 32 := Scalar.minsi v31 c1_i32_15
  let v35 : BitVec 32 := Scalar.subi v32 c0_i32_18
  let c1_i32_19 : BitVec 32 := 1#32
  let v37 : BitVec 32 := Scalar.divsi v35 c1_i32_19
  let v38 : BitVec 32 := Scalar.muli v37 c1_i32_19
  let v39 : BitVec 32 := Scalar.addi c0_i32_18 v38
  let c1_i32_20 : BitVec 32 := 1#32
  ⟨c0_i32_18, v39, c1_i32_20⟩
@[reducible] def k0_t2_loop (i : grid0.Coords) : Scf.Loop 32 :=
  let c0_i32_18 : BitVec 32 := 0#32
  let arg1 : BitVec 32 := BitVec.ofNat 32 (i 1).val
  let c1_i32 : BitVec 32 := 1#32
  let v31 : BitVec 32 := Scalar.addi arg1 c1_i32
  let c1_i32_15 : BitVec 32 := 1#32
  let v32 : BitVec 32 := Scalar.minsi v31 c1_i32_15
  let v35 : BitVec 32 := Scalar.subi v32 c0_i32_18
  let c1_i32_19 : BitVec 32 := 1#32
  let v37 : BitVec 32 := Scalar.divsi v35 c1_i32_19
  let v38 : BitVec 32 := Scalar.muli v37 c1_i32_19
  let v39 : BitVec 32 := Scalar.addi c0_i32_18 v38
  let v36 : BitVec 32 := Scalar.addi c0_i32_18 v35
  let c1_i32_21 : BitVec 32 := 1#32
  ⟨v39, v36, c1_i32_21⟩
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x65x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x65x128x1024 : Shape := ⟨4, ![2, 65, 128, 1024]⟩
abbrev S16640x256 : Shape := ⟨2, ![16640, 256]⟩
abbrev S2x65x144x256 : Shape := ⟨4, ![2, 65, 144, 256]⟩
abbrev S2x65x128x4x256 : Shape := ⟨5, ![2, 65, 128, 4, 256]⟩
abbrev S2x4x65x256x128 : Shape := ⟨5, ![2, 4, 65, 256, 128]⟩
abbrev S2x4x16640x128 : Shape := ⟨4, ![2, 4, 16640, 128]⟩
abbrev S16640x2x128 : Shape := ⟨3, ![16640, 2, 128]⟩
abbrev S2x16640x128 : Shape := ⟨3, ![2, 16640, 128]⟩
abbrev S2x65x128x256 : Shape := ⟨4, ![2, 65, 128, 256]⟩
abbrev S2x65x256x128 : Shape := ⟨4, ![2, 65, 256, 128]⟩
abbrev S_ : Shape := ⟨0, ![]⟩
abbrev S2x4x16384x128 : Shape := ⟨4, ![2, 4, 16384, 128]⟩
abbrev S2x4x16384x16640 : Shape := ⟨4, ![2, 4, 16384, 16640]⟩
abbrev S2x4x16384 : Shape := ⟨3, ![2, 4, 16384]⟩
abbrev S2x4x16384x1 : Shape := ⟨4, ![2, 4, 16384, 1]⟩
abbrev S2x4x256x128 : Shape := ⟨4, ![2, 4, 256, 128]⟩
abbrev S2x256x128 : Shape := ⟨3, ![2, 256, 128]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S8x16640x128 : Shape := ⟨3, ![8, 16640, 128]⟩
abbrev S8x128x16640 : Shape := ⟨3, ![8, 128, 16640]⟩

abbrev nBuf : Space → Nat
  | .hbm => 59
  | .vmem => 0
  | .smem => 0
  | _ => 0

abbrev bufTy : (tb : Table) → Fin (tcTables nBuf tb) → BufTy
  | .hbm, ⟨0, _⟩ => ⟨S2x65x128x1024, .bf16⟩
  | .hbm, ⟨1, _⟩ => ⟨S16640x256, .bf16⟩
  | .hbm, ⟨2, _⟩ => ⟨S2x65x144x256, .bf16⟩
  | .hbm, ⟨3, _⟩ => ⟨S2x65x128x1024, .f32⟩
  | .hbm, ⟨4, _⟩ => ⟨S2x65x128x4x256, .f32⟩
  | .hbm, ⟨5, _⟩ => ⟨S2x4x65x256x128, .f32⟩
  | .hbm, ⟨6, _⟩ => ⟨S2x4x16640x128, .f32⟩
  | .hbm, ⟨7, _⟩ => ⟨S16640x256, .f32⟩
  | .hbm, ⟨8, _⟩ => ⟨S16640x2x128, .f32⟩
  | .hbm, ⟨9, _⟩ => ⟨S2x16640x128, .f32⟩
  | .hbm, ⟨10, _⟩ => ⟨S2x65x144x256, .f32⟩
  | .hbm, ⟨11, _⟩ => ⟨S2x65x128x256, .f32⟩
  | .hbm, ⟨12, _⟩ => ⟨S2x65x256x128, .f32⟩
  | .hbm, ⟨13, _⟩ => ⟨S2x16640x128, .f32⟩
  | .hbm, ⟨14, _⟩ => ⟨S_, .f32⟩
  | .hbm, ⟨15, _⟩ => ⟨S_, .f32⟩
  | .hbm, ⟨16, _⟩ => ⟨S2x4x16384x128, .f32⟩
  | .hbm, ⟨17, _⟩ => ⟨S2x4x16384x16640, .f32⟩
  | .hbm, ⟨18, _⟩ => ⟨S2x4x16384x16640, .f32⟩
  | .hbm, ⟨19, _⟩ => ⟨S2x4x16384x16640, .f32⟩
  | .hbm, ⟨20, _⟩ => ⟨S_, .f32⟩
  | .hbm, ⟨21, _⟩ => ⟨S2x4x16384, .f32⟩
  | .hbm, ⟨22, _⟩ => ⟨S_, .f32⟩
  | .hbm, ⟨23, _⟩ => ⟨S2x4x16384, .f32⟩
  | .hbm, ⟨24, _⟩ => ⟨S2x4x16384, .f32⟩
  | .hbm, ⟨25, _⟩ => ⟨S2x4x16384x1, .f32⟩
  | .hbm, ⟨26, _⟩ => ⟨S2x4x16384x16640, .f32⟩
  | .hbm, ⟨27, _⟩ => ⟨S2x4x16384x16640, .f32⟩
  | .hbm, ⟨28, _⟩ => ⟨S2x4x16384x16640, .f32⟩
  | .hbm, ⟨29, _⟩ => ⟨S_, .f32⟩
  | .hbm, ⟨30, _⟩ => ⟨S2x4x16384, .f32⟩
  | .hbm, ⟨31, _⟩ => ⟨S2x4x16384x1, .f32⟩
  | .hbm, ⟨32, _⟩ => ⟨S2x4x16384x16640, .f32⟩
  | .hbm, ⟨33, _⟩ => ⟨S2x4x16384x16640, .f32⟩
  | .hbm, ⟨34, _⟩ => ⟨S2x4x16384x128, .f32⟩
  | .hbm, ⟨35, _⟩ => ⟨S2x4x256x128, .f32⟩
  | .hbm, ⟨36, _⟩ => ⟨S2x256x128, .f32⟩
  | .hbm, ⟨37, _⟩ => ⟨S2x256x128, .f32⟩
  | .hbm, ⟨38, _⟩ => ⟨S2x4x256x256, .f32⟩
  | .hbm, ⟨39, _⟩ => ⟨S2x4x256x256, .f32⟩
  | .hbm, ⟨40, _⟩ => ⟨S2x4x256x256, .f32⟩
  | .hbm, ⟨41, _⟩ => ⟨S_, .f32⟩
  | .hbm, ⟨42, _⟩ => ⟨S2x4x256, .f32⟩
  | .hbm, ⟨43, _⟩ => ⟨S_, .f32⟩
  | .hbm, ⟨44, _⟩ => ⟨S2x4x256, .f32⟩
  | .hbm, ⟨45, _⟩ => ⟨S2x4x256, .f32⟩
  | .hbm, ⟨46, _⟩ => ⟨S2x4x256x1, .f32⟩
  | .hbm, ⟨47, _⟩ => ⟨S2x4x256x256, .f32⟩
  | .hbm, ⟨48, _⟩ => ⟨S2x4x256x256, .f32⟩
  | .hbm, ⟨49, _⟩ => ⟨S2x4x256x256, .f32⟩
  | .hbm, ⟨50, _⟩ => ⟨S_, .f32⟩
  | .hbm, ⟨51, _⟩ => ⟨S2x4x256, .f32⟩
  | .hbm, ⟨52, _⟩ => ⟨S2x4x256x1, .f32⟩
  | .hbm, ⟨53, _⟩ => ⟨S2x4x256x256, .f32⟩
  | .hbm, ⟨54, _⟩ => ⟨S2x4x256x256, .f32⟩
  | .hbm, ⟨55, _⟩ => ⟨S2x4x256x128, .f32⟩
  | .hbm, ⟨56, _⟩ => ⟨S2x4x16640x128, .f32⟩
  | .hbm, ⟨57, _⟩ => ⟨S8x16640x128, .f32⟩
  | .hbm, ⟨58, _⟩ => ⟨S8x128x16640, .f32⟩
  | _, _ => ⟨S2x65x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel2.lean ====
abbrev S8x65x128x512 : Shape := ⟨4, ![8, 65, 128, 512]⟩
abbrev S16640x1024 : Shape := ⟨2, ![16640, 1024]⟩
abbrev S8x65x144x256 : Shape := ⟨4, ![8, 65, 144, 256]⟩
abbrev S4x64 : Shape := ⟨2, ![4, 64]⟩
abbrev S8x128x16640 : Shape := ⟨3, ![8, 128, 16640]⟩
abbrev S1x1x128x512 : Shape := ⟨4, ![1, 1, 128, 512]⟩
abbrev S16640x128 : Shape := ⟨2, ![16640, 128]⟩
abbrev S1x65x144x256 : Shape := ⟨4, ![1, 65, 144, 256]⟩
abbrev S1x128x256 : Shape := ⟨3, ![1, 128, 256]⟩
abbrev S1x512 : Shape := ⟨2, ![1, 512]⟩
abbrev S144x512 : Shape := ⟨2, ![144, 512]⟩
abbrev S4x512x512 : Shape := ⟨3, ![4, 512, 512]⟩
abbrev S256x512 : Shape := ⟨2, ![256, 512]⟩
abbrev S256x128 : Shape := ⟨2, ![256, 128]⟩
abbrev S128x512 : Shape := ⟨2, ![128, 512]⟩
abbrev S512 : Shape := ⟨1, ![512]⟩
abbrev S1x1x144x256 : Shape := ⟨4, ![1, 1, 144, 256]⟩
abbrev S144x256 : Shape := ⟨2, ![144, 256]⟩
abbrev S512x128 : Shape := ⟨2, ![512, 128]⟩
abbrev S512x512 : Shape := ⟨2, ![512, 512]⟩
abbrev S1x512x512 : Shape := ⟨3, ![1, 512, 512]⟩
abbrev S1x64 : Shape := ⟨2, ![1, 64]⟩
abbrev S1 : Shape := ⟨1, ![1]⟩
abbrev S1x1 : Shape := ⟨2, ![1, 1]⟩
abbrev S128x256 : Shape := ⟨2, ![128, 256]⟩
abbrev S1x256 : Shape := ⟨2, ![1, 256]⟩

abbrev nBuf : Space → Nat
  | .hbm => 5
  | .vmem => 13
  | .smem => 0
  | _ => 0

abbrev bufTy : (tb : Table) → Fin (tcTables nBuf tb) → BufTy
  | .hbm, ⟨0, _⟩ => ⟨S8x65x128x512, .bf16⟩
  | .hbm, ⟨1, _⟩ => ⟨S16640x1024, .bf16⟩
  | .hbm, ⟨2, _⟩ => ⟨S8x65x144x256, .bf16⟩
  | .hbm, ⟨3, _⟩ => ⟨S4x64, .f32⟩
  | .hbm, ⟨4, _⟩ => ⟨S8x128x16640, .f32⟩
  | .local _ .vmem, ⟨0, _⟩ => ⟨S1x1x128x512, .bf16⟩
  | .local _ .vmem, ⟨1, _⟩ => ⟨S1x1x128x512, .bf16⟩
  | .local _ .vmem, ⟨2, _⟩ => ⟨S16640x128, .bf16⟩
  | .local _ .vmem, ⟨3, _⟩ => ⟨S16640x128, .bf16⟩
  | .local _ .vmem, ⟨4, _⟩ => ⟨S1x65x144x256, .bf16⟩
  | .local _ .vmem, ⟨5, _⟩ => ⟨S1x65x144x256, .bf16⟩
  | .local _ .vmem, ⟨6, _⟩ => ⟨S4x64, .f32⟩
  | .local _ .vmem, ⟨7, _⟩ => ⟨S1x128x256, .f32⟩
  | .local _ .vmem, ⟨8, _⟩ => ⟨S1x128x256, .f32⟩
  | .local _ .vmem, ⟨9, _⟩ => ⟨S1x512, .f32⟩
  | .local _ .vmem, ⟨10, _⟩ => ⟨S144x512, .f32⟩
  | .local _ .vmem, ⟨11, _⟩ => ⟨S4x512x512, .f32⟩
  | .local _ .vmem, ⟨12, _⟩ => ⟨S256x512, .f32⟩
  | _, _ => ⟨S8x65x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 65], ![false, false]⟩

def k0_cond2 (i : grid0.Coords) : BitVec 1 :=
  let arg1 : BitVec 32 := BitVec.ofNat 32 (i 1).val
  let c64_i32 : BitVec 32 := 64#32
  let v0 : BitVec 1 := Scalar.cmpi .slt arg1 c64_i32
  let v12 : BitVec 32 := Scalar.extui v0
  let c0_i32_4 : BitVec 32 := 0#32
  let v13 : BitVec 1 := Scalar.cmpi .ne v12 c0_i32_4
  v13

@[reducible] def k0_t1_loop (i : grid0.Coords) : Scf.Loop 32 :=
  let c0_i32_21 : BitVec 32 := 0#32
  let arg1 : BitVec 32 := BitVec.ofNat 32 (i 1).val
  let c1_i32 : BitVec 32 := 1#32
  let v47 : BitVec 32 := Scalar.addi arg1 c1_i32
  let c1_i32_18 : BitVec 32 := 1#32
  let v48 : BitVec 32 := Scalar.minsi v47 c1_i32_18
  let v51 : BitVec 32 := Scalar.subi v48 c0_i32_21
  let c1_i32_22 : BitVec 32 := 1#32
  let v53 : BitVec 32 := Scalar.divsi v51 c1_i32_22
  let v54 : BitVec 32 := Scalar.muli v53 c1_i32_22
  let v55 : BitVec 32 := Scalar.addi c0_i32_21 v54
  let c1_i32_23 : BitVec 32 := 1#32
  ⟨c0_i32_21, v55, c1_i32_23⟩
@[reducible] def k0_t2_loop (i : grid0.Coords) : Scf.Loop 32 :=
  let c0_i32_21 : BitVec 32 := 0#32
  let arg1 : BitVec 32 := BitVec.ofNat 32 (i 1).val
  let c1_i32 : BitVec 32 := 1#32
  let v47 : BitVec 32 := Scalar.addi arg1 c1_i32
  let c1_i32_18 : BitVec 32 := 1#32
  let v48 : BitVec 32 := Scalar.minsi v47 c1_i32_18
  let v51 : BitVec 32 := Scalar.subi v48 c0_i32_21
  let c1_i32_22 : BitVec 32 := 1#32
  let v53 : BitVec 32 := Scalar.divsi v51 c1_i32_22
  let v54 : BitVec 32 := Scalar.muli v53 c1_i32_22
  let v55 : BitVec 32 := Scalar.addi c0_i32_21 v54
  let v52 : BitVec 32 := Scalar.addi c0_i32_21 v51
  let c1_i32_24 : BitVec 32 := 1#32
  ⟨v55, v52, c1_i32_24⟩
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x65x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x65x128x512 : Shape := ⟨4, ![8, 65, 128, 512]⟩
abbrev S16640x1024 : Shape := ⟨2, ![16640, 1024]⟩
abbrev S8x65x144x256 : Shape := ⟨4, ![8, 65, 144, 256]⟩
abbrev S4x64 : Shape := ⟨2, ![4, 64]⟩
abbrev S8x65x64x256 : Shape := ⟨4, ![8, 65, 64, 256]⟩
abbrev S8x1x65x64x256 : Shape := ⟨5, ![8, 1, 65, 64, 256]⟩
abbrev S8x2x65x64x256 : Shape := ⟨5, ![8, 2, 65, 64, 256]⟩
abbrev S8x2x65x256x64 : Shape := ⟨5, ![8, 2, 65, 256, 64]⟩
abbrev S8x2x16640x64 : Shape := ⟨4, ![8, 2, 16640, 64]⟩
abbrev S16640x8x2x64 : Shape := ⟨4, ![16640, 8, 2, 64]⟩
abbrev S8x65x128x256 : Shape := ⟨4, ![8, 65, 128, 256]⟩
abbrev S8x65x256x128 : Shape := ⟨4, ![8, 65, 256, 128]⟩
abbrev S8x16640x128 : Shape := ⟨3, ![8, 16640, 128]⟩
abbrev S_ : Shape := ⟨0, ![]⟩
abbrev S1x64 : Shape := ⟨2, ![1, 64]⟩
abbrev S64 : Shape := ⟨1, ![64]⟩
abbrev S8x2x16384x64 : Shape := ⟨4, ![8, 2, 16384, 64]⟩
abbrev S8x2x16384x16640 : Shape := ⟨4, ![8, 2, 16384, 16640]⟩
abbrev S8x2x16384 : Shape := ⟨3, ![8, 2, 16384]⟩
abbrev S8x2x16384x1 : Shape := ⟨4, ![8, 2, 16384, 1]⟩
abbrev S8x1x16384x16640 : Shape := ⟨4, ![8, 1, 16384, 16640]⟩
abbrev S8x16384x16640 : Shape := ⟨3, ![8, 16384, 16640]⟩
abbrev S8x16384x128 : Shape := ⟨3, ![8, 16384, 128]⟩
abbrev S8x2x256x64 : Shape := ⟨4, ![8, 2, 256, 64]⟩
abbrev S8x256x128 : Shape := ⟨3, ![8, 256, 128]⟩
abbrev S8x2x256x256 : Shape := ⟨4, ![8, 2, 256, 256]⟩
abbrev S8x2x256 : Shape := ⟨3, ![8, 2, 256]⟩
abbrev S8x2x256x1 : Shape := ⟨4, ![8, 2, 256, 1]⟩
abbrev S8x1x256x256 : Shape := ⟨4, ![8, 1, 256, 256]⟩
abbrev S8x256x256 : Shape := ⟨3, ![8, 256, 256]⟩
abbrev S8x128x16640 : Shape := ⟨3, ![8, 128, 16640]⟩

abbrev nBuf : Space → Nat
  | .hbm => 96
  | .vmem => 0
  | .smem => 0
  | _ => 0

abbrev bufTy : (tb : Table) → Fin (tcTables nBuf tb) → BufTy
  | .hbm, ⟨0, _⟩ => ⟨S8x65x128x512, .bf16⟩
  | .hbm, ⟨1, _⟩ => ⟨S16640x1024, .bf16⟩
  | .hbm, ⟨2, _⟩ => ⟨S8x65x144x256, .bf16⟩
  | .hbm, ⟨3, _⟩ => ⟨S4x64, .f32⟩
  | .hbm, ⟨4, _⟩ => ⟨S8x65x128x512, .f32⟩
  | .hbm, ⟨5, _⟩ => ⟨S8x65x64x256, .f32⟩
  | .hbm, ⟨6, _⟩ => ⟨S8x65x64x256, .f32⟩
  | .hbm, ⟨7, _⟩ => ⟨S8x1x65x64x256, .f32⟩
  | .hbm, ⟨8, _⟩ => ⟨S8x1x65x64x256, .f32⟩
  | .hbm, ⟨9, _⟩ => ⟨S8x2x65x64x256, .f32⟩
  | .hbm, ⟨10, _⟩ => ⟨S8x2x65x256x64, .f32⟩
  | .hbm, ⟨11, _⟩ => ⟨S8x2x16640x64, .f32⟩
  | .hbm, ⟨12, _⟩ => ⟨S16640x1024, .f32⟩
  | .hbm, ⟨13, _⟩ => ⟨S16640x8x2x64, .f32⟩
  | .hbm, ⟨14, _⟩ => ⟨S8x2x16640x64, .f32⟩
  | .hbm, ⟨15, _⟩ => ⟨S8x65x144x256, .f32⟩
  | .hbm, ⟨16, _⟩ => ⟨S8x65x128x256, .f32⟩
  | .hbm, ⟨17, _⟩ => ⟨S8x65x256x128, .f32⟩
  | .hbm, ⟨18, _⟩ => ⟨S8x16640x128, .f32⟩
  | .hbm, ⟨19, _⟩ => ⟨S_, .f32⟩
  | .hbm, ⟨20, _⟩ => ⟨S_, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x64, .f32⟩
  | .hbm, ⟨30, _⟩ => ⟨S64, .f32⟩
  | .hbm, ⟨31, _⟩ => ⟨S1x64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x2x16384x64, .f32⟩
  | .hbm, ⟨41, _⟩ => ⟨S8x2x16384x16640, .f32⟩
  | .hbm, ⟨42, _⟩ => ⟨S8x2x16384x16640, .f32⟩
  | .hbm, ⟨43, _⟩ => ⟨S8x2x16384x16640, .f32⟩
  | .hbm, ⟨44, _⟩ => ⟨S_, .f32⟩
  | .hbm, ⟨45, _⟩ => ⟨S8x2x16384, .f32⟩
  | .hbm, ⟨46, _⟩ => ⟨S_, .f32⟩
  | .hbm, ⟨47, _⟩ => ⟨S8x2x16384, .f32⟩
  | .hbm, ⟨48, _⟩ => ⟨S8x2x16384, .f32⟩
  | .hbm, ⟨49, _⟩ => ⟨S8x2x16384x1, .f32⟩
  | .hbm, ⟨50, _⟩ => ⟨S8x2x16384x16640, .f32⟩
  | .hbm, ⟨51, _⟩ => ⟨S8x2x16384x16640, .f32⟩
  | .hbm, ⟨52, _⟩ => ⟨S8x2x16384x16640, .f32⟩
  | .hbm, ⟨53, _⟩ => ⟨S_, .f32⟩
  | .hbm, ⟨54, _⟩ => ⟨S8x2x16384, .f32⟩
  | .hbm, ⟨55, _⟩ => ⟨S8x2x16384x1, .f32⟩
  | .hbm, ⟨56, _⟩ => ⟨S8x2x16384x16640, .f32⟩
  | .hbm, ⟨57, _⟩ => ⟨S8x2x16384x16640, .f32⟩
  | .hbm, ⟨58, _⟩ => ⟨S8x1x16384x16640, .f32⟩
  | .hbm, ⟨59, _⟩ => ⟨S8x16384x16640, .f32⟩
  | .hbm, ⟨60, _⟩ => ⟨S8x1x16384x16640, .f32⟩
  | .hbm, ⟨61, _⟩ => ⟨S8x16384x16640, .f32⟩
  | .hbm, ⟨62, _⟩ => ⟨S8x16384x16640, .f32⟩
  | .hbm, ⟨63, _⟩ => ⟨S8x16384x16640, .f32⟩
  | .hbm, ⟨64, _⟩ => ⟨S8x16384x16640, .f32⟩
  | .hbm, ⟨65, _⟩ => ⟨S8x16384x128, .f32⟩
  | .hbm, ⟨66, _⟩ => ⟨S8x2x256x64, .f32⟩
  | .hbm, ⟨67, _⟩ => ⟨S8x2x256x64, .f32⟩
  | .hbm, ⟨68, _⟩ => ⟨S8x256x128, .f32⟩
  | .hbm, ⟨69, _⟩ => ⟨S8x2x256x256, .f32⟩
  | .hbm, ⟨70, _⟩ => ⟨S8x2x256x256, .f32⟩
  | .hbm, ⟨71, _⟩ => ⟨S8x2x256x256, .f32⟩
  | .hbm, ⟨72, _⟩ => ⟨S_, .f32⟩
  | .hbm, ⟨73, _⟩ => ⟨S8x2x256, .f32⟩
  | .hbm, ⟨74, _⟩ => ⟨S_, .f32⟩
  | .hbm, ⟨75, _⟩ => ⟨S8x2x256, .f32⟩
  | .hbm, ⟨76, _⟩ => ⟨S8x2x256, .f32⟩
  | .hbm, ⟨77, _⟩ => ⟨S8x2x256x1, .f32⟩
  | .hbm, ⟨78, _⟩ => ⟨S8x2x256x256, .f32⟩
  | .hbm, ⟨79, _⟩ => ⟨S8x2x256x256, .f32⟩
  | .hbm, ⟨80, _⟩ => ⟨S8x2x256x256, .f32⟩
  | .hbm, ⟨81, _⟩ => ⟨S_, .f32⟩
  | .hbm, ⟨82, _⟩ => ⟨S8x2x256, .f32⟩
  | .hbm, ⟨83, _⟩ => ⟨S8x2x256x1, .f32⟩
  | .hbm, ⟨84, _⟩ => ⟨S8x2x256x256, .f32⟩
  | .hbm, ⟨85, _⟩ => ⟨S8x2x256x256, .f32⟩
  | .hbm, ⟨86, _⟩ => ⟨S8x1x256x256, .f32⟩
  | .hbm, ⟨87, _⟩ => ⟨S8x256x256, .f32⟩
  | .hbm, ⟨88, _⟩ => ⟨S8x1x256x256, .f32⟩
  | .hbm, ⟨89, _⟩ => ⟨S8x256x256, .f32⟩
  | .hbm, ⟨90, _⟩ => ⟨S8x256x256, .f32⟩
  | .hbm, ⟨91, _⟩ => ⟨S8x256x256, .f32⟩
  | .hbm, ⟨92, _⟩ => ⟨S8x256x256, .f32⟩
  | .hbm, ⟨93, _⟩ => ⟨S8x256x128, .f32⟩
  | .hbm, ⟨94, _⟩ => ⟨S8x16640x128, .f32⟩
  | .hbm, ⟨95, _⟩ => ⟨S8x128x16640, .f32⟩
  | _, _ => ⟨S8x65x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_6 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩

abbrev nD : Nat := 1
abbrev τ : Topo := Topo.v7x

variable {F : FTy → Type} [FloatOps F]
-- ==== Kernel3.lean ====
abbrev S16640x2048 : Shape := ⟨2, ![16640, 2048]⟩
abbrev S2048 : Shape := ⟨1, ![2048]⟩
abbrev S4x8x6144 : Shape := ⟨3, ![4, 8, 6144]⟩
abbrev S4x2048x15872 : Shape := ⟨3, ![4, 2048, 15872]⟩
abbrev S1x2048 : Shape := ⟨2, ![1, 2048]⟩
abbrev S16640x16384 : Shape := ⟨2, ![16640, 16384]⟩
abbrev S1664x2048 : Shape := ⟨2, ![1664, 2048]⟩
abbrev S1x8x6144 : Shape := ⟨3, ![1, 8, 6144]⟩
abbrev S1x2048x512 : Shape := ⟨3, ![1, 2048, 512]⟩
abbrev S1664x512 : Shape := ⟨2, ![1664, 512]⟩
abbrev S1x1x2048 : Shape := ⟨3, ![1, 1, 2048]⟩
abbrev S32x2048 : Shape := ⟨2, ![32, 2048]⟩
abbrev S32 : Shape := ⟨1, ![32]⟩
abbrev S32x1 : Shape := ⟨2, ![32, 1]⟩
abbrev S2048x512 : Shape := ⟨2, ![2048, 512]⟩

abbrev nBuf : Space → Nat
  | .hbm => 6
  | .vmem => 9
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S4x8x6144, .f32⟩
  | .hbm, ⟨3, _⟩ => ⟨S4x2048x15872, .f32⟩
  | .hbm, ⟨4, _⟩ => ⟨S1x2048, .f32⟩
  | .hbm, ⟨5, _⟩ => ⟨S16640x16384, .bf16⟩
  | .local _ .vmem, ⟨0, _⟩ => ⟨S1664x2048, .f32⟩
  | .local _ .vmem, ⟨1, _⟩ => ⟨S1664x2048, .f32⟩
  | .local _ .vmem, ⟨2, _⟩ => ⟨S1x2048, .f32⟩
  | .local _ .vmem, ⟨3, _⟩ => ⟨S1x8x6144, .f32⟩
  | .local _ .vmem, ⟨4, _⟩ => ⟨S1x2048x512, .f32⟩
  | .local _ .vmem, ⟨5, _⟩ => ⟨S1x2048x512, .f32⟩
  | .local _ .vmem, ⟨6, _⟩ => ⟨S1664x512, .bf16⟩
  | .local _ .vmem, ⟨7, _⟩ => ⟨S1664x512, .bf16⟩
  | .local _ .vmem, ⟨8, _⟩ => ⟨S1664x2048, .bf16⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![10, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c52_i32 : BitVec 32 := 52#32
  let v25 : BitVec 32 := Scalar.addi c0_i32_16 c52_i32
  let c1_i32 : BitVec 32 := 1#32
  ⟨c0_i32_16, v25, c1_i32⟩
def k0_mult1 (k0_t1 : Fin k0_t1_loop.trips) : BitVec 32 :=
  let c0_i32_16 : BitVec 32 := 0#32
  let c1_i32 : BitVec 32 := 1#32
  let arg8 : BitVec 32 := Scf.iv c0_i32_16 c1_i32 k0_t1
  let c32_i32 : BitVec 32 := 32#32
  let v26 : BitVec 32 := Scalar.muli arg8 c32_i32
  v26
def k0_off1 (k0_t1 : Fin k0_t1_loop.trips) : Fin 2 → Nat :=
  let c0_i32_16 : BitVec 32 := 0#32
  let c1_i32 : BitVec 32 := 1#32
  let arg8 : BitVec 32 := Scf.iv c0_i32_16 c1_i32 k0_t1
  let c32_i32 : BitVec 32 := 32#32
  let v26 : BitVec 32 := Scalar.muli arg8 c32_i32
  let v27 : BitVec 32 := v26
  let v33 : Index := Scalar.indexCast v27
  let c0_18 : Index := 0#32
  ![v33.toNat, 0]
def k0_cond2 (i : grid0.Coords) : BitVec 1 :=
  let arg1 : BitVec 32 := BitVec.ofNat 32 (i 1).val
  let c19_i32 : BitVec 32 := 19#32
  let v3 : BitVec 1 := Scalar.cmpi .ne arg1 c19_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c19_i32_2 : BitVec 32 := 19#32
  let v6 : BitVec 1 := Scalar.cmpi .eq arg1 c19_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c19_i32 : BitVec 32 := 19#32
  let v0 : BitVec 1 := Scalar.cmpi .sgt arg1 c19_i32
  let v1 : BitVec 32 := Scalar.extui v0
  let v2 : BitVec 32 := Scalar.subi arg1 v1
  let c0_i32 : BitVec 32 := 0#32
  let c0_i32_0 : BitVec 32 := 0#32
  let c0_i32_1 : BitVec 32 := 0#32
  ![c0_i32.toNat, c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1664x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16640x2048 : Shape := ⟨2, ![16640, 2048]⟩
abbrev S2048 : Shape := ⟨1, ![2048]⟩
abbrev S4x8x6144 : Shape := ⟨3, ![4, 8, 6144]⟩
abbrev S4x2048x15872 : Shape := ⟨3, ![4, 2048, 15872]⟩
abbrev S1x2x2048 : Shape := ⟨3, ![1, 2, 2048]⟩
abbrev S2x2048 : Shape := ⟨2, ![2, 2048]⟩
abbrev S_ : Shape := ⟨0, ![]⟩
abbrev S16640 : Shape := ⟨1, ![16640]⟩
abbrev S16640x1 : Shape := ⟨2, ![16640, 1]⟩
abbrev S1x2048 : Shape := ⟨2, ![1, 2048]⟩
abbrev S16384x2048 : Shape := ⟨2, ![16384, 2048]⟩
abbrev S256x2048 : Shape := ⟨2, ![256, 2048]⟩
abbrev S1x2048x15872 : Shape := ⟨3, ![1, 2048, 15872]⟩
abbrev S2048x15872 : Shape := ⟨2, ![2048, 15872]⟩
abbrev S16640x15872 : Shape := ⟨2, ![16640, 15872]⟩
abbrev S16640x512 : Shape := ⟨2, ![16640, 512]⟩
abbrev S16640x9728 : Shape := ⟨2, ![16640, 9728]⟩
abbrev S16640x6144 : Shape := ⟨2, ![16640, 6144]⟩
abbrev S16640x16384 : Shape := ⟨2, ![16640, 16384]⟩

abbrev nBuf : Space → Nat
  | .hbm => 62
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S2048, .f32⟩
  | .hbm, ⟨2, _⟩ => ⟨S4x8x6144, .f32⟩
  | .hbm, ⟨3, _⟩ => ⟨S4x2048x15872, .f32⟩
  | .hbm, ⟨4, _⟩ => ⟨S1x2x2048, .f32⟩
  | .hbm, ⟨5, _⟩ => ⟨S2x2048, .f32⟩
  | .hbm, ⟨6, _⟩ => ⟨S1x2x2048, .f32⟩
  | .hbm, ⟨7, _⟩ => ⟨S2x2048, .f32⟩
  | .hbm, ⟨8, _⟩ => ⟨S16640x2048, .f32⟩
  | .hbm, ⟨9, _⟩ => ⟨S_, .f32⟩
  | .hbm, ⟨10, _⟩ => ⟨S16640, .f32⟩
  | .hbm, ⟨11, _⟩ => ⟨S16640x1, .f32⟩
  | .hbm, ⟨12, _⟩ => ⟨S_, .f32⟩
  | .hbm, ⟨13, _⟩ => ⟨S16640x1, .f32⟩
  | .hbm, ⟨14, _⟩ => ⟨S16640x1, .f32⟩
  | .hbm, ⟨15, _⟩ => ⟨S_, .f32⟩
  | .hbm, ⟨16, _⟩ => ⟨S16640x1, .f32⟩
  | .hbm, ⟨17, _⟩ => ⟨S16640x1, .f32⟩
  | .hbm, ⟨18, _⟩ => ⟨S16640x1, .f32⟩
  | .hbm, ⟨19, _⟩ => ⟨S16640x2048, .f32⟩
  | .hbm, ⟨20, _⟩ => ⟨S16640x2048, .f32⟩
  | .hbm, ⟨21, _⟩ => ⟨S1x2048, .f32⟩
  | .hbm, ⟨22, _⟩ => ⟨S16640x2048, .f32⟩
  | .hbm, ⟨23, _⟩ => ⟨S16640x2048, .f32⟩
  | .hbm, ⟨24, _⟩ => ⟨S16384x2048, .f32⟩
  | .hbm, ⟨25, _⟩ => ⟨S1x2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S1x2048, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S256x2048, .f32⟩
  | .hbm, ⟨39, _⟩ => ⟨S1x2048, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S1x2048, .f32⟩
  | .hbm, ⟨45, _⟩ => ⟨S256x2048, .f32⟩
  | .hbm, ⟨46, _⟩ => ⟨S256x2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S256x2048, .f32⟩
  | .hbm, ⟨51, _⟩ => ⟨S256x2048, .f32⟩
  | .hbm, ⟨52, _⟩ => ⟨S16640x2048, .f32⟩
  | .hbm, ⟨53, _⟩ => ⟨S1x2048x15872, .f32⟩
  | .hbm, ⟨54, _⟩ => ⟨S2048x15872, .f32⟩
  | .hbm, ⟨55, _⟩ => ⟨S16640x15872, .f32⟩
  | .hbm, ⟨56, _⟩ => ⟨S_, .f32⟩
  | .hbm, ⟨57, _⟩ => ⟨S16640x512, .f32⟩
  | .hbm, ⟨58, _⟩ => ⟨S16640x9728, .f32⟩
  | .hbm, ⟨59, _⟩ => ⟨S16640x6144, .f32⟩
  | .hbm, ⟨60, _⟩ => ⟨S16640x16384, .f32⟩
  | .hbm, ⟨61, _⟩ => ⟨S16640x16384, .bf16⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel4.lean ====
abbrev S16640x1024 : Shape := ⟨2, ![16640, 1024]⟩
abbrev S8x128x16640 : Shape := ⟨3, ![8, 128, 16640]⟩
abbrev S16640x16384 : Shape := ⟨2, ![16640, 16384]⟩
abbrev S128 : Shape := ⟨1, ![128]⟩
abbrev S4x3x1024x2048 : Shape := ⟨4, ![4, 3, 1024, 2048]⟩
abbrev S4x2048x2048 : Shape := ⟨3, ![4, 2048, 2048]⟩
abbrev S16640x2048 : Shape := ⟨2, ![16640, 2048]⟩
abbrev S4x8x6144 : Shape := ⟨3, ![4, 8, 6144]⟩
abbrev S1x128 : Shape := ⟨2, ![1, 128]⟩
abbrev S256x1024 : Shape := ⟨2, ![256, 1024]⟩
abbrev S8x128x256 : Shape := ⟨3, ![8, 128, 256]⟩
abbrev S256x512 : Shape := ⟨2, ![256, 512]⟩
abbrev S256x2048 : Shape := ⟨2, ![256, 2048]⟩
abbrev S1x3x1024x2048 : Shape := ⟨4, ![1, 3, 1024, 2048]⟩
abbrev S1x2048x2048 : Shape := ⟨3, ![1, 2048, 2048]⟩
abbrev S1x8x6144 : Shape := ⟨3, ![1, 8, 6144]⟩
abbrev S1x128x256 : Shape := ⟨3, ![1, 128, 256]⟩
abbrev S128x256 : Shape := ⟨2, ![128, 256]⟩
abbrev S256x128 : Shape := ⟨2, ![256, 128]⟩
abbrev S256 : Shape := ⟨1, ![256]⟩
abbrev S256x1 : Shape := ⟨2, ![256, 1]⟩
abbrev S1x1x1024x2048 : Shape := ⟨4, ![1, 1, 1024, 2048]⟩
abbrev S1024x2048 : Shape := ⟨2, ![1024, 2048]⟩
abbrev S2048x2048 : Shape := ⟨2, ![2048, 2048]⟩
abbrev S1x1x2048 : Shape := ⟨3, ![1, 1, 2048]⟩
abbrev S1x2048 : Shape := ⟨2, ![1, 2048]⟩

abbrev nBuf : Space → Nat
  | .hbm => 11
  | .vmem => 28
  | .smem => 0
  | _ => 0

abbrev bufTy : (tb : Table) → Fin (tcTables nBuf tb) → BufTy
  | .hbm, ⟨0, _⟩ => ⟨S16640x1024, .bf16⟩
  | .hbm, ⟨1, _⟩ => ⟨S8x128x16640, .f32⟩
  | .hbm, ⟨2, _⟩ => ⟨S8x128x16640, .f32⟩
  | .hbm, ⟨3, _⟩ => ⟨S16640x16384, .bf16⟩
  | .hbm, ⟨4, _⟩ => ⟨S128, .f32⟩
  | .hbm, ⟨5, _⟩ => ⟨S4x3x1024x2048, .bf16⟩
  | .hbm, ⟨6, _⟩ => ⟨S4x2048x2048, .bf16⟩
  | .hbm, ⟨7, _⟩ => ⟨S16640x2048, .f32⟩
  | .hbm, ⟨8, _⟩ => ⟨S4x8x6144, .f32⟩
  | .hbm, ⟨9, _⟩ => ⟨S1x128, .f32⟩
  | .hbm, ⟨10, _⟩ => ⟨S16640x2048, .f32⟩
  | .local _ .vmem, ⟨0, _⟩ => ⟨S256x1024, .bf16⟩
  | .local _ .vmem, ⟨1, _⟩ => ⟨S256x1024, .bf16⟩
  | .local _ .vmem, ⟨2, _⟩ => ⟨S8x128x256, .f32⟩
  | .local _ .vmem, ⟨3, _⟩ => ⟨S8x128x256, .f32⟩
  | .local _ .vmem, ⟨4, _⟩ => ⟨S8x128x256, .f32⟩
  | .local _ .vmem, ⟨5, _⟩ => ⟨S8x128x256, .f32⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1x128, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S1x3x1024x2048, .bf16⟩
  | .local _ .vmem, ⟨20, _⟩ => ⟨S1x2048x2048, .bf16⟩
  | .local _ .vmem, ⟨21, _⟩ => ⟨S256x2048, .f32⟩
  | .local _ .vmem, ⟨22, _⟩ => ⟨S256x2048, .f32⟩
  | .local _ .vmem, ⟨23, _⟩ => ⟨S1x8x6144, .f32⟩
  | .local _ .vmem, ⟨24, _⟩ => ⟨S256x2048, .f32⟩
  | .local _ .vmem, ⟨25, _⟩ => ⟨S256x2048, .f32⟩
  | .local _ .vmem, ⟨26, _⟩ => ⟨S256x1024, .bf16⟩
  | .local _ .vmem, ⟨27, _⟩ => ⟨S256x1024, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_5 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3x1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x8x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16640x1024 : Shape := ⟨2, ![16640, 1024]⟩
abbrev S8x128x16640 : Shape := ⟨3, ![8, 128, 16640]⟩
abbrev S16640x16384 : Shape := ⟨2, ![16640, 16384]⟩
abbrev S128 : Shape := ⟨1, ![128]⟩
abbrev S4x3x1024x2048 : Shape := ⟨4, ![4, 3, 1024, 2048]⟩
abbrev S4x2048x2048 : Shape := ⟨3, ![4, 2048, 2048]⟩
abbrev S16640x2048 : Shape := ⟨2, ![16640, 2048]⟩
abbrev S4x8x6144 : Shape := ⟨3, ![4, 8, 6144]⟩
abbrev S1x3x1024x2048 : Shape := ⟨4, ![1, 3, 1024, 2048]⟩
abbrev S3x1024x2048 : Shape := ⟨3, ![3, 1024, 2048]⟩
abbrev S1x2048x2048 : Shape := ⟨3, ![1, 2048, 2048]⟩
abbrev S2048x2048 : Shape := ⟨2, ![2048, 2048]⟩
abbrev S16640x8x128 : Shape := ⟨3, ![16640, 8, 128]⟩
abbrev S_ : Shape := ⟨0, ![]⟩
abbrev S16640x8 : Shape := ⟨2, ![16640, 8]⟩
abbrev S16640x8x1 : Shape := ⟨3, ![16640, 8, 1]⟩
abbrev S1x1x128 : Shape := ⟨3, ![1, 1, 128]⟩
abbrev S16640x6144 : Shape := ⟨2, ![16640, 6144]⟩
abbrev S1x1024x2048 : Shape := ⟨3, ![1, 1024, 2048]⟩
abbrev S1024x2048 : Shape := ⟨2, ![1024, 2048]⟩
abbrev S1x2x2048 : Shape := ⟨3, ![1, 2, 2048]⟩
abbrev S2x2048 : Shape := ⟨2, ![2, 2048]⟩
abbrev S16384x2048 : Shape := ⟨2, ![16384, 2048]⟩
abbrev S1x2048 : Shape := ⟨2, ![1, 2048]⟩
abbrev S2048 : Shape := ⟨1, ![2048]⟩
abbrev S256x2048 : Shape := ⟨2, ![256, 2048]⟩

abbrev nBuf : Space → Nat
  | .hbm => 108
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S8x128x16640, .f32⟩
  | .hbm, ⟨2, _⟩ => ⟨S8x128x16640, .f32⟩
  | .hbm, ⟨3, _⟩ => ⟨S16640x16384, .bf16⟩
  | .hbm, ⟨4, _⟩ => ⟨S128, .f32⟩
  | .hbm, ⟨5, _⟩ => ⟨S4x3x1024x2048, .bf16⟩
  | .hbm, ⟨6, _⟩ => ⟨S4x2048x2048, .bf16⟩
  | .hbm, ⟨7, _⟩ => ⟨S16640x2048, .f32⟩
  | .hbm, ⟨8, _⟩ => ⟨S4x8x6144, .f32⟩
  | .hbm, ⟨9, _⟩ => ⟨S16640x16384, .f32⟩
  | .hbm, ⟨10, _⟩ => ⟨S4x3x1024x2048, .f32⟩
  | .hbm, ⟨11, _⟩ => ⟨S1x3x1024x2048, .f32⟩
  | .hbm, ⟨12, _⟩ => ⟨S3x1024x2048, .f32⟩
  | .hbm, ⟨13, _⟩ => ⟨S4x2048x2048, .f32⟩
  | .hbm, ⟨14, _⟩ => ⟨S1x2048x2048, .f32⟩
  | .hbm, ⟨15, _⟩ => ⟨S2048x2048, .f32⟩
  | .hbm, ⟨16, _⟩ => ⟨S16640x8x128, .f32⟩
  | .hbm, ⟨17, _⟩ => ⟨S16640x8x128, .f32⟩
  | .hbm, ⟨18, _⟩ => ⟨S_, .f32⟩
  | .hbm, ⟨19, _⟩ => ⟨S16640x8, .f32⟩
  | .hbm, ⟨20, _⟩ => ⟨S16640x8x1, .f32⟩
  | .hbm, ⟨21, _⟩ => ⟨S_, .f32⟩
  | .hbm, ⟨22, _⟩ => ⟨S16640x8x1, .f32⟩
  | .hbm, ⟨23, _⟩ => ⟨S16640x8x1, .f32⟩
  | .hbm, ⟨24, _⟩ => ⟨S_, .f32⟩
  | .hbm, ⟨25, _⟩ => ⟨S16640x8x1, .f32⟩
  | .hbm, ⟨26, _⟩ => ⟨S16640x8x1, .f32⟩
  | .hbm, ⟨27, _⟩ => ⟨S16640x8x1, .f32⟩
  | .hbm, ⟨28, _⟩ => ⟨S16640x8x128, .f32⟩
  | .hbm, ⟨29, _⟩ => ⟨S16640x8x128, .f32⟩
  | .hbm, ⟨30, _⟩ => ⟨S1x1x128, .f32⟩
  | .hbm, ⟨31, _⟩ => ⟨S16640x8x128, .f32⟩
  | .hbm, ⟨32, _⟩ => ⟨S16640x8x128, .f32⟩
  | .hbm, ⟨33, _⟩ => ⟨S_, .f32⟩
  | .hbm, ⟨34, _⟩ => ⟨S16640x8x128, .f32⟩
  | .hbm, ⟨35, _⟩ => ⟨S16640x8x128, .f32⟩
  | .hbm, ⟨36, _⟩ => ⟨S16640x1024, .f32⟩
  | .hbm, ⟨37, _⟩ => ⟨S16640x1024, .f32⟩
  | .hbm, ⟨38, _⟩ => ⟨S16640x1024, .f32⟩
  | .hbm, ⟨39, _⟩ => ⟨S16640x1024, .f32⟩
  | .hbm, ⟨40, _⟩ => ⟨S_, .f32⟩
  | .hbm, ⟨41, _⟩ => ⟨S16640x1024, .f32⟩
  | .hbm, ⟨42, _⟩ => ⟨S16640x1024, .f32⟩
  | .hbm, ⟨43, _⟩ => ⟨S_, .f32⟩
  | .hbm, ⟨44, _⟩ => ⟨S16640x1024, .f32⟩
  | .hbm, ⟨45, _⟩ => ⟨S16640x1024, .f32⟩
  | .hbm, ⟨46, _⟩ => ⟨S16640x1024, .f32⟩
  | .hbm, ⟨47, _⟩ => ⟨S16640x1024, .f32⟩
  | .hbm, ⟨48, _⟩ => ⟨S16640x8x128, .f32⟩
  | .hbm, ⟨49, _⟩ => ⟨S16640x1024, .f32⟩
  | .hbm, ⟨50, _⟩ => ⟨S16640x1024, .f32⟩
  | .hbm, ⟨51, _⟩ => ⟨S16640x1024, .f32⟩
  | .hbm, ⟨52, _⟩ => ⟨S16640x1024, .f32⟩
  | .hbm, ⟨53, _⟩ => ⟨S_, .f32⟩
  | .hbm, ⟨54, _⟩ => ⟨S16640x1024, .f32⟩
  | .hbm, ⟨55, _⟩ => ⟨S16640x1024, .f32⟩
  | .hbm, ⟨56, _⟩ => ⟨S_, .f32⟩
  | .hbm, ⟨57, _⟩ => ⟨S16640x1024, .f32⟩
  | .hbm, ⟨58, _⟩ => ⟨S16640x1024, .f32⟩
  | .hbm, ⟨59, _⟩ => ⟨S16640x1024, .f32⟩
  | .hbm, ⟨60, _⟩ => ⟨S16640x1024, .f32⟩
  | .hbm, ⟨61, _⟩ => ⟨S16640x6144, .f32⟩
  | .hbm, ⟨62, _⟩ => ⟨S16640x6144, .f32⟩
  | .hbm, ⟨63, _⟩ => ⟨S16640x6144, .f32⟩
  | .hbm, ⟨64, _⟩ => ⟨S_, .f32⟩
  | .hbm, ⟨65, _⟩ => ⟨S16640x6144, .f32⟩
  | .hbm, ⟨66, _⟩ => ⟨S16640x6144, .f32⟩
  | .hbm, ⟨67, _⟩ => ⟨S_, .f32⟩
  | .hbm, ⟨68, _⟩ => ⟨S16640x6144, .f32⟩
  | .hbm, ⟨69, _⟩ => ⟨S16640x6144, .f32⟩
  | .hbm, ⟨70, _⟩ => ⟨S16640x2048, .f32⟩
  | .hbm, ⟨71, _⟩ => ⟨S16640x1024, .f32⟩
  | .hbm, ⟨72, _⟩ => ⟨S1x1024x2048, .f32⟩
  | .hbm, ⟨73, _⟩ => ⟨S1024x2048, .f32⟩
  | .hbm, ⟨74, _⟩ => ⟨S16640x2048, .f32⟩
  | .hbm, ⟨75, _⟩ => ⟨S16640x2048, .f32⟩
  | .hbm, ⟨76, _⟩ => ⟨S16640x2048, .f32⟩
  | .hbm, ⟨77, _⟩ => ⟨S1x1024x2048, .f32⟩
  | .hbm, ⟨78, _⟩ => ⟨S1024x2048, .f32⟩
  | .hbm, ⟨79, _⟩ => ⟨S16640x2048, .f32⟩
  | .hbm, ⟨80, _⟩ => ⟨S16640x2048, .f32⟩
  | .hbm, ⟨81, _⟩ => ⟨S16640x2048, .f32⟩
  | .hbm, ⟨82, _⟩ => ⟨S16640x2048, .f32⟩
  | .hbm, ⟨83, _⟩ => ⟨S1x1024x2048, .f32⟩
  | .hbm, ⟨84, _⟩ => ⟨S1024x2048, .f32⟩
  | .hbm, ⟨85, _⟩ => ⟨S16640x2048, .f32⟩
  | .hbm, ⟨86, _⟩ => ⟨S16640x2048, .f32⟩
  | .hbm, ⟨87, _⟩ => ⟨S16640x2048, .f32⟩
  | .hbm, ⟨88, _⟩ => ⟨S16640x2048, .f32⟩
  | .hbm, ⟨89, _⟩ => ⟨S1x2x2048, .f32⟩
  | .hbm, ⟨90, _⟩ => ⟨S2x2048, .f32⟩
  | .hbm, ⟨91, _⟩ => ⟨S16384x2048, .f32⟩
  | .hbm, ⟨92, _⟩ => ⟨S1x2048, .f32⟩
  | .hbm, ⟨93, _⟩ => ⟨S2048, .f32⟩
  | .hbm, ⟨94, _⟩ => ⟨S16384x2048, .f32⟩
  | .hbm, ⟨95, _⟩ => ⟨S1x2048, .f32⟩
  | .hbm, ⟨96, _⟩ => ⟨S16384x2048, .f32⟩
  | .hbm, ⟨97, _⟩ => ⟨S16384x2048, .f32⟩
  | .hbm, ⟨98, _⟩ => ⟨S16384x2048, .f32⟩
  | .hbm, ⟨99, _⟩ => ⟨S256x2048, .f32⟩
  | .hbm, ⟨100, _⟩ => ⟨S1x2048, .f32⟩
  | .hbm, ⟨101, _⟩ => ⟨S2048, .f32⟩
  | .hbm, ⟨102, _⟩ => ⟨S256x2048, .f32⟩
  | .hbm, ⟨103, _⟩ => ⟨S1x2048, .f32⟩
  | .hbm, ⟨104, _⟩ => ⟨S256x2048, .f32⟩
  | .hbm, ⟨105, _⟩ => ⟨S256x2048, .f32⟩
  | .hbm, ⟨106, _⟩ => ⟨S256x2048, .f32⟩
  | .hbm, ⟨107, _⟩ => ⟨S16640x2048, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_3 : Ref sig .tc := ⟨.hbm, 64, rfl⟩
abbrev main_v35 : Ref sig .tc := ⟨.hbm, 65, rfl⟩
abbrev main_v36 : Ref sig .tc := ⟨.hbm, 66, rfl⟩
abbrev main_cst_4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== Kernel5.lean ====
abbrev S16640x1024 : Shape := ⟨2, ![16640, 1024]⟩
abbrev S8x128x16640 : Shape := ⟨3, ![8, 128, 16640]⟩
abbrev S16640x16384 : Shape := ⟨2, ![16640, 16384]⟩
abbrev S128 : Shape := ⟨1, ![128]⟩
abbrev S4x3x1024x2048 : Shape := ⟨4, ![4, 3, 1024, 2048]⟩
abbrev S4x2048x2048 : Shape := ⟨3, ![4, 2048, 2048]⟩
abbrev S16640x2048 : Shape := ⟨2, ![16640, 2048]⟩
abbrev S4x8x6144 : Shape := ⟨3, ![4, 8, 6144]⟩
abbrev S2048 : Shape := ⟨1, ![2048]⟩
abbrev S1x128 : Shape := ⟨2, ![1, 128]⟩
abbrev S1x2048 : Shape := ⟨2, ![1, 2048]⟩
abbrev S16384x2048 : Shape := ⟨2, ![16384, 2048]⟩
abbrev S256x1024 : Shape := ⟨2, ![256, 1024]⟩
abbrev S8x128x256 : Shape := ⟨3, ![8, 128, 256]⟩
abbrev S256x512 : Shape := ⟨2, ![256, 512]⟩
abbrev S256x2048 : Shape := ⟨2, ![256, 2048]⟩
abbrev S1x3x1024x2048 : Shape := ⟨4, ![1, 3, 1024, 2048]⟩
abbrev S1x2048x2048 : Shape := ⟨3, ![1, 2048, 2048]⟩
abbrev S1x8x6144 : Shape := ⟨3, ![1, 8, 6144]⟩
abbrev S1x128x256 : Shape := ⟨3, ![1, 128, 256]⟩
abbrev S128x256 : Shape := ⟨2, ![128, 256]⟩
abbrev S256x128 : Shape := ⟨2, ![256, 128]⟩
abbrev S256 : Shape := ⟨1, ![256]⟩
abbrev S256x1 : Shape := ⟨2, ![256, 1]⟩
abbrev S1x1x1024x2048 : Shape := ⟨4, ![1, 1, 1024, 2048]⟩
abbrev S1024x2048 : Shape := ⟨2, ![1024, 2048]⟩
abbrev S2048x2048 : Shape := ⟨2, ![2048, 2048]⟩
abbrev S1x1x2048 : Shape := ⟨3, ![1, 1, 2048]⟩

abbrev nBuf : Space → Nat
  | .hbm => 13
  | .vmem => 29
  | .smem => 0
  | _ => 0

abbrev bufTy : (tb : Table) → Fin (tcTables nBuf tb) → BufTy
  | .hbm, ⟨0, _⟩ => ⟨S16640x1024, .bf16⟩
  | .hbm, ⟨1, _⟩ => ⟨S8x128x16640, .f32⟩
  | .hbm, ⟨2, _⟩ => ⟨S8x128x16640, .f32⟩
  | .hbm, ⟨3, _⟩ => ⟨S16640x16384, .bf16⟩
  | .hbm, ⟨4, _⟩ => ⟨S128, .f32⟩
  | .hbm, ⟨5, _⟩ => ⟨S4x3x1024x2048, .bf16⟩
  | .hbm, ⟨6, _⟩ => ⟨S4x2048x2048, .bf16⟩
  | .hbm, ⟨7, _⟩ => ⟨S16640x2048, .f32⟩
  | .hbm, ⟨8, _⟩ => ⟨S4x8x6144, .f32⟩
  | .hbm, ⟨9, _⟩ => ⟨S2048, .f32⟩
  | .hbm, ⟨10, _⟩ => ⟨S1x128, .f32⟩
  | .hbm, ⟨11, _⟩ => ⟨S1x2048, .f32⟩
  | .hbm, ⟨12, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S8x128x256, .f32⟩
  | .local _ .vmem, ⟨3, _⟩ => ⟨S8x128x256, .f32⟩
  | .local _ .vmem, ⟨4, _⟩ => ⟨S8x128x256, .f32⟩
  | .local _ .vmem, ⟨5, _⟩ => ⟨S8x128x256, .f32⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1x128, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S1x3x1024x2048, .bf16⟩
  | .local _ .vmem, ⟨20, _⟩ => ⟨S1x2048x2048, .bf16⟩
  | .local _ .vmem, ⟨21, _⟩ => ⟨S256x2048, .f32⟩
  | .local _ .vmem, ⟨22, _⟩ => ⟨S256x2048, .f32⟩
  | .local _ .vmem, ⟨23, _⟩ => ⟨S1x8x6144, .f32⟩
  | .local _ .vmem, ⟨24, _⟩ => ⟨S1x2048, .f32⟩
  | .local _ .vmem, ⟨25, _⟩ => ⟨S256x2048, .f32⟩
  | .local _ .vmem, ⟨26, _⟩ => ⟨S256x2048, .f32⟩
  | .local _ .vmem, ⟨27, _⟩ => ⟨S256x1024, .bf16⟩
  | .local _ .vmem, ⟨28, _⟩ => ⟨S256x1024, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_5 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_10 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3x1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x8x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S16640x1024 : Shape := ⟨2, ![16640, 1024]⟩
abbrev S8x128x16640 : Shape := ⟨3, ![8, 128, 16640]⟩
abbrev S16640x16384 : Shape := ⟨2, ![16640, 16384]⟩
abbrev S128 : Shape := ⟨1, ![128]⟩
abbrev S4x3x1024x2048 : Shape := ⟨4, ![4, 3, 1024, 2048]⟩
abbrev S4x2048x2048 : Shape := ⟨3, ![4, 2048, 2048]⟩
abbrev S16640x2048 : Shape := ⟨2, ![16640, 2048]⟩
abbrev S4x8x6144 : Shape := ⟨3, ![4, 8, 6144]⟩
abbrev S2048 : Shape := ⟨1, ![2048]⟩
abbrev S16384x16384 : Shape := ⟨2, ![16384, 16384]⟩
abbrev S1x3x1024x2048 : Shape := ⟨4, ![1, 3, 1024, 2048]⟩
abbrev S3x1024x2048 : Shape := ⟨3, ![3, 1024, 2048]⟩
abbrev S1x2048x2048 : Shape := ⟨3, ![1, 2048, 2048]⟩
abbrev S2048x2048 : Shape := ⟨2, ![2048, 2048]⟩
abbrev S8x128x16384 : Shape := ⟨3, ![8, 128, 16384]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S16384x1024 : Shape := ⟨2, ![16384, 1024]⟩
abbrev S16384x6144 : Shape := ⟨2, ![16384, 6144]⟩
abbrev S16384x2048 : Shape := ⟨2, ![16384, 2048]⟩
abbrev S1x1024x2048 : Shape := ⟨3, ![1, 1024, 2048]⟩
abbrev S1024x2048 : Shape := ⟨2, ![1024, 2048]⟩
abbrev S1x1x2048 : Shape := ⟨3, ![1, 1, 2048]⟩
abbrev S1x2048 : Shape := ⟨2, ![1, 2048]⟩
abbrev S16384 : Shape := ⟨1, ![16384]⟩
abbrev S16384x1 : Shape := ⟨2, ![16384, 1]⟩

abbrev nBuf : Space → Nat
  | .hbm => 117
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S8x128x16640, .f32⟩
  | .hbm, ⟨2, _⟩ => ⟨S8x128x16640, .f32⟩
  | .hbm, ⟨3, _⟩ => ⟨S16640x16384, .bf16⟩
  | .hbm, ⟨4, _⟩ => ⟨S128, .f32⟩
  | .hbm, ⟨5, _⟩ => ⟨S4x3x1024x2048, .bf16⟩
  | .hbm, ⟨6, _⟩ => ⟨S4x2048x2048, .bf16⟩
  | .hbm, ⟨7, _⟩ => ⟨S16640x2048, .f32⟩
  | .hbm, ⟨8, _⟩ => ⟨S4x8x6144, .f32⟩
  | .hbm, ⟨9, _⟩ => ⟨S2048, .f32⟩
  | .hbm, ⟨10, _⟩ => ⟨S16640x16384, .f32⟩
  | .hbm, ⟨11, _⟩ => ⟨S16384x16384, .f32⟩
  | .hbm, ⟨12, _⟩ => ⟨S4x3x1024x2048, .f32⟩
  | .hbm, ⟨13, _⟩ => ⟨S1x3x1024x2048, .f32⟩
  | .hbm, ⟨14, _⟩ => ⟨S3x1024x2048, .f32⟩
  | .hbm, ⟨15, _⟩ => ⟨S4x2048x2048, .f32⟩
  | .hbm, ⟨16, _⟩ => ⟨S1x2048x2048, .f32⟩
  | .hbm, ⟨17, _⟩ => ⟨S2048x2048, .f32⟩
  | .hbm, ⟨18, _⟩ => ⟨S8x128x16384, .f32⟩
  | .hbm, ⟨19, _⟩ => ⟨S16384x8x128, .f32⟩
  | .hbm, ⟨20, _⟩ => ⟨S16384x8x128, .f32⟩
  | .hbm, ⟨21, _⟩ => ⟨S_, .f32⟩
  | .hbm, ⟨22, _⟩ => ⟨S16384x8, .f32⟩
  | .hbm, ⟨23, _⟩ => ⟨S16384x8x1, .f32⟩
  | .hbm, ⟨24, _⟩ => ⟨S_, .f32⟩
  | .hbm, ⟨25, _⟩ => ⟨S16384x8x1, .f32⟩
  | .hbm, ⟨26, _⟩ => ⟨S16384x8x1, .f32⟩
  | .hbm, ⟨27, _⟩ => ⟨S_, .f32⟩
  | .hbm, ⟨28, _⟩ => ⟨S16384x8x1, .f32⟩
  | .hbm, ⟨29, _⟩ => ⟨S16384x8x1, .f32⟩
  | .hbm, ⟨30, _⟩ => ⟨S16384x8x1, .f32⟩
  | .hbm, ⟨31, _⟩ => ⟨S16384x8x128, .f32⟩
  | .hbm, ⟨32, _⟩ => ⟨S16384x8x128, .f32⟩
  | .hbm, ⟨33, _⟩ => ⟨S1x1x128, .f32⟩
  | .hbm, ⟨34, _⟩ => ⟨S16384x8x128, .f32⟩
  | .hbm, ⟨35, _⟩ => ⟨S16384x8x128, .f32⟩
  | .hbm, ⟨36, _⟩ => ⟨S_, .f32⟩
  | .hbm, ⟨37, _⟩ => ⟨S16384x8x128, .f32⟩
  | .hbm, ⟨38, _⟩ => ⟨S16384x8x128, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S8x128x16384, .f32⟩
  | .hbm, ⟨52, _⟩ => ⟨S16384x8x128, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x6144, .f32⟩
  | .hbm, ⟨66, _⟩ => ⟨S16384x6144, .f32⟩
  | .hbm, ⟨67, _⟩ => ⟨S16384x6144, .f32⟩
  | .hbm, ⟨68, _⟩ => ⟨S_, .f32⟩
  | .hbm, ⟨69, _⟩ => ⟨S16384x6144, .f32⟩
  | .hbm, ⟨70, _⟩ => ⟨S16384x6144, .f32⟩
  | .hbm, ⟨71, _⟩ => ⟨S_, .f32⟩
  | .hbm, ⟨72, _⟩ => ⟨S16384x6144, .f32⟩
  | .hbm, ⟨73, _⟩ => ⟨S16384x6144, .f32⟩
  | .hbm, ⟨74, _⟩ => ⟨S16384x2048, .f32⟩
  | .hbm, ⟨75, _⟩ => ⟨S16640x1024, .f32⟩
  | .hbm, ⟨76, _⟩ => ⟨S16384x1024, .f32⟩
  | .hbm, ⟨77, _⟩ => ⟨S1x1024x2048, .f32⟩
  | .hbm, ⟨78, _⟩ => ⟨S1024x2048, .f32⟩
  | .hbm, ⟨79, _⟩ => ⟨S16384x2048, .f32⟩
  | .hbm, ⟨80, _⟩ => ⟨S16384x2048, .f32⟩
  | .hbm, ⟨81, _⟩ => ⟨S16384x2048, .f32⟩
  | .hbm, ⟨82, _⟩ => ⟨S1x1024x2048, .f32⟩
  | .hbm, ⟨83, _⟩ => ⟨S1024x2048, .f32⟩
  | .hbm, ⟨84, _⟩ => ⟨S16384x2048, .f32⟩
  | .hbm, ⟨85, _⟩ => ⟨S16384x2048, .f32⟩
  | .hbm, ⟨86, _⟩ => ⟨S16384x2048, .f32⟩
  | .hbm, ⟨87, _⟩ => ⟨S16384x2048, .f32⟩
  | .hbm, ⟨88, _⟩ => ⟨S1x1024x2048, .f32⟩
  | .hbm, ⟨89, _⟩ => ⟨S1024x2048, .f32⟩
  | .hbm, ⟨90, _⟩ => ⟨S16384x2048, .f32⟩
  | .hbm, ⟨91, _⟩ => ⟨S16384x2048, .f32⟩
  | .hbm, ⟨92, _⟩ => ⟨S16384x2048, .f32⟩
  | .hbm, ⟨93, _⟩ => ⟨S16384x2048, .f32⟩
  | .hbm, ⟨94, _⟩ => ⟨S1x1x2048, .f32⟩
  | .hbm, ⟨95, _⟩ => ⟨S2048, .f32⟩
  | .hbm, ⟨96, _⟩ => ⟨S16384x2048, .f32⟩
  | .hbm, ⟨97, _⟩ => ⟨S1x2048, .f32⟩
  | .hbm, ⟨98, _⟩ => ⟨S16384x2048, .f32⟩
  | .hbm, ⟨99, _⟩ => ⟨S16384x2048, .f32⟩
  | .hbm, ⟨100, _⟩ => ⟨S16384x2048, .f32⟩
  | .hbm, ⟨101, _⟩ => ⟨S16384x2048, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S16384x2048, .f32⟩
  | .hbm, ⟨113, _⟩ => ⟨S16384x2048, .f32⟩
  | .hbm, ⟨114, _⟩ => ⟨S1x2048, .f32⟩
  | .hbm, ⟨115, _⟩ => ⟨S16384x2048, .f32⟩
  | .hbm, ⟨116, _⟩ => ⟨S16384x2048, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_3 : Ref sig .tc := ⟨.hbm, 68, rfl⟩
abbrev main_v38 : Ref sig .tc := ⟨.hbm, 69, rfl⟩
abbrev main_v39 : Ref sig .tc := ⟨.hbm, 70, rfl⟩
abbrev main_cst_4 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_5 : Ref sig .tc := ⟨.hbm, 102, rfl⟩
abbrev main_v70 : Ref sig .tc := ⟨.hbm, 103, rfl⟩
abbrev main_v71 : Ref sig .tc := ⟨.hbm, 104, rfl⟩
abbrev main_cst_6 : Ref sig .tc := ⟨.hbm, 105, rfl⟩
abbrev main_v72 : Ref sig .tc := ⟨.hbm, 106, rfl⟩
abbrev main_v73 : Ref sig .tc := ⟨.hbm, 107, rfl⟩
abbrev main_cst_7 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]
-- ==== Proof.BodyIdeal.lean ====
/-
  The kernel's body run once per case at symbolic operands: on a block of latent queries (every chunk of keys) and on
  the block of context queries (the context keys alone). What each run leaves in the buffers it writes is the run's
  own find, as lists of pieces.
-/
module

public import proofs.«01_k».proof.Proof.Gen.KernelIdeal.Frame
public import proofs.«01_k».proof.Proof.Gen.KernelIdeal.Loops

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body holds: the blocks it reads, the block it writes and its four scratch buffers. -/
abbrev Held (c : Dev nD) (arg3 : Memref sig .tc .vmem S1x1x128x512 .bf16) (arg4 : Memref sig .tc .vmem S16640x128 .bf16) (arg5 : Memref sig .tc .vmem S1x65x144x256 .bf16) (arg6 : Memref sig .tc .vmem S2x128x256 .f32) (arg7 : Memref sig .tc .vmem S1x512 .f32) (arg8 : Memref sig .tc .vmem S144x512 .f32) (arg9 : Memref sig .tc .vmem S4x512x512 .f32) (arg10 : Memref sig .tc .vmem S256x512 .f32) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) : sProp 𝕄 :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10))

/-- What the body hands back: the blocks it read, the block it wrote, and its scratch buffers at some contents. -/
abbrev Left (c : Dev nD) (arg3 : Memref sig .tc .vmem S1x1x128x512 .bf16) (arg4 : Memref sig .tc .vmem S16640x128 .bf16) (arg5 : Memref sig .tc .vmem S1x65x144x256 .bf16) (arg6 : Memref sig .tc .vmem S2x128x256 .f32) (arg7 : Memref sig .tc .vmem S1x512 .f32) (arg8 : Memref sig .tc .vmem S144x512 .f32) (arg9 : Memref sig .tc .vmem S4x512x512 .f32) (arg10 : Memref sig .tc .vmem S256x512 .f32) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) : sProp 𝕄 :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (∃ f : BufTy.Contents (Elt F) arg7.view.ty, arg7.view.loc (c : Thread nD τ) ↦[arg7.view.set]{fullShare} f) ∗ (∃ f : BufTy.Contents (Elt F) arg8.view.ty, arg8.view.loc (c : Thread nD τ) ↦[arg8.view.set]{fullShare} f) ∗ (∃ f : BufTy.Contents (Elt F) arg9.view.ty, arg9.view.loc (c : Thread nD τ) ↦[arg9.view.set]{fullShare} f) ∗ (∃ f : BufTy.Contents (Elt F) arg10.view.ty, arg10.view.loc (c : Thread nD τ) ↦[arg10.view.set]{fullShare} f))

/-- The body on the block of context queries. -/
@[irreducible] def runContext (c : Dev nD) (i : grid0.Coords) (arg3 : Memref sig .tc .vmem S1x1x128x512 .bf16) (harg3 : arg3.IsWhole) (arg4 : Memref sig .tc .vmem S16640x128 .bf16) (harg4 : arg4.IsWhole) (arg5 : Memref sig .tc .vmem S1x65x144x256 .bf16) (harg5 : arg5.IsWhole) (arg6 : Memref sig .tc .vmem S2x128x256 .f32) (harg6 : arg6.IsWhole) (arg7 : Memref sig .tc .vmem S1x512 .f32) (harg7 : arg7.IsWhole) (arg8 : Memref sig .tc .vmem S144x512 .f32) (harg8 : arg8.IsWhole) (arg9 : Memref sig .tc .vmem S4x512x512 .f32) (harg9 : arg9.IsWhole) (arg10 : Memref sig .tc .vmem S256x512 .f32) (harg10 : arg10.IsWhole)
    (h1 : Scalar.cmpi .ne (Scalar.extui (Scalar.xori (Scalar.cmpi .slt (BitVec.ofNat 32 (i 2).val) 64#32) 1#1) : BitVec 32) 0#32 = 1#1) (h2 : k0_cond2 i ≠ 1#1) (X_arg3 : BufTy.Contents (Elt F) arg3.view.ty) (X_arg4 : BufTy.Contents (Elt F) arg4.view.ty) (X_arg5 : BufTy.Contents (Elt F) arg5.view.ty) :
    { L_arg6 : BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S2x128x256 .f32) // ∀ (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty),
      Held (F := F) c arg3 arg4 arg5 arg6 arg7 arg8 arg9 arg10 X_arg3 X_arg4 X_arg5 f_arg6 f_arg7 f_arg8 f_arg9 f_arg10
      ⊢ wp frame (wpE (defs₀ (F := F)) Variants.none (c : Thread nD τ) none) Set.univ (cc0_gqa_attn (F := F) i arg3 harg3 arg4 harg4 arg5 harg5 arg6 harg6 arg7 harg7 arg8 harg8 arg9 harg9 arg10 harg10)
          (fun _ => Left (F := F) c arg3 arg4 arg5 arg6 arg7 arg8 arg9 arg10 X_arg3 X_arg4 X_arg5 (arg6.view.writes (Elt F) f_arg6 (L_arg6 f_arg6 f_arg7 f_arg8 f_arg9 f_arg10))) } := by
  refine ⟨?_, fun f_arg6 f_arg7 f_arg8 f_arg9 f_arg10 => ?run⟩
  case run =>
    simp only [cc0_gqa_attn_eq_skeleton]
    unfold cc0_gqa_attn_skel
    iintro ⟨HR_arg3, HR_arg4, HR_arg5, HW_arg6, HW_arg7, HW_arg8, HW_arg9, HW_arg10⟩
    sl_exec
    sl_step
    sl_close

/-- The body on a block of latent queries. -/
@[irreducible] def runLatent (c : Dev nD) (i : grid0.Coords) (arg3 : Memref sig .tc .vmem S1x1x128x512 .bf16) (harg3 : arg3.IsWhole) (arg4 : Memref sig .tc .vmem S16640x128 .bf16) (harg4 : arg4.IsWhole) (arg5 : Memref sig .tc .vmem S1x65x144x256 .bf16) (harg5 : arg5.IsWhole) (arg6 : Memref sig .tc .vmem S2x128x256 .f32) (harg6 : arg6.IsWhole) (arg7 : Memref sig .tc .vmem S1x512 .f32) (harg7 : arg7.IsWhole) (arg8 : Memref sig .tc .vmem S144x512 .f32) (harg8 : arg8.IsWhole) (arg9 : Memref sig .tc .vmem S4x512x512 .f32) (harg9 : arg9.IsWhole) (arg10 : Memref sig .tc .vmem S256x512 .f32) (harg10 : arg10.IsWhole)
    (h1 : Scalar.cmpi .ne (Scalar.extui (Scalar.xori (Scalar.cmpi .slt (BitVec.ofNat 32 (i 2).val) 64#32) 1#1) : BitVec 32) 0#32 ≠ 1#1) (h2 : k0_cond2 i = 1#1) (X_arg3 : BufTy.Contents (Elt F) arg3.view.ty) (X_arg4 : BufTy.Contents (Elt F) arg4.view.ty) (X_arg5 : BufTy.Contents (Elt F) arg5.view.ty) :
    { L_arg6 : BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S2x128x256 .f32) // ∀ (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty),
      Held (F := F) c arg3 arg4 arg5 arg6 arg7 arg8 arg9 arg10 X_arg3 X_arg4 X_arg5 f_arg6 f_arg7 f_arg8 f_arg9 f_arg10
      ⊢ wp frame (wpE (defs₀ (F := F)) Variants.none (c : Thread nD τ) none) Set.univ (cc0_gqa_attn (F := F) i arg3 harg3 arg4 harg4 arg5 harg5 arg6 harg6 arg7 harg7 arg8 harg8 arg9 harg9 arg10 harg10)
          (fun _ => Left (F := F) c arg3 arg4 arg5 arg6 arg7 arg8 arg9 arg10 X_arg3 X_arg4 X_arg5 (arg6.view.writes (Elt F) f_arg6 (L_arg6 f_arg6 f_arg7 f_arg8 f_arg9 f_arg10))) } := by
  refine ⟨?_, fun f_arg6 f_arg7 f_arg8 f_arg9 f_arg10 => ?run⟩
  case run =>
    simp only [cc0_gqa_attn_eq_skeleton]
    unfold cc0_gqa_attn_skel
    iintro ⟨HR_arg3, HR_arg4, HR_arg5, HW_arg6, HW_arg7, HW_arg8, HW_arg9, HW_arg10⟩
    sl_exec
    sl_step
    sl_close

end Cert.KernelIdeal.Body

end
-- ==== Proof.ChainIdeal.lean ====
/-
  The chain of updates that one chunk of keys after another makes to the running maxima and the running sums, over the
  words the body computes them with, and what the loop's one trip leaves behind in those terms.
-/
module

public import proofs.«01_k».proof.Proof.Gen.KernelIdeal.Frame
public import proofs.«01_k».proof.Proof.Gen.KernelIdeal.Loops
public import Idealize.ShloMosaic.Lib.Pipeline.ReadBack

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- The running maxima and the running sums of the 512 query columns. -/
abbrev Running (F : FTy → Type) [FloatOps F] : Type := Vec F S1x512 .f32 × Vec F S144x512 .f32

/-- One chunk's update of the running maxima and sums, from the queries, the chunk's keys and its two slabs of values. -/
def chunk (Q : Vec F S1x1x128x512 .bf16) (K : ℕ → Vec F S512x128 .bf16) (V : ℕ → Vec F S1x1x144x256 .bf16) (t : ℕ)
    (s : Running F) : Running F :=
  (k0_pay13 (k0_pay4 (K t) Q) s.1, k0_pay12 (k0_pay4 (K t) Q) (k0_pay3 (K t) Q) s.1 (V (2 * t)) (V (2 * t + 1)) s.2)

/-- The first `t` chunks' updates in turn. -/
def chunks (Q : Vec F S1x1x128x512 .bf16) (K : ℕ → Vec F S512x128 .bf16) (V : ℕ → Vec F S1x1x144x256 .bf16)
    (s : Running F) : ℕ → Running F
  | 0 => s
  | t + 1 => chunk Q K V t (chunks Q K V s t)

/-- Chunk `t` of the keys: 512 rows. -/
def keyRows (arg4 : Memref sig .tc .vmem S16640x128 .bf16) (X : BufTy.Contents (Elt F) arg4.view.ty) (t : ℕ) :
    Vec F S512x128 .bf16 :=
  View.readAt (Elt F) arg4.view (Rect.unit (s := S16640x128) ![512 * (t % 32), 0] S512x128.size (by
    have := Nat.mod_lt t (show 0 < 32 by decide); intro a; fin_cases a
    · show 512 * (t % 32) + 512 ≤ 16640; omega
    · show 0 + 128 ≤ 128; omega)).toLoadRect X

/-- Slab `n` of the values: 256 columns. -/
def valSlab (arg5 : Memref sig .tc .vmem S1x65x144x256 .bf16) (X : BufTy.Contents (Elt F) arg5.view.ty) (n : ℕ) :
    Vec F S1x1x144x256 .bf16 :=
  View.readAt (Elt F) arg5.view (Rect.unit (s := S1x65x144x256) ![0, n % 65, 0, 0] S1x1x144x256.size (by
    have := Nat.mod_lt n (show 0 < 65 by decide); intro a; fin_cases a
    · show 0 + 1 ≤ 1; omega
    · show n % 65 + 1 ≤ 65; omega
    · show 0 + 144 ≤ 144; omega
    · show 0 + 256 ≤ 256; omega)).toLoadRect X

/-- The query block whole. -/
def queries (arg3 : Memref sig .tc .vmem S1x1x128x512 .bf16) (X : BufTy.Contents (Elt F) arg3.view.ty) :
    Vec F S1x1x128x512 .bf16 :=
  View.readAt (Elt F) arg3.view (Rect.unit (s := S1x1x128x512) ![0, 0, 0, 0] S1x1x128x512.size inb_S1x1x128x512_S1x1x128x512_0_0_0_0).toLoadRect X

/-- A load of the newest piece's own rectangle reads the piece, whatever was there before. -/
theorem readAt_newest {sp : Space} {s : Shape} {e : EltTy} (v : View sig .tc sp s e) (f : v.ty.Contents (Elt F)) (r : Rect s)
    (w : r.shape.Idx → Elt F e) (L : List (View.Piece (Elt F) s e)) :
    v.readAt (Elt F) r.toLoadRect (v.writes (Elt F) f (⟨r, w⟩ :: L)) = w :=
  funext fun j => View.read_writes_cons_emb v f r w L j

/-- A load clear of the newest piece reads what the older pieces left. -/
theorem readAt_older {sp : Space} {s : Shape} {e : EltTy} (v : View sig .tc sp s e) (f : v.ty.Contents (Elt F)) (r : Rect s)
    (w : r.shape.Idx → Elt F e) (L : List (View.Piece (Elt F) s e)) (b : LoadRect s) (h : LoadRect.disj r b = true) :
    v.readAt (Elt F) b (v.writes (Elt F) f (⟨r, w⟩ :: L)) = v.readAt (Elt F) b (v.writes (Elt F) f L) :=
  funext fun j => by
    rw [View.writes_cons]
    exact View.read_slice_write_of_not_mem r _ _ _ (by rw [Rect.map_emb_univ]; exact LoadRect.idx_not_mem_of_disj h j)

variable (c : Dev nD) (i : grid0.Coords) (arg3 : Memref sig .tc .vmem S1x1x128x512 .bf16) (harg3 : arg3.IsWhole) (arg4 : Memref sig .tc .vmem S16640x128 .bf16) (harg4 : arg4.IsWhole) (arg5 : Memref sig .tc .vmem S1x65x144x256 .bf16) (harg5 : arg5.IsWhole) (arg6 : Memref sig .tc .vmem S2x128x256 .f32) (harg6 : arg6.IsWhole) (arg7 : Memref sig .tc .vmem S1x512 .f32) (harg7 : arg7.IsWhole) (arg8 : Memref sig .tc .vmem S144x512 .f32) (harg8 : arg8.IsWhole) (arg9 : Memref sig .tc .vmem S4x512x512 .f32) (harg9 : arg9.IsWhole) (arg10 : Memref sig .tc .vmem S256x512 .f32) (harg10 : arg10.IsWhole) (arg1 : BitVec 32) (h2 : k0_cond2 i = 1#1) (X_arg3 : BufTy.Contents (Elt F) arg3.view.ty) (X_arg4 : BufTy.Contents (Elt F) arg4.view.ty) (X_arg5 : BufTy.Contents (Elt F) arg5.view.ty)

/-- What the trip leaves: the scores of the next two chunks' maxima, the running maxima and sums after 24 chunks over
    what it finds, and the next two chunks' scores. -/
theorem trip_left (k : Fin (k0_t1_loop i).trips) (acc : FVec F S1x512 .f32 × FVec F S1x512 .f32)
    (f7 : BufTy.Contents (Elt F) arg7.view.ty) (f8 : BufTy.Contents (Elt F) arg8.view.ty) (f9 : BufTy.Contents (Elt F) arg9.view.ty) :
    ∃ r7 r8 r9, (trip_k0_t1 (F := F) Variants.none c none i arg3 harg3 arg4 harg4 arg5 harg5 arg6 harg6 arg7 harg7 arg8 harg8 arg9 harg9 arg10 harg10 arg1 h2 X_arg3 X_arg4 X_arg5 k).1 acc f7 f8 f9 = (k0_pay4 (keyRows arg4 X_arg4 24) (queries arg3 X_arg3), k0_pay4 (keyRows arg4 X_arg4 25) (queries arg3 X_arg3))
      ∧ (trip_k0_t1 (F := F) Variants.none c none i arg3 harg3 arg4 harg4 arg5 harg5 arg6 harg6 arg7 harg7 arg8 harg8 arg9 harg9 arg10 harg10 arg1 h2 X_arg3 X_arg4 X_arg5 k).2.1 acc f7 f8 f9
        = ⟨Rect.unit (s := S1x512) ![0, 0] S1x512.size inb_S1x512_S1x512_0_0, (chunks (queries arg3 X_arg3) (keyRows arg4 X_arg4) (valSlab arg5 X_arg5)
            (View.readAt (Elt F) arg7.view (Rect.unit (s := S1x512) ![0, 0] S1x512.size inb_S1x512_S1x512_0_0).toLoadRect f7, View.readAt (Elt F) arg8.view (Rect.unit (s := S144x512) ![0, 0] S144x512.size inb_S144x512_S144x512_0_0).toLoadRect f8) 24).1⟩ :: r7
      ∧ (trip_k0_t1 (F := F) Variants.none c none i arg3 harg3 arg4 harg4 arg5 harg5 arg6 harg6 arg7 harg7 arg8 harg8 arg9 harg9 arg10 harg10 arg1 h2 X_arg3 X_arg4 X_arg5 k).2.2.1 acc f7 f8 f9
        = ⟨Rect.unit (s := S144x512) ![0, 0] S144x512.size inb_S144x512_S144x512_0_0, (chunks (queries arg3 X_arg3) (keyRows arg4 X_arg4) (valSlab arg5 X_arg5)
            (View.readAt (Elt F) arg7.view (Rect.unit (s := S1x512) ![0, 0] S1x512.size inb_S1x512_S1x512_0_0).toLoadRect f7, View.readAt (Elt F) arg8.view (Rect.unit (s := S144x512) ![0, 0] S144x512.size inb_S144x512_S144x512_0_0).toLoadRect f8) 24).2⟩ :: r8
      ∧ (trip_k0_t1 (F := F) Variants.none c none i arg3 harg3 arg4 harg4 arg5 harg5 arg6 harg6 arg7 harg7 arg8 harg8 arg9 harg9 arg10 harg10 arg1 h2 X_arg3 X_arg4 X_arg5 k).2.2.2.1 acc f7 f8 f9
        = ⟨Rect.unit (s := S4x512x512) ![1, 0, 0] S1x512x512.size inb_S4x512x512_S1x512x512_1_0_0, k0_pay3 (keyRows arg4 X_arg4 25) (queries arg3 X_arg3)⟩
          :: ⟨Rect.unit (s := S4x512x512) ![0, 0, 0] S1x512x512.size inb_S4x512x512_S1x512x512_0_0_0, k0_pay3 (keyRows arg4 X_arg4 24) (queries arg3 X_arg3)⟩ :: r9 := by
  unfold trip_k0_t1
  sl_unfold_run_names
  simp (disch := decide) only [↓ View.readCov_skip, ↓ View.readCov_cons_toLoadRect]
  exact ⟨_, _, _, rfl, rfl, rfl, rfl⟩

/-- The first loop makes one trip. -/
theorem first_trips : (k0_t1_loop i).trips = 1 := by
  have h : (i 1).val < 2 := (i 1).isLt
  unfold k0_t1_loop Scf.Loop.trips
  generalize (i 1).val = j at h
  obtain rfl | rfl : j = 0 ∨ j = 1 := by omega
  · decide
  · decide

/-- The second loop makes none. -/
theorem second_trips : (k0_t2_loop i).trips = 0 := by
  have h : (i 1).val < 2 := (i 1).isLt
  unfold k0_t2_loop Scf.Loop.trips
  generalize (i 1).val = j at h
  obtain rfl | rfl : j = 0 ∨ j = 1 := by omega
  · decide
  · decide

/-- What the first loop leaves: its one trip's words. -/
theorem first_left (init : FVec F S1x512 .f32 × FVec F S1x512 .f32) (f7 : BufTy.Contents (Elt F) arg7.view.ty) (f8 : BufTy.Contents (Elt F) arg8.view.ty) (f9 : BufTy.Contents (Elt F) arg9.view.ty) :
    ∃ r7 r8 r9, (st_k0_t1 (F := F) Variants.none c none i arg3 harg3 arg4 harg4 arg5 harg5 arg6 harg6 arg7 harg7 arg8 harg8 arg9 harg9 arg10 harg10 arg1 h2 X_arg3 X_arg4 X_arg5 f7 f8 f9 init (Scf.trips (k0_t1_loop i).lb (k0_t1_loop i).ub (k0_t1_loop i).st))
      = ((k0_pay4 (keyRows arg4 X_arg4 24) (queries arg3 X_arg3), k0_pay4 (keyRows arg4 X_arg4 25) (queries arg3 X_arg3)),
        ⟨Rect.unit (s := S1x512) ![0, 0] S1x512.size inb_S1x512_S1x512_0_0, (chunks (queries arg3 X_arg3) (keyRows arg4 X_arg4) (valSlab arg5 X_arg5)
            (View.readAt (Elt F) arg7.view (Rect.unit (s := S1x512) ![0, 0] S1x512.size inb_S1x512_S1x512_0_0).toLoadRect f7, View.readAt (Elt F) arg8.view (Rect.unit (s := S144x512) ![0, 0] S144x512.size inb_S144x512_S144x512_0_0).toLoadRect f8) 24).1⟩ :: r7,
        ⟨Rect.unit (s := S144x512) ![0, 0] S144x512.size inb_S144x512_S144x512_0_0, (chunks (queries arg3 X_arg3) (keyRows arg4 X_arg4) (valSlab arg5 X_arg5)
            (View.readAt (Elt F) arg7.view (Rect.unit (s := S1x512) ![0, 0] S1x512.size inb_S1x512_S1x512_0_0).toLoadRect f7, View.readAt (Elt F) arg8.view (Rect.unit (s := S144x512) ![0, 0] S144x512.size inb_S144x512_S144x512_0_0).toLoadRect f8) 24).2⟩ :: r8,
        ⟨Rect.unit (s := S4x512x512) ![1, 0, 0] S1x512x512.size inb_S4x512x512_S1x512x512_1_0_0, k0_pay3 (keyRows arg4 X_arg4 25) (queries arg3 X_arg3)⟩
          :: ⟨Rect.unit (s := S4x512x512) ![0, 0, 0] S1x512x512.size inb_S4x512x512_S1x512x512_0_0_0, k0_pay3 (keyRows arg4 X_arg4 24) (queries arg3 X_arg3)⟩ :: r9) := by
  have h0 : 0 < (k0_t1_loop i).trips := by rw [first_trips]; decide
  obtain ⟨r7, r8, r9, e0, e7, e8, e9⟩ := trip_left c i arg3 harg3 arg4 harg4 arg5 harg5 arg6 harg6 arg7 harg7 arg8 harg8 arg9 harg9 arg10 harg10 arg1 h2 X_arg3 X_arg4 X_arg5 ⟨0, h0⟩ init f7 f8 f9
  rw [show Scf.trips (k0_t1_loop i).lb (k0_t1_loop i).ub (k0_t1_loop i).st = (⟨0, h0⟩ : Fin (k0_t1_loop i).trips).val + 1 from first_trips i,
    st_k0_t1_succ]
  refine ⟨r7, r8, r9, ?_⟩
  show (_, _ ++ [], _ ++ [], _ ++ []) = _
  simp only [List.append_nil]
  exact Prod.ext e0 (Prod.ext e7 (Prod.ext e8 e9))

/-- No trips of the second loop leave everything as it was. -/
theorem none_left (v39 : BitVec 32) (init : FVec F S1x512 .f32 × FVec F S1x512 .f32) (f7 : BufTy.Contents (Elt F) arg7.view.ty) (f8 : BufTy.Contents (Elt F) arg8.view.ty) (f9 : BufTy.Contents (Elt F) arg9.view.ty) :
    (st_k0_t2 (F := F) Variants.none c none i arg3 harg3 arg4 harg4 arg5 harg5 arg6 harg6 arg7 harg7 arg8 harg8 arg9 harg9 arg10 harg10 arg1 h2 v39 X_arg3 X_arg4 X_arg5 f7 f8 f9 init 0) = (init, [], [], []) := rfl

end Cert.KernelIdeal.Body

end
-- ==== Proof.FoundIdeal.lean ====
/-
  What the body leaves in the block it writes, in the words of the chain: the sums over every key a block of latent
  queries sees (the context keys alone on the block of context queries), divided by the row that sums the weights. It
  says nothing of what the scratch buffers held before.
-/
module

public import proofs.«01_k».proof.Proof.BodyIdeal
public import proofs.«01_k».proof.Proof.ChainIdeal

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- The running maxima and sums before any key: no maximum yet, and nothing summed. -/
def start : Running F := (k0_pay446, k0_pay447)

/-- The update by the context keys, of which there are 256: the sums it leaves. -/
def ctxSums (Q : Vec F S1x1x128x512 .bf16) (K : Vec F S256x128 .bf16) (V : Vec F S1x1x144x256 .bf16) (s : Running F) :
    Vec F S144x512 .f32 :=
  k0_pay453 (k0_pay443 (k0_pay433 K Q) s.1) (k0_pay444 (k0_pay433 K Q) (k0_pay432 K Q) s.1) (k0_pay445 V) s.2

/-- The context update, as the body's steps compute it. -/
theorem k0_pay451_eq (Q : Vec F S1x1x128x512 .bf16) (K : Vec F S256x128 .bf16) (V : Vec F S1x1x144x256 .bf16) (m : Vec F S1x512 .f32)
    (a : Vec F S144x512 .f32) : k0_pay451 K Q (k0_pay449 K Q) m V a = ctxSums Q K V (m, a) := by
  unfold k0_pay451 ctxSums k0_pay453 k0_pay449 k0_pay432 k0_pay443 k0_pay444 k0_pay445 k0_pay442 k0_pay450 k0_pay433
  rfl

/-- The context keys: the last 256 rows. -/
def ctxRows (arg4 : Memref sig .tc .vmem S16640x128 .bf16) (X : BufTy.Contents (Elt F) arg4.view.ty) : Vec F S256x128 .bf16 :=
  View.readAt (Elt F) arg4.view (Rect.unit (s := S16640x128) ![16384, 0] S256x128.size inb_S16640x128_S256x128_16384_0).toLoadRect X

/-- The two pieces of the block written, from the sums: each head's 256 columns over the row of summed weights. -/
def pieces (A : Vec F S144x512 .f32) : List (View.Piece (Elt F) S2x128x256 .f32) :=
  [⟨Rect.unit (s := S2x128x256) ![1, 0, 0] S1x128x256.size inb_S2x128x256_S1x128x256_1_0_0, k0_pay1 (k0_pay457 (View.ld A (Rect.unit (s := S144x512) ![128, 0] S1x512.size inb_S144x512_S1x512_128_0)) (View.ld A (Rect.unit (s := S144x512) ![0, 256] S128x256.size inb_S144x512_S128x256_0_256)))⟩,
   ⟨Rect.unit (s := S2x128x256) ![0, 0, 0] S1x128x256.size inb_S2x128x256_S1x128x256_0_0_0, k0_pay456 (View.ld A (Rect.unit (s := S144x512) ![128, 0] S1x512.size inb_S144x512_S1x512_128_0)) (View.ld A (Rect.unit (s := S144x512) ![0, 0] S128x256.size inb_S144x512_S128x256_0_0))⟩]

variable (c : Dev nD) (i : grid0.Coords) (arg3 : Memref sig .tc .vmem S1x1x128x512 .bf16) (harg3 : arg3.IsWhole) (arg4 : Memref sig .tc .vmem S16640x128 .bf16) (harg4 : arg4.IsWhole) (arg5 : Memref sig .tc .vmem S1x65x144x256 .bf16) (harg5 : arg5.IsWhole) (arg6 : Memref sig .tc .vmem S2x128x256 .f32) (harg6 : arg6.IsWhole) (arg7 : Memref sig .tc .vmem S1x512 .f32) (harg7 : arg7.IsWhole) (arg8 : Memref sig .tc .vmem S144x512 .f32) (harg8 : arg8.IsWhole) (arg9 : Memref sig .tc .vmem S4x512x512 .f32) (harg9 : arg9.IsWhole) (arg10 : Memref sig .tc .vmem S256x512 .f32) (harg10 : arg10.IsWhole) (h2 : k0_cond2 i = 1#1) (X_arg3 : BufTy.Contents (Elt F) arg3.view.ty) (X_arg4 : BufTy.Contents (Elt F) arg4.view.ty) (X_arg5 : BufTy.Contents (Elt F) arg5.view.ty)

/-- The block of context queries. -/
theorem context_left (h1 : Scalar.cmpi .ne (Scalar.extui (Scalar.xori (Scalar.cmpi .slt (BitVec.ofNat 32 (i 2).val) 64#32) 1#1) : BitVec 32) 0#32 = 1#1) (h2 : k0_cond2 i ≠ 1#1) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) :
    (runContext (F := F) c i arg3 harg3 arg4 harg4 arg5 harg5 arg6 harg6 arg7 harg7 arg8 harg8 arg9 harg9 arg10 harg10 h1 h2 X_arg3 X_arg4 X_arg5).1 f_arg6 f_arg7 f_arg8 f_arg9 f_arg10
      = pieces (ctxSums (queries arg3 X_arg3) (ctxRows arg4 X_arg4) (valSlab arg5 X_arg5 64) start) := by
  unfold runContext
  sl_unfold_run_names
  simp (disch := decide) only [↓ View.readCov_skip, ↓ View.readCov_cons_toLoadRect, View.readCov_fill, k0_pay451_eq]
  rfl

/-- A block of latent queries. -/
theorem latent_left (h1 : Scalar.cmpi .ne (Scalar.extui (Scalar.xori (Scalar.cmpi .slt (BitVec.ofNat 32 (i 2).val) 64#32) 1#1) : BitVec 32) 0#32 ≠ 1#1) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) :
    (runLatent (F := F) c i arg3 harg3 arg4 harg4 arg5 harg5 arg6 harg6 arg7 harg7 arg8 harg8 arg9 harg9 arg10 harg10 h1 h2 X_arg3 X_arg4 X_arg5).1 f_arg6 f_arg7 f_arg8 f_arg9 f_arg10
      = pieces (ctxSums (queries arg3 X_arg3) (ctxRows arg4 X_arg4) (valSlab arg5 X_arg5 64)
          (chunks (queries arg3 X_arg3) (keyRows arg4 X_arg4) (valSlab arg5 X_arg5) start 32)) := by
  choose r7 r8 r9 e using first_left (F := F) c i arg3 harg3 arg4 harg4 arg5 harg5 arg6 harg6 arg7 harg7 arg8 harg8 arg9 harg9 arg10 harg10 (BitVec.ofNat 32 ↑(i 1)) h2 X_arg3 X_arg4 X_arg5
  unfold runLatent
  sl_unfold_run_names
  have hz := second_trips i
  dsimp only [k0_t2_loop, Scf.Loop.trips] at hz
  have e2 := none_left (F := F) c i arg3 harg3 arg4 harg4 arg5 harg5 arg6 harg6 arg7 harg7 arg8 harg8 arg9 harg9 arg10 harg10 (BitVec.ofNat 32 ↑(i 1)) h2 X_arg3 X_arg4 X_arg5
  simp only [hz]
  simp only [e]
  rw [e2]
  simp only [e2, List.nil_append, List.cons_append]
  simp (disch := decide) only [↓ View.readCov_skip, ↓ View.readCov_cons_toLoadRect, ↓ readAt_newest, ↓ readAt_older, View.readCov_fill]

  rfl

end Cert.KernelIdeal.Body

end
-- ==== Proof.RegionIdeal.lean ====
/-
  The whole run of the kernel: at every point of the grid the body leaves the block of outputs the chain of updates
  gives, from the blocks of queries, keys and values of that point; the arguments stay as they were and every
  semaphore is back at zero.
-/
module

public import proofs.«01_k».proof.Proof.FoundIdeal
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Quiescent

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The query block whole, of a block's words. -/
def queriesOf (q : Vec F S1x1x128x512 .bf16) : Vec F S1x1x128x512 .bf16 :=
  View.ld q (Rect.unit (s := S1x1x128x512) ![0, 0, 0, 0] S1x1x128x512.size inb_S1x1x128x512_S1x1x128x512_0_0_0_0)

/-- Chunk `t` of the keys, of a block's words. -/
def keyRowsOf (k : Vec F S16640x128 .bf16) (t : ℕ) : Vec F S512x128 .bf16 :=
  View.ld k (Rect.unit (s := S16640x128) ![512 * (t % 32), 0] S512x128.size (by
    have := Nat.mod_lt t (show 0 < 32 by decide); intro a; fin_cases a
    · show 512 * (t % 32) + 512 ≤ 16640; omega
    · show 0 + 128 ≤ 128; omega))

/-- The context keys, of a block's words. -/
def ctxRowsOf (k : Vec F S16640x128 .bf16) : Vec F S256x128 .bf16 :=
  View.ld k (Rect.unit (s := S16640x128) ![16384, 0] S256x128.size inb_S16640x128_S256x128_16384_0)

/-- Slab `n` of the values, of a block's words. -/
def valSlabOf (v : Vec F S1x65x144x256 .bf16) (n : ℕ) : Vec F S1x1x144x256 .bf16 :=
  View.ld v (Rect.unit (s := S1x65x144x256) ![0, n % 65, 0, 0] S1x1x144x256.size (by
    have := Nat.mod_lt n (show 0 < 65 by decide); intro a; fin_cases a
    · show 0 + 1 ≤ 1; omega
    · show n % 65 + 1 ≤ 65; omega
    · show 0 + 144 ≤ 144; omega
    · show 0 + 256 ≤ 256; omega))

/-- The sums over the context keys after `n` chunks of the others. -/
def sumsOf (n : ℕ) (q : Vec F S1x1x128x512 .bf16) (k : Vec F S16640x128 .bf16) (v : Vec F S1x65x144x256 .bf16) : Vec F S144x512 .f32 :=
  ctxSums (queriesOf q) (ctxRowsOf k) (valSlabOf v 64) (chunks (queriesOf q) (keyRowsOf k) (valSlabOf v) start n)

/-- The chunks a block of queries sees beside the context keys: all 32 for latent queries, none for context queries. -/
def seen (i : grid0.Coords) : ℕ := if k0_cond2 i = 1#1 then 32 else 0

/-- The block the body writes. -/
def outOf (n : ℕ) (q : Vec F S1x1x128x512 .bf16) (k : Vec F S16640x128 .bf16) (v : Vec F S1x65x144x256 .bf16) : Vec F S2x128x256 .f32 :=
  View.canon (pieces (sumsOf n q k v))

/-- The two pieces cover the block. -/
theorem pieces_cover (A : Vec F S144x512 .f32) (y : S2x128x256.Idx) : ∃ pc ∈ pieces A, y ∈ pc.1.set := by
  unfold pieces
  exact View.cover_of_tiled [⟨Rect.unit (s := S2x128x256) ![1, 0, 0] S1x128x256.size inb_S2x128x256_S1x128x256_1_0_0, _⟩,
    ⟨Rect.unit (s := S2x128x256) ![0, 0, 0] S1x128x256.size inb_S2x128x256_S1x128x256_0_0_0, _⟩] S1x128x256.size (by rfl) y

/-- The body's two branches are taken one or the other. -/
theorem branches (i : grid0.Coords) : (Scalar.cmpi .ne (Scalar.extui (Scalar.xori (Scalar.cmpi .slt (BitVec.ofNat 32 (i 2).val) 64#32) 1#1) : BitVec 32) 0#32 = 1#1) ↔ ¬ k0_cond2 i = 1#1 := by
  have h : (i 2).val < 65 := (i 2).isLt
  unfold k0_cond2
  generalize (i 2).val = j at h
  revert h
  revert j
  decide

set_option maxHeartbeats 1000000 in
/-- The body, from the blocks it reads to the block it writes. -/
theorem sound_kernel (c : Dev nD) (i : grid0.Coords) (arg3 : Memref sig .tc .vmem S1x1x128x512 .bf16) (harg3 : arg3.IsWhole) (arg4 : Memref sig .tc .vmem S16640x128 .bf16) (harg4 : arg4.IsWhole) (arg5 : Memref sig .tc .vmem S1x65x144x256 .bf16) (harg5 : arg5.IsWhole) (arg6 : Memref sig .tc .vmem S2x128x256 .f32) (harg6 : arg6.IsWhole) (arg7 : Memref sig .tc .vmem S1x512 .f32) (harg7 : arg7.IsWhole) (arg8 : Memref sig .tc .vmem S144x512 .f32) (harg8 : arg8.IsWhole) (arg9 : Memref sig .tc .vmem S4x512x512 .f32) (harg9 : arg9.IsWhole) (arg10 : Memref sig .tc .vmem S256x512 .f32) (harg10 : arg10.IsWhole)
    (x3 : Vec F S1x1x128x512 .bf16) (x4 : Vec F S16640x128 .bf16) (x5 : Vec F S1x65x144x256 .bf16) (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x3 ∗ owns (c : Thread nD τ) arg4 fullShare x4 ∗ owns (c : Thread nD τ) arg5 fullShare x5 ∗ owns (c : Thread nD τ) arg6 fullShare (outOf (seen i) x3 x4 x5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) Set.univ (cc0_gqa_attn (F := F) i arg3 harg3 arg4 harg4 arg5 harg5 arg6 harg6 arg7 harg7 arg8 harg8 arg9 harg9 arg10 harg10) K := by
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf3 hf4 hf5
  have key : ∃ L, L = pieces (sumsOf (seen i) (arg3.view.read (Elt F) f3) (arg4.view.read (Elt F) f4) (arg5.view.read (Elt F) f5))
      ∧ (Held (F := F) c arg3 arg4 arg5 arg6 arg7 arg8 arg9 arg10 f3 f4 f5 f6 f7 f8 f9 f10
      ⊢ wp frame (wpE (defs₀ (F := F)) Variants.none (c : Thread nD τ) none) Set.univ (cc0_gqa_attn (F := F) i arg3 harg3 arg4 harg4 arg5 harg5 arg6 harg6 arg7 harg7 arg8 harg8 arg9 harg9 arg10 harg10)
          (fun _ => Left (F := F) c arg3 arg4 arg5 arg6 arg7 arg8 arg9 arg10 f3 f4 f5 (arg6.view.writes (Elt F) f6 L))) := by
    by_cases h2 : k0_cond2 i = 1#1
    · have h1 := mt (branches i).1 (not_not.2 h2)
      exact ⟨_, by unfold seen; rw [if_pos h2, latent_left]; rfl, (runLatent (F := F) c i arg3 harg3 arg4 harg4 arg5 harg5 arg6 harg6 arg7 harg7 arg8 harg8 arg9 harg9 arg10 harg10 h1 h2 f3 f4 f5).2 f6 f7 f8 f9 f10⟩
    · have h1 := (branches i).2 h2
      exact ⟨_, by unfold seen; rw [if_neg h2, context_left]; rfl, (runContext (F := F) c i arg3 harg3 arg4 harg4 arg5 harg5 arg6 harg6 arg7 harg7 arg8 harg8 arg9 harg9 arg10 harg10 h1 h2 f3 f4 f5).2 f6 f7 f8 f9 f10⟩
  obtain ⟨L, hL, run⟩ := key
  subst hL
  iapply (wp_wand_r frame (wpE (defs₀ (F := F)) Variants.none (c : Thread nD τ) none) Set.univ
    (Q := fun _ => Left (F := F) c arg3 arg4 arg5 arg6 arg7 arg8 arg9 arg10 f3 f4 f5 (arg6.view.writes (Elt F) f6 (pieces (sumsOf (seen i) (arg3.view.read (Elt F) f3) (arg4.view.read (Elt F) f4) (arg5.view.read (Elt F) f5))))))
  isplitl [H3 H4 H5 H6 H7 H8 H9 H10]
  · iapply run
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %a HL
  icases HL with ⟨H3, H4, H5, H6, ⟨%g7, H7⟩, ⟨%g8, H8⟩, ⟨%g9, H9⟩, ⟨%g10, H10⟩⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (pieces_cover _)
  isplitl [H7]
  · iexists _; iexists g7; isplitr; · ipureintro; rfl
    iexact H7
  isplitl [H8]
  · iexists _; iexists g8; isplitr; · ipureintro; rfl
    iexact H8
  isplitl [H9]
  · iexists _; iexists g9; isplitr; · ipureintro; rfl
    iexact H9
  iexists _; iexists g10; isplitr; · ipureintro; rfl
  iexact H10

variable (m : (ℓ : Loc nD τ sig) → Buf (Elt F) ℓ) (ρ : Dev nD → PrngReg)

/-- What the windows hold at each point: the inputs their blocks, the output the block the body writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf (seen (grid0.coords t)) (iblk m c 0 t) (iblk m c 1 t) (iblk m c 2 t)
  Φ _ := Pipeline.ΦA spec0 c
  q _ := fullShare
  owed _ := 0

/-- Each window's array is the launched one. -/
theorem A_eq (c : Dev nD) (w : Fin cfg0.W) : (dats m 0 c).A w = V m c (Pipeline.arrRef spec0 w) := rfl
/-- The query window holds its block. -/
theorem after0_0 (c : Dev nD) (t : Fin cfg0.N) : (dats m 0 c).after 0 t = iblk m c 0 t := by dsimp only [dats]
/-- The key window holds its block. -/
theorem after0_1 (c : Dev nD) (t : Fin cfg0.N) : (dats m 0 c).after 1 t = iblk m c 1 t := by dsimp only [dats]
/-- The value window holds its block. -/
theorem after0_2 (c : Dev nD) (t : Fin cfg0.N) : (dats m 0 c).after 2 t = iblk m c 2 t := by dsimp only [dats]
/-- The output window holds what the body writes. -/
theorem after0_3 (c : Dev nD) (t : Fin cfg0.N) : (dats m 0 c).after 3 t
    = outOf (seen (grid0.coords t)) (iblk m c 0 t) (iblk m c 1 t) (iblk m c 2 t) := by dsimp only [dats]
/-- The query window holds, before the body runs, its block. -/
theorem before0_0 (c : Dev nD) (t : Fin cfg0.N) (d) : (dats m 0 c).before 0 t d = iblk m c 0 t :=
  before0_0_of m (dats m 0 c) (A_eq m c 0) (after0_0 m c) t d
/-- The key window holds, before the body runs, its block. -/
theorem before0_1 (c : Dev nD) (t : Fin cfg0.N) (d) : (dats m 0 c).before 1 t d = iblk m c 1 t :=
  before0_1_of m (dats m 0 c) (A_eq m c 1) (after0_1 m c) t d
/-- The value window holds, before the body runs, its block. -/
theorem before0_2 (c : Dev nD) (t : Fin cfg0.N) (d) : (dats m 0 c).before 2 t d = iblk m c 2 t :=
  before0_2_of m (dats m 0 c) (A_eq m c 2) (after0_2 m c) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at a point: from the windows' contents before it to those after it. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, show (dats m 0 c).Φ t.castSucc = Pipeline.ΦA spec0 c from rfl]
  unfold Pipeline.ΦA
  rw [scopedRest0_eq]
  iintro ⟨⟨⟨⟨%f7, H7⟩, ⟨%f8, H8⟩, ⟨%f9, H9⟩, ⟨%f10, H10⟩⟩, Hr⟩, Ho, ⟨%d0, H0⟩, ⟨%d1, H1⟩, ⟨%d2, H2⟩, ⟨%d3, H3⟩⟩
  iapply (sound_kernel c (grid0.coords t) _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H7]; · iexists f7; rw [owns_whole]; iexact H7
  isplitl [H8]; · iexists f8; rw [owns_whole]; iexact H8
  isplitl [H9]; · iexists f9; rw [owns_whole]; iexact H9
  isplitl [H10]; · iexists f10; rw [owns_whole]; iexact H10
  simp only [owns_whole]
  iintro ⟨H0, H1, H2, H3, ⟨%g7, H7⟩, ⟨%g8, H8⟩, ⟨%g9, H9⟩, ⟨%g10, H10⟩⟩
  isplitl [H7 H8 H9 H10 Hr]
  · isplitr [Hr]
    · isplitl [H7]; · iexists g7; iexact H7
      isplitl [H8]; · iexists g8; iexact H8
      isplitl [H9]; · iexists g9; iexact H9
      iexists g10; iexact H10
    · iexact Hr
  isplitl [Ho]; · iexact Ho
  isplitl [H0]; · iexact H0
  isplitl [H1]; · iexact H1
  isplitl [H2]; · iexact H2
  iexact H3

/-- The same at every point, as the launch asks for it. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: every array ends as the windows' proof data say, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl) (Q' := _)

/-- The arguments end as they were, and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (frame_of m ρ (dats m) (fun _ _ => rfl)) (run_main m ρ)

end Cert.KernelIdeal.Body

end
-- ==== Proof.Softmax.lean ====
/-
  Softmax attention over the extended reals, of one query and one entry of the values: the weights in base two over
  their sum. A running pair (a maximum, a sum of weighted values) updated chunk by chunk ends at it, whatever real
  number stands for the maximum; so does the softmax in base e of the scores multiplied by log 2. The scores are real,
  the values any extended reals.
-/
module

public import Idealize.ShloMosaic.PureOps.Ideal
public import Mathlib.Data.EReal.Operations
public import Mathlib.Analysis.SpecialFunctions.Pow.Real

@[expose] public section

noncomputable section

namespace Cert.Attention

open Idealize.ShloMosaic

/-- A real number's product goes into a sum of extended reals, if it is not negative. -/
theorem coe_mul_sum {ι : Type} (c : ℝ) (hc : 0 ≤ c) (S : Finset ι) (f : ι → EReal) :
    (c : EReal) * ∑ r ∈ S, f r = ∑ r ∈ S, (c : EReal) * f r := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A sum of real numbers is a real number. -/
theorem coe_sum {ι : Type} (S : Finset ι) (f : ι → ℝ) : ∑ r ∈ S, (f r : EReal) = ((∑ r ∈ S, f r : ℝ) : EReal) := by
  classical
  induction S using Finset.induction_on with
  | empty => simp
  | insert a S ha ih => rw [Finset.sum_insert ha, Finset.sum_insert ha, ih, EReal.coe_add]

/-- The greatest of finitely many real numbers, one at least, is a real number. -/
theorem fold_real {n : ℕ} (hn : 0 < n) (f : Fin n → ℝ) :
    ∃ C : ℝ, Finset.univ.fold max (⊥ : EReal) (fun k => (f k : EReal)) = (C : EReal) := by
  have h1 : (⊥ : EReal) < Finset.univ.fold max (⊥ : EReal) (fun k => (f k : EReal)) :=
    (Finset.lt_fold_max _).2 (Or.inr ⟨⟨0, hn⟩, Finset.mem_univ _, EReal.bot_lt_coe _⟩)
  have h2 : Finset.univ.fold max (⊥ : EReal) (fun k => (f k : EReal)) < ⊤ :=
    (Finset.fold_max_lt _).2 ⟨bot_lt_top, fun x _ => EReal.coe_lt_top _⟩
  exact ⟨_, (EReal.coe_toReal h2.ne h1.ne').symm⟩

/-- A power of two is positive. -/
theorem two_pos (x : ℝ) : 0 < Real.rpow 2 x := Real.rpow_pos_of_pos (by norm_num) x

variable (s : ℕ → ℝ) (v : ℕ → EReal)

/-- The first `n` values, weighted by 2 to their scores less `M`. -/
def weighted (M : ℝ) (n : ℕ) : EReal := ∑ r ∈ Finset.range n, v r * ((Real.rpow 2 (s r - M) : ℝ) : EReal)

/-- **Attention** to the first `n` keys: each value by 2 to its score over the sum of these. -/
def attention (n : ℕ) : EReal :=
  ∑ r ∈ Finset.range n, v r * ((Real.rpow 2 (s r) / ∑ r ∈ Finset.range n, Real.rpow 2 (s r) : ℝ) : EReal)

/-- What is held after `n` keys: a real number `m` and the values weighted against it; before any key, minus infinity
    and nothing. -/
def Held (n : ℕ) (m a : EReal) : Prop := (n = 0 ∧ m = ⊥ ∧ a = 0) ∨ ∃ M : ℝ, m = (M : EReal) ∧ a = weighted s v M n

/-- Weights against one number from the weights against another. -/
theorem weighted_rescale (M M' : ℝ) (n : ℕ) : ((Real.rpow 2 (M - M') : ℝ) : EReal) * weighted s v M n = weighted s v M' n := by
  unfold weighted
  rw [coe_mul_sum (Real.rpow 2 (M - M')) (two_pos _).le]
  refine Finset.sum_congr rfl fun r _ => ?_
  rw [mul_left_comm, ← EReal.coe_mul]
  congr 3
  have h := Real.rpow_add (show (0 : ℝ) < 2 by norm_num) (M - M') (s r - M)
  rw [show M - M' + (s r - M) = s r - M' by ring] at h
  exact h.symm

/-- One update: the maximum with `c`, the old sums rescaled, and `k` more keys. -/
theorem Held.step {n : ℕ} {m a : EReal} (h : Held s v n m a) (C : ℝ) (k : ℕ) :
    Held s v (n + k) (max m (C : EReal)) (Ideal.exp2 (m - max m (C : EReal)) * a
      + ∑ j ∈ Finset.range k, v (n + j) * Ideal.exp2 ((s (n + j) : EReal) - max m (C : EReal))) := by
  right
  rcases h with ⟨rfl, rfl, rfl⟩ | ⟨M, rfl, rfl⟩
  · refine ⟨C, by simp, ?_⟩
    unfold weighted
    rw [Finset.sum_range_add]
    simp only [bot_le, sup_of_le_right, mul_zero, zero_add, Finset.range_zero, Finset.sum_empty]
    exact Finset.sum_congr rfl fun r _ => by rw [← EReal.coe_sub, Ideal.exp2_coe]
  · refine ⟨max M C, by exact_mod_cast rfl, ?_⟩
    have e : max (M : EReal) (C : EReal) = ((max M C : ℝ) : EReal) := by exact_mod_cast rfl
    rw [e, ← EReal.coe_sub, Ideal.exp2_coe, weighted_rescale]
    conv_rhs => unfold weighted; rw [Finset.sum_range_add]
    unfold weighted
    congr 1

/-- The sum of the weights, of one key at least, is positive. -/
theorem pow_sum_pos {n : ℕ} (hn : 0 < n) (f : ℕ → ℝ) : 0 < ∑ r ∈ Finset.range n, Real.rpow 2 (f r) :=
  Finset.sum_pos (fun r _ => Real.rpow_pos_of_pos (by norm_num) _) ⟨0, Finset.mem_range.2 hn⟩

/-- At the end the weighted values are multiplied by one over the sum of the weights: attention. -/
theorem Held.finish {n : ℕ} (hn : 0 < n) {m a l : EReal} (h : Held s v n m a) (hl : Held s (fun _ => 1) n m l) :
    a * Ideal.div 1 l = attention s v n := by
  rcases h with ⟨rfl, -, -⟩ | ⟨M, rfl, rfl⟩
  · exact absurd hn (lt_irrefl 0)
  rcases hl with ⟨rfl, -, -⟩ | ⟨M', hM, rfl⟩
  · exact absurd hn (lt_irrefl 0)
  obtain rfl : M = M' := EReal.coe_injective hM
  have e : weighted s (fun _ => 1) M n = ((∑ r ∈ Finset.range n, Real.rpow 2 (s r - M) : ℝ) : EReal) := by
    unfold weighted; simp only [one_mul]; exact coe_sum _ _
  have hp := pow_sum_pos hn fun r => s r - M
  rw [e, Ideal.div_coe hp.ne', one_mul, mul_comm]
  unfold weighted attention
  rw [coe_mul_sum _ (one_div_pos.2 hp).le]
  refine Finset.sum_congr rfl fun r _ => ?_
  rw [mul_left_comm, ← EReal.coe_mul]
  congr 2
  have h2 : ∀ x, Real.rpow 2 (x - M) = Real.rpow 2 x * Real.rpow 2 (-M) := fun x => by
    rw [sub_eq_add_neg]; exact Real.rpow_add (by norm_num) _ _
  have hM : Real.rpow 2 (-M) ≠ 0 := (Real.rpow_pos_of_pos (by norm_num) _).ne'
  have hs := (pow_sum_pos hn s).ne'
  simp only [h2]
  rw [← Finset.sum_mul]
  field_simp

/-- The weight of key `k` among the first `n`: 2 to its score over the sum of these. -/
def weight (n k : ℕ) : ℝ := Real.rpow 2 (s k) / ∑ r ∈ Finset.range n, Real.rpow 2 (s r)

/-- The softmax in base e of the scores times log 2, less any real number, is the weight. -/
theorem weight_eq {n : ℕ} (hn : 0 < n) (M : ℝ) (k : Fin n) :
    Ideal.div (Ideal.exp ((s k : EReal) * (Real.log 2 : EReal) - (M : EReal)))
      (0 + ∑ j : Fin n, Ideal.exp ((s j : EReal) * (Real.log 2 : EReal) - (M : EReal))) = (weight s n k : EReal) := by
  have hx : ∀ x : ℝ, Ideal.exp ((x : EReal) * (Real.log 2 : EReal) - (M : EReal)) = ((Real.rpow 2 x * Real.exp (-M) : ℝ) : EReal) := fun x => by
    rw [← EReal.coe_mul, ← EReal.coe_sub, Ideal.exp_coe, sub_eq_add_neg, Real.exp_add, mul_comm x]
    congr 2
    exact (Real.rpow_def_of_pos (by norm_num) x).symm
  simp only [hx]
  rw [zero_add, coe_sum, ← Finset.sum_mul]
  have hs := pow_sum_pos hn s
  have he := Real.exp_pos (-M)
  rw [← Fin.sum_univ_eq_sum_range (fun r => Real.rpow 2 (s r))] at hs
  unfold weight
  rw [← Fin.sum_univ_eq_sum_range (fun r => Real.rpow 2 (s r)), Ideal.div_coe (mul_pos hs he).ne', ← EReal.coe_mul]
  congr 1
  field_simp

/-- The softmax in base e of the scores times log 2, less any real number, weighs the values the same. -/
theorem softmax_eq {n : ℕ} (hn : 0 < n) (M : ℝ) :
    ∑ k : Fin n, Ideal.div (Ideal.exp ((s k : EReal) * (Real.log 2 : EReal) - (M : EReal)))
        (0 + ∑ j : Fin n, Ideal.exp ((s j : EReal) * (Real.log 2 : EReal) - (M : EReal))) * v k = attention s v n := by
  simp only [weight_eq s hn]
  unfold attention
  rw [← Fin.sum_univ_eq_sum_range (fun r => v r * _)]
  exact Finset.sum_congr rfl fun k _ => mul_comm _ _

end Cert.Attention

end
-- ==== Proof.Column.lean ====
/-
  One column of the kernel's sums, over the extended reals: what a query's running maximum and one row of its running
  sums hold after each chunk of keys. The scores of the query are real numbers.
-/
module

public import proofs.«01_k».proof.Proof.FoundIdeal
public import proofs.«01_k».proof.Proof.Softmax
public import Idealize.ShloMosaic.Lib.Pointwise

@[expose] public section

set_option maxRecDepth 16384

noncomputable section

namespace Cert.KernelIdeal.Body

open Cert.KernelIdeal Cert.KernelIdeal.Gen Cert.Attention
open Idealize.ShloMosaic Idealize.ShloMosaic.TcCoe Idealize.SL.Sem

/-- The word of minus infinity. -/
theorem ofBits_bot : Ideal.ofBits .f32 0xFF800000#32 = ⊥ := by decide +kernel

variable (Q : FVec Ideal S1x1x128x512 .bf16) (c : Fin 512) (e : Fin 144)

/-- The greatest score of a chunk of 512 keys. -/
theorem chunk_max_apply (K : FVec Ideal S512x128 .bf16) : k0_pay4 (F := Ideal) K Q (ix2 0 c)
    = Finset.univ.fold max (⊥ : EReal) fun j : Fin 512 => ∑ d : Fin 128, K (ix2 j d) * Q (ix4 0 0 d c) := by
  pointwise [k0_pay4, k0_pay2]
  rw [ofBits_bot]

/-- The greatest score of the context keys. -/
theorem ctx_max_apply (K : FVec Ideal S256x128 .bf16) : k0_pay433 (F := Ideal) K Q (ix2 0 c)
    = Finset.univ.fold max (⊥ : EReal) fun j : Fin 256 => ∑ d : Fin 128, K (ix2 j d) * Q (ix4 0 0 d c) := by
  pointwise [k0_pay433, k0_pay431]
  rw [ofBits_bot]

/-- The running maximum after a chunk. -/
theorem new_max_apply (x m : FVec Ideal S1x512 .f32) : k0_pay13 (F := Ideal) x m (ix2 0 c) = max (m (ix2 0 c)) (x (ix2 0 c)) := by
  pointwise [k0_pay13, k0_pay11]

/-- The running sums after a chunk. -/
theorem new_sums_apply (x m : FVec Ideal S1x512 .f32) (K : FVec Ideal S512x128 .bf16) (V0 V1 : FVec Ideal S1x1x144x256 .bf16)
    (a : FVec Ideal S144x512 .f32) : k0_pay12 (F := Ideal) x (k0_pay3 (F := Ideal) K Q : FVec Ideal S1x512x512 .f32) m V0 V1 a (ix2 e c)
    = Ideal.exp2 (m (ix2 0 c) - max (m (ix2 0 c)) (x (ix2 0 c))) * a (ix2 e c)
      + ((∑ j : Fin 256, V0 (ix4 0 0 e j) * Ideal.exp2 ((∑ d : Fin 128, K (ix2 ⟨j.val, by omega⟩ d) * Q (ix4 0 0 d c)) - max (m (ix2 0 c)) (x (ix2 0 c))))
        + ∑ j : Fin 256, V1 (ix4 0 0 e j) * Ideal.exp2 ((∑ d : Fin 128, K (ix2 ⟨256 + j.val, by omega⟩ d) * Q (ix4 0 0 d c)) - max (m (ix2 0 c)) (x (ix2 0 c)))) := by
  pointwise [k0_pay12, k0_pay11, k0_pay3, k0_pay2]
  rfl

/-- The sums after the context keys. -/
theorem ctx_sums_apply (K : FVec Ideal S256x128 .bf16) (V : FVec Ideal S1x1x144x256 .bf16) (s : Running Ideal) :
    ctxSums (F := Ideal) Q K V s (ix2 e c)
    = Ideal.exp2 ((s.1 : FVec Ideal S1x512 .f32) (ix2 0 c) - max ((s.1 : FVec Ideal S1x512 .f32) (ix2 0 c)) (k0_pay433 (F := Ideal) K Q (ix2 0 c))) * (s.2 : FVec Ideal S144x512 .f32) (ix2 e c)
      + ∑ j : Fin 256, V (ix4 0 0 e j) * Ideal.exp2 ((∑ d : Fin 128, K (ix2 j d) * Q (ix4 0 0 d c)) - max ((s.1 : FVec Ideal S1x512 .f32) (ix2 0 c)) (k0_pay433 (F := Ideal) K Q (ix2 0 c))) := by
  pointwise [ctxSums, k0_pay453, k0_pay443, k0_pay444, k0_pay445, k0_pay432, k0_pay442, k0_pay431]
  rfl

/-- Before any key. -/
theorem start_held (s : ℕ → ℝ) (v : ℕ → EReal) :
    Attention.Held s v 0 ((start (F := Ideal)).1 (ix2 0 c)) ((start (F := Ideal)).2 (ix2 e c)) := by
  refine Or.inl ⟨rfl, ?_, ?_⟩
  · pointwise [start, k0_pay446]
    exact ofBits_bot
  · pointwise [start, k0_pay447]

variable (K : ℕ → FVec Ideal S512x128 .bf16) (V : ℕ → FVec Ideal S1x1x144x256 .bf16) (s : ℕ → ℝ) (v : ℕ → EReal)

/-- **The chunks**: after `n` of them the running pair holds the first 512 n keys. -/
theorem chunks_held (n : ℕ)
    (hs : ∀ t < n, ∀ j : Fin 512, ∑ d : Fin 128, K t (ix2 j d) * Q (ix4 0 0 d c) = (s (512 * t + j) : EReal))
    (h0 : ∀ t < n, ∀ j : Fin 256, V (2 * t) (ix4 0 0 e j) = v (512 * t + j))
    (h1 : ∀ t < n, ∀ j : Fin 256, V (2 * t + 1) (ix4 0 0 e j) = v (512 * t + (256 + j))) :
    Attention.Held s v (512 * n) ((chunks (F := Ideal) Q K V start n).1 (ix2 0 c)) ((chunks (F := Ideal) Q K V start n).2 (ix2 e c)) := by
  induction n with
  | zero => exact start_held c e s v
  | succ n ih =>
    have ih := ih (fun t ht => hs t (by omega)) (fun t ht => h0 t (by omega)) (fun t ht => h1 t (by omega))
    obtain ⟨C, hC⟩ := fold_real (show 0 < 512 by decide) fun j => s (512 * n + j)
    have hm : k0_pay4 (F := Ideal) (K n) Q (ix2 0 c) = (C : EReal) := by
      rw [chunk_max_apply, ← hC]
      simp only [hs n (by omega)]
    have st := ih.step s v C 512
    rw [← hm] at st
    have e1 : (chunks (F := Ideal) Q K V start (n + 1)).1 (ix2 0 c) = max ((chunks (F := Ideal) Q K V start n).1 (ix2 0 c)) (k0_pay4 (F := Ideal) (K n) Q (ix2 0 c)) :=
      new_max_apply c _ _
    have e2 : (chunks (F := Ideal) Q K V start (n + 1)).2 (ix2 e c) = _ := new_sums_apply Q c e _ _ (K n) (V (2 * n)) (V (2 * n + 1)) _
    rw [e1, e2]
    rw [show 512 * (n + 1) = 512 * n + 512 by ring]
    refine (congrArg (Attention.Held s v _ _) (congrArg₂ (· + ·) rfl ?_)).mp st
    refine (Finset.sum_range_add _ 256 256).trans ?_
    rw [Finset.sum_range, Finset.sum_range]
    refine congrArg₂ (· + ·) (Finset.sum_congr rfl fun j _ => ?_) (Finset.sum_congr rfl fun j _ => ?_)
    · rw [h0 n (by omega), hs n (by omega)]
    · rw [h1 n (by omega), hs n (by omega)]

/-- **The context keys after them**: the sums hold the first 512 n + 256 keys. -/
theorem sums_held (n : ℕ) (Kc : FVec Ideal S256x128 .bf16) (Vc : FVec Ideal S1x1x144x256 .bf16)
    (hs : ∀ t < n, ∀ j : Fin 512, ∑ d : Fin 128, K t (ix2 j d) * Q (ix4 0 0 d c) = (s (512 * t + j) : EReal))
    (h0 : ∀ t < n, ∀ j : Fin 256, V (2 * t) (ix4 0 0 e j) = v (512 * t + j))
    (h1 : ∀ t < n, ∀ j : Fin 256, V (2 * t + 1) (ix4 0 0 e j) = v (512 * t + (256 + j)))
    (hc : ∀ j : Fin 256, ∑ d : Fin 128, Kc (ix2 j d) * Q (ix4 0 0 d c) = (s (512 * n + j) : EReal))
    (hv : ∀ j : Fin 256, Vc (ix4 0 0 e j) = v (512 * n + j)) :
    Attention.Held s v (512 * n + 256) (max ((chunks (F := Ideal) Q K V start n).1 (ix2 0 c)) (k0_pay433 (F := Ideal) Kc Q (ix2 0 c)))
      (ctxSums (F := Ideal) Q Kc Vc (chunks Q K V start n) (ix2 e c)) := by
  have ih := chunks_held Q c e K V s v n hs h0 h1
  obtain ⟨C, hC⟩ := fold_real (show 0 < 256 by decide) fun j => s (512 * n + j)
  have hm : k0_pay433 (F := Ideal) Kc Q (ix2 0 c) = (C : EReal) := by
    rw [ctx_max_apply, ← hC]
    simp only [hc]
  have st := ih.step s v C 256
  rw [← hm] at st
  rw [ctx_sums_apply]
  refine (congrArg (Attention.Held s v _ _) (congrArg₂ (· + ·) rfl ?_)).mp st
  rw [Finset.sum_range]
  exact Finset.sum_congr rfl fun j _ => by rw [hv, hc]

end Cert.KernelIdeal.Body

end
-- ==== Proof.Output.lean ====
/-
  The block the body writes, at one column and one row, over the extended reals: attention of the query to the keys its
  block sees.
-/
module

public import proofs.«01_k».proof.Proof.RegionIdeal
public import proofs.«01_k».proof.Proof.Column
public import Idealize.ShloMosaic.Lib.Pointwise
public import Idealize.ShloMosaic.Lib.Pipeline.ValueKit

@[expose] public section

set_option maxRecDepth 16384

noncomputable section

namespace Cert.KernelIdeal.Body

open Cert.KernelIdeal Cert.KernelIdeal.Gen Cert.Attention
open Idealize.ShloMosaic Idealize.ShloMosaic.TcCoe Idealize.SL.Sem

/-- A block written, at head `g`, row `e` and column `j`: the row of sums over the row of summed weights. -/
theorem pieces_apply (A : FVec Ideal S144x512 .f32) (g : Fin 2) (e : Fin 128) (j : Fin 256) :
    View.canon (pieces (F := Ideal) A) (ix3 g e j)
      = A (ix2 ⟨e, by omega⟩ ⟨256 * g + j, by omega⟩) * Ideal.div 1 (A (ix2 128 ⟨256 * g + j, by omega⟩)) := by
  unfold pieces
  canon_tiles x h
  all_goals (pointwise [k0_pay1, k0_pay456, k0_pay457, k0_pay455]; refine congrArg₂ (· * ·) ?_ (congrArg (Ideal.div 1) ?_) <;> (replace h0 : g.val = _ := h0; replace h1 : e.val = _ := h1; replace h2 : j.val = _ := h2; blk_ext))

/-- Chunk `t` of the keys, at a row and a column. -/
theorem keyRowsOf_apply (k : FVec Ideal S16640x128 .bf16) (t : ℕ) (j : Fin 512) (d : Fin 128) :
    keyRowsOf (F := Ideal) k t (ix2 j d) = k (ix2 ⟨512 * (t % 32) + j, by omega⟩ d) := by
  pointwise [keyRowsOf]

/-- The context keys, at a row and a column. -/
theorem ctxRowsOf_apply (k : FVec Ideal S16640x128 .bf16) (j : Fin 256) (d : Fin 128) :
    ctxRowsOf (F := Ideal) k (ix2 j d) = k (ix2 ⟨16384 + j, by omega⟩ d) := by
  pointwise [ctxRowsOf]

/-- Slab `n` of the values, at a row and a column. -/
theorem valSlabOf_apply (v : FVec Ideal S1x65x144x256 .bf16) (n : ℕ) (e : Fin 144) (j : Fin 256) :
    valSlabOf (F := Ideal) v n (ix4 0 0 e j) = v (ix4 0 ⟨n % 65, by omega⟩ e j) := by
  pointwise [valSlabOf]

/-- The queries, at a row and a column. -/
theorem queriesOf_apply (q : FVec Ideal S1x1x128x512 .bf16) (d : Fin 128) (j : Fin 512) : queriesOf (F := Ideal) q (ix4 0 0 d j) = q (ix4 0 0 d j) := by
  pointwise [queriesOf]

/-- Key `r` of a block against the query in column `c`. -/
def score (q : FVec Ideal S1x1x128x512 .bf16) (k : FVec Ideal S16640x128 .bf16) (c : Fin 512) (r : ℕ) : EReal :=
  ∑ d : Fin 128, k (ix2 ⟨r % 16640, Nat.mod_lt _ (by decide)⟩ d) * q (ix4 0 0 d c)

/-- Row `e` of the values at key `r`. -/
def value (v : FVec Ideal S1x65x144x256 .bf16) (e : Fin 144) (r : ℕ) : EReal :=
  v (ix4 0 ⟨r / 256 % 65, Nat.mod_lt _ (by decide)⟩ e ⟨r % 256, Nat.mod_lt _ (by decide)⟩)

variable (n : ℕ) (hn : n = 0 ∨ n = 32) (q : FVec Ideal S1x1x128x512 .bf16) (k : FVec Ideal S16640x128 .bf16) (v : FVec Ideal S1x65x144x256 .bf16)
variable (c : Fin 512) (s : ℕ → ℝ) (hs : ∀ r, score q k c r = (s r : EReal))

include hn hs in
/-- The sums hold the keys the block sees, which are the last 512 n + 256. -/
theorem sumsOf_held (e : Fin 144) (w : ℕ → EReal) (hw : ∀ r, value v e (16384 - 512 * n + r) = w r) :
    Attention.Held (fun r => s (16384 - 512 * n + r)) w (512 * n + 256)
      (max ((chunks (F := Ideal) (queriesOf q) (keyRowsOf k) (valSlabOf v) start n).1 (ix2 0 c))
        (k0_pay433 (F := Ideal) (ctxRowsOf k) (queriesOf q) (ix2 0 c)))
      (sumsOf (F := Ideal) n q k v (ix2 e c)) := by
  refine sums_held _ c e _ _ _ w n _ _ (fun t ht j => ?_) (fun t ht j => ?_) (fun t ht j => ?_) (fun j => ?_) (fun j => ?_)
  · have ht' : t % 32 = t := Nat.mod_eq_of_lt (by omega)
    have hj : 16384 - 512 * n + (512 * t + j) = 512 * t + j := by omega
    have hl : (512 * t + j) % 16640 = 512 * t + j := Nat.mod_eq_of_lt (by omega)
    rw [← hs, score]
    refine Finset.sum_congr rfl fun d _ => ?_
    rw [keyRowsOf_apply, queriesOf_apply]
    refine congrArg (· * q (ix4 0 0 d c)) (congrArg k (congrArg (ix2 · d) (Fin.ext ?_)))
    show 512 * (t % 32) + j = (16384 - 512 * n + (512 * t + j)) % 16640
    rw [hj, hl, ht']
  · rw [← hw, value, valSlabOf_apply]
    blk_ext
  · rw [← hw, value, valSlabOf_apply]
    blk_ext
  · rw [← hs, score]
    refine Finset.sum_congr rfl fun d _ => ?_
    rw [ctxRowsOf_apply, queriesOf_apply]
    refine congrArg (· * q (ix4 0 0 d c)) ?_
    rcases hn with rfl | rfl <;> blk_ext
  · rw [← hw, value, valSlabOf_apply]
    blk_ext

include hn in
/-- **The block written**: attention of each query to the keys its block sees. -/
theorem outOf_apply (g : Fin 2) (e : Fin 128) (j : Fin 256)
    (hs : ∀ r, score q k ⟨256 * g + j, by omega⟩ r = (s r : EReal)) (h1 : ∀ r, value v 128 r = 1) :
    outOf (F := Ideal) n q k v (ix3 g e j)
      = attention (fun r => s (16384 - 512 * n + r)) (fun r => value v ⟨e, by omega⟩ (16384 - 512 * n + r)) (512 * n + 256) := by
  unfold outOf
  rw [pieces_apply]
  exact (sumsOf_held n hn q k v _ s hs ⟨e, by omega⟩ _ fun _ => rfl).finish _ _ (by omega)
    (sumsOf_held n hn q k v _ s hs 128 _ fun r => h1 _)

end Cert.KernelIdeal.Body

end
-- ==== Proof.Spec.lean ====
/-
  What the call computes, from its arguments, over the extended reals: attention of each token's query to the keys it
  may see. The scores are read as real numbers, which they are when queries and keys are.
-/
module

public import proofs.«01_k».proof.Proof.Softmax
public import proofs.«01_k».proof.Proof.RegionIdeal
public import Idealize.ShloMosaic.Lib.Pointwise

@[expose] public section

set_option maxRecDepth 16384

noncomputable section

namespace Cert.Attention

open Cert.KernelIdeal Cert.KernelIdeal.Gen
open Idealize.ShloMosaic Idealize.ShloMosaic.TcCoe Idealize.SL.Sem

variable (q : FVec Ideal S2x65x128x1024 .bf16) (k : FVec Ideal S16640x256 .bf16) (v : FVec Ideal S2x65x144x256 .bf16)

/-- Key `r` of group `kv` against the query of token `256 i + j` in head `g` of the group. -/
def keyScore (kv : Fin 2) (g : Fin 4) (i : Fin 65) (j : Fin 256) (r : ℕ) : EReal :=
  ∑ d : Fin 128, k (ix2 ⟨r % 16640, Nat.mod_lt _ (by decide)⟩ ⟨128 * kv + d, by omega⟩) * q (ix4 kv i d ⟨256 * g + j, by omega⟩)

/-- Row `e` of the values of group `kv` at key `r`. -/
def keyValue (kv : Fin 2) (e : Fin 144) (r : ℕ) : EReal :=
  v (ix4 kv ⟨r / 256 % 65, Nat.mod_lt _ (by decide)⟩ e ⟨r % 256, Nat.mod_lt _ (by decide)⟩)

/-- The first key a token of block `i` may see: the first of all for latent tokens, the first context key for context
    tokens. -/
def firstKey (i : Fin 65) : ℕ := if i.val < 64 then 0 else 16384

/-- Entry `e` of the output of token `256 i + j` in head `g` of group `kv`. -/
def entry (kv : Fin 2) (g : Fin 4) (e : Fin 128) (i : Fin 65) (j : Fin 256) : EReal :=
  attention (fun r => (keyScore q k kv g i j (firstKey i + r)).toReal) (fun r => keyValue v kv ⟨e, by omega⟩ (firstKey i + r))
    (16640 - firstKey i)

/-- The output array. -/
def output : FVec Ideal S8x128x16640 .f32 := fun y =>
  entry q k v ⟨(y 0).val / 4, by have := (y 0).isLt; change _ < 8 at this; omega⟩ ⟨(y 0).val % 4, by omega⟩ ⟨(y 1).val, (y 1).isLt⟩
    ⟨(y 2).val / 256, by have := (y 2).isLt; change _ < 16640 at this; omega⟩ ⟨(y 2).val % 256, by omega⟩

/-- The arguments the value is claimed at: queries and keys are real numbers, and row 128 of the values is ones. -/
structure Good : Prop where
  query : ∀ x, q x = ((q x).toReal : EReal)
  key : ∀ x, k x = ((k x).toReal : EReal)
  ones : ∀ kv i j, v (ix4 kv i 128 j) = 1

/-- Real queries and keys have real scores. -/
theorem keyScore_real (h : Good q k v) (kv : Fin 2) (g : Fin 4) (i : Fin 65) (j : Fin 256) (r : ℕ) :
    keyScore q k kv g i j r = ((keyScore q k kv g i j r).toReal : EReal) := by
  have e : keyScore q k kv g i j r = ((∑ d : Fin 128, (k (ix2 ⟨r % 16640, Nat.mod_lt _ (by decide)⟩ ⟨128 * kv + d, by omega⟩)).toReal
      * (q (ix4 kv i d ⟨256 * g + j, by omega⟩)).toReal : ℝ) : EReal) := by
    rw [← coe_sum, keyScore]
    refine Finset.sum_congr rfl fun d _ => ?_
    rw [h.query, h.key, EReal.coe_mul]
    rfl
  rw [e, EReal.toReal_coe]

end Cert.Attention

end
-- ==== Proof.Value.lean ====
/-
  The kernel's output array, over the extended reals.
-/
module

public import proofs.«01_k».proof.Proof.Output
public import proofs.«01_k».proof.Proof.Spec

@[expose] public section

set_option maxRecDepth 16384

noncomputable section

namespace Cert.KernelIdeal.Body

open Cert.KernelIdeal Cert.KernelIdeal.Gen Cert.Attention
open Idealize.ShloMosaic Idealize.ShloMosaic.TcCoe Idealize.SL.Sem

variable (m : (ℓ : Loc nD τ sig) → Buf (Elt Ideal) ℓ)

/-- Which blocks each grid point reads and writes. -/
theorem idx : ∀ t : Fin cfg0.N, win0_0.index t = ![t.val / 130, t.val % 65, 0, t.val / 65 % 2] ∧ win0_1.index t = ![0, t.val / 130]
    ∧ win0_2.index t = ![t.val / 130, 0, 0, 0] ∧ win0_3.index t = ![t.val / 65, 0, t.val % 65] ∧ t.val < 260 :=
  (by decide +kernel : ∀ t : Fin grid0.N, _)

/-- How many chunks of keys a grid point visits beside the context keys. -/
theorem seen_eq : ∀ t : Fin cfg0.N, seen (grid0.coords t) = if t.val % 65 < 64 then 32 else 0 :=
  (by decide +kernel : ∀ t : Fin grid0.N, _)

variable (c : Dev nD) (t : Fin cfg0.N)

/-- A query block, at a row and a column. -/
theorem query_block (d : Fin 128) (x : Fin 512) (h0 : t.val / 130 < 2) (h1 : t.val % 65 < 65) :
    (iblk m c 0 t : FVec Ideal S1x1x128x512 .bf16) (ix4 0 0 d x)
      = (m ((c : Thread nD τ).loc main_arg0) : FVec Ideal S2x65x128x1024 .bf16) (ix4 ⟨t.val / 130, h0⟩ ⟨t.val % 65, h1⟩ d ⟨512 * (t.val / 65 % 2) + x, by omega⟩) := by
  blk_ext [iblk, V, idx t]

/-- A key block, at a row and a column. -/
theorem key_block (r : Fin 16640) (d : Fin 128) (h0 : t.val / 130 < 2) :
    (iblk m c 1 t : FVec Ideal S16640x128 .bf16) (ix2 r d)
      = (m ((c : Thread nD τ).loc main_arg1) : FVec Ideal S16640x256 .bf16) (ix2 r ⟨128 * (t.val / 130) + d, by omega⟩) := by
  blk_ext [iblk, V, idx t]

/-- A value block, at an index. -/
theorem value_block (i : Fin 65) (e : Fin 144) (j : Fin 256) (h0 : t.val / 130 < 2) :
    (iblk m c 2 t : FVec Ideal S1x65x144x256 .bf16) (ix4 0 i e j)
      = (m ((c : Thread nD τ).loc main_arg2) : FVec Ideal S2x65x144x256 .bf16) (ix4 ⟨t.val / 130, h0⟩ i e j) := by
  blk_ext [iblk, V, idx t]

/-- What a grid point writes, at an index of its block, is the output entry there. -/
theorem point (good : Good (m ((c : Thread nD τ).loc main_arg0)) (m ((c : Thread nD τ).loc main_arg1)) (m ((c : Thread nD τ).loc main_arg2)))
    (g : Fin 2) (e : Fin 128) (j : Fin 256) (h0 : t.val / 130 < 2) (h1 : t.val % 65 < 65) (hg : 2 * (t.val / 65 % 2) + g.val < 4) :
    outOf (F := Ideal) (seen (grid0.coords t)) (iblk m c 0 t) (iblk m c 1 t) (iblk m c 2 t) (ix3 g e j)
      = entry (m ((c : Thread nD τ).loc main_arg0)) (m ((c : Thread nD τ).loc main_arg1)) (m ((c : Thread nD τ).loc main_arg2))
          ⟨t.val / 130, h0⟩ ⟨2 * (t.val / 65 % 2) + g, hg⟩ e ⟨t.val % 65, h1⟩ j := by
  have hs : ∀ r, score (iblk m c 0 t : FVec Ideal S1x1x128x512 .bf16) (iblk m c 1 t : FVec Ideal S16640x128 .bf16) ⟨256 * g + j, by omega⟩ r
      = keyScore (m ((c : Thread nD τ).loc main_arg0)) (m ((c : Thread nD τ).loc main_arg1)) ⟨t.val / 130, h0⟩ ⟨2 * (t.val / 65 % 2) + g, hg⟩ ⟨t.val % 65, h1⟩ j r := fun r => by
    unfold score keyScore
    refine Finset.sum_congr rfl fun d _ => ?_
    rw [key_block m c t _ d h0, query_block m c t d _ h0 h1]
    refine congrArg₂ (· * ·) rfl (congrArg _ ?_)
    blk_ext
  have hv : ∀ e r, value (iblk m c 2 t : FVec Ideal S1x65x144x256 .bf16) e r = keyValue (m ((c : Thread nD τ).loc main_arg2)) ⟨t.val / 130, h0⟩ e r :=
    fun e r => value_block m c t _ e _ h0
  rw [outOf_apply (seen (grid0.coords t)) (by rw [seen_eq]; split <;> simp) _ _ _
    (fun r => (keyScore (m ((c : Thread nD τ).loc main_arg0)) (m ((c : Thread nD τ).loc main_arg1)) ⟨t.val / 130, h0⟩ ⟨2 * (t.val / 65 % 2) + g, hg⟩ ⟨t.val % 65, h1⟩ j r).toReal) g e j
    (fun r => (hs r).trans (keyScore_real _ _ _ good _ _ _ _ _)) (fun r => (hv _ r).trans (good.ones _ _ _)), entry]
  have e1 : 16384 - 512 * seen (grid0.coords t) = firstKey ⟨t.val % 65, h1⟩ := by
    rw [seen_eq, firstKey]; dsimp only; split <;> rfl
  have e2 : 512 * seen (grid0.coords t) + 256 = 16640 - firstKey ⟨t.val % 65, h1⟩ := by
    rw [seen_eq, firstKey]; dsimp only; split <;> rfl
  rw [e1, e2]
  exact congrArg (fun w => attention _ w _) (funext fun r => hv _ _)

/-- **The kernel's output array** is the output. -/
theorem final (good : Good (m ((c : Thread nD τ).loc main_arg0)) (m ((c : Thread nD τ).loc main_arg1)) (m ((c : Thread nD τ).loc main_arg2))) :
    (dats m 0 c).arrAt 3 (cfgs 0).N
      = output (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht : t.val < 260 := (idx t).2.2.2.2
  refine Eq.trans ?_ ((point m c t good ⟨(y 0).val, (y 0).isLt⟩ ⟨(y 1).val, (y 1).isLt⟩ ⟨(y 2).val, (y 2).isLt⟩ (by omega) (by omega)
    (by have := (y 0).isLt; change _ < 2 at this; show 2 * (t.val / 65 % 2) + (y 0).val < 4; omega)).trans ?_)
  · exact congrArg (outOf (F := Ideal) (seen (grid0.coords t)) (iblk m c 0 t) (iblk m c 1 t) (iblk m c 2 t)) (eq_ix3 (n0 := 2) (n1 := 128) (n2 := 256) y)
  · have b0 : (y 0).val < 2 := (y 0).isLt
    have b2 : (y 2).val < 256 := (y 2).isLt
    have f0 : (((cfg0.win 3).blk t).view.emb y 0).val = t.val / 65 * 2 + (y 0).val := by blk_simp [idx t]
    have f1 : (((cfg0.win 3).blk t).view.emb y 1).val = (y 1).val := by blk_simp [idx t]
    have f2 : (((cfg0.win 3).blk t).view.emb y 2).val = t.val % 65 * 256 + (y 2).val := by blk_simp [idx t]
    unfold output
    congr 1 <;> apply Fin.ext
    · show t.val / 130 = (((cfg0.win 3).blk t).view.emb y 0).val / 4
      omega
    · show 2 * (t.val / 65 % 2) + (y 0).val = (((cfg0.win 3).blk t).view.emb y 0).val % 4
      omega
    · exact f1.symm
    · show t.val % 65 = (((cfg0.win 3).blk t).view.emb y 2).val / 256
      omega
    · show (y 2).val = (((cfg0.win 3).blk t).view.emb y 2).val % 256
      omega

end Cert.KernelIdeal.Body

end
-- ==== Proof.Reference.lean ====
/-
  The reference's result, over the extended reals: the output.
-/
module

public import proofs.«01_k».proof.Proof.Spec
public import proofs.«01_k».proof.Proof.Gen.ReferenceIdeal.Read
public import Idealize.ShloMosaic.Lib.Pipeline.ValueKit

@[expose] public section

set_option maxRecDepth 16384

noncomputable section

namespace Cert.ReferenceIdeal.Value

open Cert.ReferenceIdeal Cert.ReferenceIdeal.Gen Cert.ReferenceIdeal.Read Cert.Attention
open Idealize.ShloMosaic Idealize.ShloMosaic.TcCoe Idealize.SL.Sem

/-- The word of minus infinity. -/
theorem ofBits_bot : Ideal.ofBits .f32 0xFF800000#32 = ⊥ := by decide +kernel

/-- The logarithm of the word of two. -/
theorem log_two : Ideal.log (Ideal.ofBits .f32 0x40000000#32) = (Real.log 2 : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

/-- The greatest along one axis of an array of real numbers is a real number. -/
theorem reduce_real {s t u : Shape} {a : Fin s.rank} (x : FVec Ideal s .f32) (hx : ∀ i, x i = ((x i).toReal : EReal)) (init : FVec Ideal u .f32)
    (h' : s.ReducesTo [a] t) (h : s.Reduces [a] t) (hu : 0 < u.numel) (hi : init (Shape.Idx.first hu) = (⊥ : EReal)) (ha : 0 < s.size a) (j : t.Idx) :
    ∃ C : ℝ, Host.reduce FloatOps.maximumf x init h' hu j = (C : EReal) := by
  rw [Host.reduce_eq_fold_single FloatOps.maximumf x _ h' h hu, hi]
  obtain ⟨C, hC⟩ := fold_real ha fun k => (x (h.lift j k)).toReal
  refine ⟨C, hC ▸ ?_⟩
  exact congrArg (fun f => Finset.fold max (⊥ : EReal) f Finset.univ) (funext fun k => hx _)

variable (q : FVec Ideal S2x65x128x1024 .bf16) (k : FVec Ideal S16640x256 .bf16) (v : FVec Ideal S2x65x144x256 .bf16)

/-- The query of a token. -/
theorem query_apply (kv : Fin 2) (g : Fin 4) (x : Fin 16640) (d : Fin 128) :
    val_main_v3 (F := Ideal) q (ix4 kv g x d) = q (ix4 kv ⟨x / 256, by omega⟩ d ⟨256 * g + x % 256, by omega⟩) := by
  pointwise [val_main_v3, val_main_v2, val_main_v1, val_main_v0]
  blk_ext

/-- The key of a token. -/
theorem key_apply (kv : Fin 2) (r : Fin 16640) (d : Fin 128) :
    val_main_v6 (F := Ideal) k (ix3 kv r d) = k (ix2 r ⟨128 * kv + d, by omega⟩) := by
  pointwise [val_main_v6, val_main_v5, val_main_v4]
  blk_ext

/-- The value of a token. -/
theorem value_apply (kv : Fin 2) (r : Fin 16640) (e : Fin 128) :
    val_main_v10 (F := Ideal) v (ix3 kv r e) = v (ix4 kv ⟨r / 256, by omega⟩ ⟨e, by omega⟩ ⟨r % 256, by omega⟩) := by
  pointwise [val_main_v10, val_main_v9, val_main_v8, val_main_v7]
  blk_ext

/-- A query against a key. -/
theorem score_apply (kv : Fin 2) (g : Fin 4) (x r : Fin 16640) :
    ∑ d : Fin 128, val_main_v3 (F := Ideal) q (ix4 kv g x d) * val_main_v6 (F := Ideal) k (ix3 kv r d)
      = keyScore q k kv g ⟨x / 256, by omega⟩ ⟨x % 256, by omega⟩ r := by
  unfold keyScore
  refine Finset.sum_congr rfl fun d _ => ?_
  rw [query_apply, key_apply, mul_comm]
  refine congrArg (· * _) (congrArg k ?_)
  blk_ext

/-- A value row at a key. -/
theorem keyValue_apply (kv : Fin 2) (r : Fin 16640) (e : Fin 128) :
    val_main_v10 (F := Ideal) v (ix3 kv r e) = keyValue v kv ⟨e, by omega⟩ r := by
  rw [value_apply]
  unfold keyValue
  blk_ext

/-- A latent query's scores in base e. -/
theorem latent_score (kv : Fin 2) (g : Fin 4) (x : Fin 16384) (r : Fin 16640) :
    val_main_v15 (F := Ideal) q k (ix4 kv g x r) = (∑ d : Fin 128, val_main_v3 (F := Ideal) q (ix4 kv g ⟨x, by omega⟩ d) * val_main_v6 (F := Ideal) k (ix3 kv r d)) * Ideal.log (Ideal.ofBits .f32 0x40000000#32) := by
  pointwise [val_main_v15, val_main_v14, val_main_v13, val_main_v12, val_main_v11, val_main_cst]

/-- A latent query's weights before they are divided. -/
theorem latent_weight (kv : Fin 2) (g : Fin 4) (x : Fin 16384) (r : Fin 16640) :
    val_main_v22 (F := Ideal) q k (ix4 kv g x r) = Ideal.exp (val_main_v15 (F := Ideal) q k (ix4 kv g x r) - max (Ideal.ofBits .f32 0xFF800000#32) (val_main_v16 (F := Ideal) q k (ix3 kv g x))) := by
  rw [val_main_v22_apply, val_main_v21_apply, val_main_v20_apply, val_main_v19_apply, val_main_v18_apply, val_main_v17_apply]
  have e : idx_main_v19 (idx_main_v20 (ix4 kv g x r)) = ix3 kv g x := funext fun a => match a with
    | ⟨0, _⟩ => rfl
    | ⟨1, _⟩ => rfl
    | ⟨2, _⟩ => rfl
  rw [e]
  rfl

/-- What they are divided by. -/
theorem latent_total (kv : Fin 2) (g : Fin 4) (x : Fin 16384) :
    val_main_v23 (F := Ideal) q k (ix3 kv g x) = Ideal.ofBits .f32 0#32 + ∑ r : Fin 16640, val_main_v22 (F := Ideal) q k (ix4 kv g x r) := by
  pointwise [val_main_v23, val_main_cst_2]

/-- A latent query's output. -/
theorem latent_out (kv : Fin 2) (g : Fin 4) (x : Fin 16384) (e : Fin 128) :
    val_main_v27 (F := Ideal) q k v (ix4 kv g x e) = ∑ r : Fin 16640, Ideal.div (val_main_v22 (F := Ideal) q k (ix4 kv g x r)) (val_main_v23 (F := Ideal) q k (ix3 kv g x)) * val_main_v10 (F := Ideal) v (ix3 kv r e) := by
  pointwise [val_main_v27, val_main_v26, val_main_v25, val_main_v24]

/-- A context query's scores in base e. -/
theorem context_score (kv : Fin 2) (g : Fin 4) (x r : Fin 256) :
    val_main_v33 (F := Ideal) q k (ix4 kv g x r) = (∑ d : Fin 128, val_main_v3 (F := Ideal) q (ix4 kv g ⟨16384 + x, by omega⟩ d) * val_main_v6 (F := Ideal) k (ix3 kv ⟨16384 + r, by omega⟩ d)) * Ideal.log (Ideal.ofBits .f32 0x40000000#32) := by
  pointwise [val_main_v33, val_main_v32, val_main_v31, val_main_v29, val_main_v28, val_main_v11, val_main_cst]

/-- A context query's weights before they are divided. -/
theorem context_weight (kv : Fin 2) (g : Fin 4) (x r : Fin 256) :
    val_main_v40 (F := Ideal) q k (ix4 kv g x r) = Ideal.exp (val_main_v33 (F := Ideal) q k (ix4 kv g x r) - max (Ideal.ofBits .f32 0xFF800000#32) (val_main_v34 (F := Ideal) q k (ix3 kv g x))) := by
  pointwise [val_main_v40, val_main_v39, val_main_v38, val_main_v37, val_main_v36, val_main_v35, val_main_cst_4]

/-- What they are divided by. -/
theorem context_total (kv : Fin 2) (g : Fin 4) (x : Fin 256) :
    val_main_v41 (F := Ideal) q k (ix3 kv g x) = Ideal.ofBits .f32 0#32 + ∑ r : Fin 256, val_main_v40 (F := Ideal) q k (ix4 kv g x r) := by
  pointwise [val_main_v41, val_main_cst_5]

/-- A context query's output. -/
theorem context_out (kv : Fin 2) (g : Fin 4) (x : Fin 256) (e : Fin 128) :
    val_main_v45 (F := Ideal) q k v (ix4 kv g x e) = ∑ r : Fin 256, Ideal.div (val_main_v40 (F := Ideal) q k (ix4 kv g x r)) (val_main_v41 (F := Ideal) q k (ix3 kv g x)) * val_main_v10 (F := Ideal) v (ix3 kv ⟨16384 + r, by omega⟩ e) := by
  pointwise [val_main_v45, val_main_v44, val_main_v43, val_main_v42, val_main_v30]

/-- The result, from the two outputs. -/
theorem result_apply (h : Fin 8) (e : Fin 128) (x : Fin 16640) :
    val_main_v48 (F := Ideal) q k v (ix3 h e x) = val_main_v46 (F := Ideal) q k v (ix4 ⟨h / 4, by omega⟩ ⟨h % 4, by omega⟩ x e) := by
  pointwise [val_main_v48, val_main_v47]
  blk_ext

/-- The two outputs, joined. -/
theorem joined_apply (kv : Fin 2) (g : Fin 4) (x : Fin 16640) (e : Fin 128) :
    val_main_v46 (F := Ideal) q k v (ix4 kv g x e)
      = if hx : x.val < 16384 then val_main_v27 (F := Ideal) q k v (ix4 kv g ⟨x, hx⟩ e)
        else val_main_v45 (F := Ideal) q k v (ix4 kv g ⟨x - 16384, by omega⟩ e) := by
  pointwise [val_main_v46]

variable (good : Good q k v)

include good in
/-- **A latent token's output.** -/
theorem latent (kv : Fin 2) (g : Fin 4) (x : Fin 16384) (e : Fin 128) :
    val_main_v27 (F := Ideal) q k v (ix4 kv g x e) = entry q k v kv g e ⟨x / 256, by omega⟩ ⟨x % 256, by omega⟩ := by
  have hs : ∀ (kv : Fin 2) (g : Fin 4) (x : Fin 16384) (r : Fin 16640), val_main_v15 (F := Ideal) q k (ix4 kv g x r)
      = ((keyScore q k kv g ⟨x / 256, by omega⟩ ⟨x % 256, by omega⟩ r).toReal : EReal) * (Real.log 2 : EReal) := fun kv g x r => by
    rw [latent_score, score_apply, ← keyScore_real q k v good, log_two]
  obtain ⟨C, hC⟩ := reduce_real (val_main_v15 (F := Ideal) q k) (fun i => by
      obtain ⟨kv, g, x, r, rfl⟩ : ∃ (kv : Fin 2) (g : Fin 4) (x : Fin 16384) (r : Fin 16640), i = ix4 kv g x r := ⟨i 0, i 1, i 2, i 3, eq_ix4 (n0 := 2) (n1 := 4) (n2 := 16384) (n3 := 16640) i⟩
      rw [hs, ← EReal.coe_mul, EReal.toReal_coe])
    (val_main_cst_0 (F := Ideal)) reducesTo_S2x4x16384x16640_S2x4x16384_d3 (by decide) h_S_ ofBits_bot (by decide) (ix3 kv g x)
  change val_main_v16 (F := Ideal) q k (ix3 kv g x) = _ at hC
  have hi : firstKey ⟨x.val / 256, by omega⟩ = 0 := if_pos (show x.val / 256 < 64 by omega)
  rw [latent_out, latent_total]
  simp only [latent_weight, hC, hs, keyValue_apply, ofBits_bot, bot_le, sup_of_le_right, Ideal.ofBits_zero_f32]
  unfold entry
  simp only [hi, Nat.zero_add]
  exact softmax_eq (fun r => (keyScore q k kv g ⟨x / 256, by omega⟩ ⟨x % 256, by omega⟩ r).toReal) (fun r => keyValue v kv ⟨e, by omega⟩ r) (n := 16640) (by decide) C

include good in
/-- **A context token's output.** -/
theorem context (kv : Fin 2) (g : Fin 4) (x : Fin 256) (e : Fin 128) :
    val_main_v45 (F := Ideal) q k v (ix4 kv g x e) = entry q k v kv g e ⟨(16384 + x) / 256, by omega⟩ ⟨(16384 + x) % 256, by omega⟩ := by
  have hs : ∀ (kv : Fin 2) (g : Fin 4) (x r : Fin 256), val_main_v33 (F := Ideal) q k (ix4 kv g x r)
      = ((keyScore q k kv g ⟨(16384 + x) / 256, by omega⟩ ⟨(16384 + x) % 256, by omega⟩ (16384 + r)).toReal : EReal) * (Real.log 2 : EReal) := fun kv g x r => by
    rw [context_score, score_apply, ← keyScore_real q k v good, log_two]
  obtain ⟨C, hC⟩ := reduce_real (val_main_v33 (F := Ideal) q k) (fun i => by
      obtain ⟨kv, g, x, r, rfl⟩ : ∃ (kv : Fin 2) (g : Fin 4) (x : Fin 256) (r : Fin 256), i = ix4 kv g x r := ⟨i 0, i 1, i 2, i 3, eq_ix4 (n0 := 2) (n1 := 4) (n2 := 256) (n3 := 256) i⟩
      rw [hs, ← EReal.coe_mul, EReal.toReal_coe])
    (val_main_cst_3 (F := Ideal)) reducesTo_S2x4x256x256_S2x4x256_d3 (by decide) h_S_ ofBits_bot (by decide) (ix3 kv g x)
  change val_main_v34 (F := Ideal) q k (ix3 kv g x) = _ at hC
  have hi : firstKey ⟨(16384 + x.val) / 256, by omega⟩ = 16384 := if_neg (show ¬ (16384 + x.val) / 256 < 64 by omega)
  rw [context_out, context_total]
  simp only [context_weight, hC, hs, keyValue_apply, ofBits_bot, bot_le, sup_of_le_right, Ideal.ofBits_zero_f32]
  unfold entry
  simp only [hi]
  exact softmax_eq (fun r => (keyScore q k kv g ⟨(16384 + x) / 256, by omega⟩ ⟨(16384 + x) % 256, by omega⟩ (16384 + r)).toReal) (fun r => keyValue v kv ⟨e, by omega⟩ (16384 + r)) (n := 256) (by decide) C

include good in
/-- **The reference's result** is the output. -/
theorem final : val_main_v48 (F := Ideal) q k v = output q k v := by
  funext y
  obtain ⟨h, e, x, rfl⟩ : ∃ (h : Fin 8) (e : Fin 128) (x : Fin 16640), y = ix3 h e x := ⟨y 0, y 1, y 2, eq_ix3 (n0 := 8) (n1 := 128) (n2 := 16640) y⟩
  rw [result_apply, joined_apply]
  split
  · exact latent q k v good _ _ _ e
  · rename_i hx
    refine (context q k v good _ _ _ e).trans ?_
    have hx' : 16384 + (x.val - 16384) = x.val := by omega
    unfold output
    simp only [hx']
    rfl

end Cert.ReferenceIdeal.Value

end
-- ==== Proof.Wellformed.lean ====
/-
  The precondition, read: queries and keys are real numbers, and row 128 of the values is ones.
-/
module

public import proofs.«01_k».proof.Defs
public import proofs.«01_k».proof.Proof.Spec
public import proofs.«01_k».proof.Proof.Gen.Pre_well_formed
public import Idealize.ShloMosaic.Lib.Pipeline.ValueKit
public import Idealize.ShloMosaic.Lib.IdealHost

@[expose] public section

set_option maxRecDepth 16384

noncomputable section

namespace Cert.Pre_well_formed

open Cert.Attention Cert.Pre_well_formed.Gen
open Idealize.ShloMosaic Idealize.ShloMosaic.TcCoe Idealize.SL.Sem

/-- The word of infinity. -/
theorem ofBits_top : Ideal.ofBits .f32 0x7F800000#32 = ⊤ := by decide +kernel

/-- A number whose absolute value is below infinity is real. -/
theorem real_of_abs {x : EReal} (h : max x (-x) < ⊤) : x = (x.toReal : EReal) :=
  (EReal.coe_toReal (fun e => by simp [e] at h) (fun e => by simp [e] at h)).symm

/-- A comparison whose bit is set holds. -/
theorem of_bit {p : Prop} [Decidable p] (h : BitVec.ofBool (decide p) = 1#1) : p := by
  by_contra hp
  simp [hp] at h

/-- What the precondition says. -/
theorem good (q : FVec Ideal S2x65x128x1024 .bf16) (k : FVec Ideal S16640x256 .bf16) (v : FVec Ideal S2x65x144x256 .bf16)
    (hq : (fn (F := Ideal) q k v).1 = fun _ => 1#1) (hk : (fn (F := Ideal) q k v).2.1 = fun _ => 1#1) (hv : (fn (F := Ideal) q k v).2.2 = fun _ => 1#1) :
    Good q k v := by
  refine ⟨fun x => ?_, fun x => ?_, fun kv i j => ?_⟩
  · have h := congrFun hq x
    revert h
    pointwise [fn]
    rw [ofBits_top]
    exact fun h => real_of_abs (of_bit h)
  · have h := congrFun hk x
    revert h
    pointwise [fn]
    rw [ofBits_top]
    exact fun h => real_of_abs (of_bit h)
  · have h := congrFun hv (ix3 kv i j)
    revert h
    pointwise [fn]
    exact fun h => of_bit h

end Cert.Pre_well_formed

end
-- ==== Proof.Body2Ideal.lean ====
/-
  The kernel's body run once per case at symbolic operands: on a block of latent queries (every chunk of keys) and on
  the block of context queries (the context keys alone). What each run leaves in the buffers it writes is the run's
  own find, as lists of pieces.
-/
module

public import proofs.«01_k».proof.Proof.Gen.Kernel2Ideal.Frame
public import proofs.«01_k».proof.Proof.Gen.Kernel2Ideal.Loops

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body holds: the blocks it reads, the block it writes and its four scratch buffers. -/
abbrev Held (c : Dev nD) (arg2 : Memref sig .tc .vmem S1x1x128x512 .bf16) (arg3 : Memref sig .tc .vmem S16640x128 .bf16) (arg4 : Memref sig .tc .vmem S1x65x144x256 .bf16) (arg5 : Memref sig .tc .vmem S4x64 .f32) (arg6 : Memref sig .tc .vmem S1x128x256 .f32) (arg7 : Memref sig .tc .vmem S1x512 .f32) (arg8 : Memref sig .tc .vmem S144x512 .f32) (arg9 : Memref sig .tc .vmem S4x512x512 .f32) (arg10 : Memref sig .tc .vmem S256x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10))

/-- What the body hands back: the blocks it read, the block it wrote, and its scratch buffers at some contents. -/
abbrev Left (c : Dev nD) (arg2 : Memref sig .tc .vmem S1x1x128x512 .bf16) (arg3 : Memref sig .tc .vmem S16640x128 .bf16) (arg4 : Memref sig .tc .vmem S1x65x144x256 .bf16) (arg5 : Memref sig .tc .vmem S4x64 .f32) (arg6 : Memref sig .tc .vmem S1x128x256 .f32) (arg7 : Memref sig .tc .vmem S1x512 .f32) (arg8 : Memref sig .tc .vmem S144x512 .f32) (arg9 : Memref sig .tc .vmem S4x512x512 .f32) (arg10 : Memref sig .tc .vmem S256x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (∃ f : BufTy.Contents (Elt F) arg7.view.ty, arg7.view.loc (c : Thread nD τ) ↦[arg7.view.set]{fullShare} f) ∗ (∃ f : BufTy.Contents (Elt F) arg8.view.ty, arg8.view.loc (c : Thread nD τ) ↦[arg8.view.set]{fullShare} f) ∗ (∃ f : BufTy.Contents (Elt F) arg9.view.ty, arg9.view.loc (c : Thread nD τ) ↦[arg9.view.set]{fullShare} f) ∗ (∃ f : BufTy.Contents (Elt F) arg10.view.ty, arg10.view.loc (c : Thread nD τ) ↦[arg10.view.set]{fullShare} f))

/-- The body on the block of context queries. -/
@[irreducible] def runContext (c : Dev nD) (i : grid0.Coords) (arg2 : Memref sig .tc .vmem S1x1x128x512 .bf16) (harg2 : arg2.IsWhole) (arg3 : Memref sig .tc .vmem S16640x128 .bf16) (harg3 : arg3.IsWhole) (arg4 : Memref sig .tc .vmem S1x65x144x256 .bf16) (harg4 : arg4.IsWhole) (arg5 : Memref sig .tc .vmem S4x64 .f32) (harg5 : arg5.IsWhole) (arg6 : Memref sig .tc .vmem S1x128x256 .f32) (harg6 : arg6.IsWhole) (arg7 : Memref sig .tc .vmem S1x512 .f32) (harg7 : arg7.IsWhole) (arg8 : Memref sig .tc .vmem S144x512 .f32) (harg8 : arg8.IsWhole) (arg9 : Memref sig .tc .vmem S4x512x512 .f32) (harg9 : arg9.IsWhole) (arg10 : Memref sig .tc .vmem S256x512 .f32) (harg10 : arg10.IsWhole)
    (h1 : Scalar.cmpi .ne (Scalar.extui (Scalar.xori (Scalar.cmpi .slt (BitVec.ofNat 32 (i 1).val) 64#32) 1#1) : BitVec 32) 0#32 = 1#1) (h2 : k0_cond2 i ≠ 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) :
    { L_arg6 : BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S1x128x256 .f32) // ∀ (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty),
      Held (F := F) c arg2 arg3 arg4 arg5 arg6 arg7 arg8 arg9 arg10 X_arg2 X_arg3 X_arg4 X_arg5 f_arg6 f_arg7 f_arg8 f_arg9 f_arg10
      ⊢ wp frame (wpE (defs₀ (F := F)) Variants.none (c : Thread nD τ) none) Set.univ (cc0_diff_attn (F := F) i arg2 harg2 arg3 harg3 arg4 harg4 arg5 harg5 arg6 harg6 arg7 harg7 arg8 harg8 arg9 harg9 arg10 harg10)
          (fun _ => Left (F := F) c arg2 arg3 arg4 arg5 arg6 arg7 arg8 arg9 arg10 X_arg2 X_arg3 X_arg4 X_arg5 (arg6.view.writes (Elt F) f_arg6 (L_arg6 f_arg6 f_arg7 f_arg8 f_arg9 f_arg10))) } := by
  refine ⟨?_, fun f_arg6 f_arg7 f_arg8 f_arg9 f_arg10 => ?run⟩
  case run =>
    simp only [cc0_diff_attn_eq_skeleton]
    unfold cc0_diff_attn_skel
    iintro ⟨HR_arg2, HR_arg3, HR_arg4, HR_arg5, HW_arg6, HW_arg7, HW_arg8, HW_arg9, HW_arg10⟩
    sl_exec
    sl_step
    sl_close

/-- The body on a block of latent queries. -/
@[irreducible] def runLatent (c : Dev nD) (i : grid0.Coords) (arg2 : Memref sig .tc .vmem S1x1x128x512 .bf16) (harg2 : arg2.IsWhole) (arg3 : Memref sig .tc .vmem S16640x128 .bf16) (harg3 : arg3.IsWhole) (arg4 : Memref sig .tc .vmem S1x65x144x256 .bf16) (harg4 : arg4.IsWhole) (arg5 : Memref sig .tc .vmem S4x64 .f32) (harg5 : arg5.IsWhole) (arg6 : Memref sig .tc .vmem S1x128x256 .f32) (harg6 : arg6.IsWhole) (arg7 : Memref sig .tc .vmem S1x512 .f32) (harg7 : arg7.IsWhole) (arg8 : Memref sig .tc .vmem S144x512 .f32) (harg8 : arg8.IsWhole) (arg9 : Memref sig .tc .vmem S4x512x512 .f32) (harg9 : arg9.IsWhole) (arg10 : Memref sig .tc .vmem S256x512 .f32) (harg10 : arg10.IsWhole)
    (h1 : Scalar.cmpi .ne (Scalar.extui (Scalar.xori (Scalar.cmpi .slt (BitVec.ofNat 32 (i 1).val) 64#32) 1#1) : BitVec 32) 0#32 ≠ 1#1) (h2 : k0_cond2 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) :
    { L_arg6 : BufTy.Contents (Elt F) arg6.view.ty → BufTy.Contents (Elt F) arg7.view.ty → BufTy.Contents (Elt F) arg8.view.ty → BufTy.Contents (Elt F) arg9.view.ty → BufTy.Contents (Elt F) arg10.view.ty → List (View.Piece (Elt F) S1x128x256 .f32) // ∀ (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty),
      Held (F := F) c arg2 arg3 arg4 arg5 arg6 arg7 arg8 arg9 arg10 X_arg2 X_arg3 X_arg4 X_arg5 f_arg6 f_arg7 f_arg8 f_arg9 f_arg10
      ⊢ wp frame (wpE (defs₀ (F := F)) Variants.none (c : Thread nD τ) none) Set.univ (cc0_diff_attn (F := F) i arg2 harg2 arg3 harg3 arg4 harg4 arg5 harg5 arg6 harg6 arg7 harg7 arg8 harg8 arg9 harg9 arg10 harg10)
          (fun _ => Left (F := F) c arg2 arg3 arg4 arg5 arg6 arg7 arg8 arg9 arg10 X_arg2 X_arg3 X_arg4 X_arg5 (arg6.view.writes (Elt F) f_arg6 (L_arg6 f_arg6 f_arg7 f_arg8 f_arg9 f_arg10))) } := by
  refine ⟨?_, fun f_arg6 f_arg7 f_arg8 f_arg9 f_arg10 => ?run⟩
  case run =>
    simp only [cc0_diff_attn_eq_skeleton]
    unfold cc0_diff_attn_skel
    iintro ⟨HR_arg2, HR_arg3, HR_arg4, HR_arg5, HW_arg6, HW_arg7, HW_arg8, HW_arg9, HW_arg10⟩
    sl_exec
    sl_step
    sl_close

end Cert.Kernel2Ideal.Body

end
-- ==== Proof.Chain2Ideal.lean ====
/-
  The chain of updates that one chunk of keys after another makes to the running maxima and the running sums, over the
  words the body computes them with, and what the loop's one trip leaves behind in those terms.
-/
module

public import proofs.«01_k».proof.Proof.Gen.Kernel2Ideal.Frame
public import proofs.«01_k».proof.Proof.Gen.Kernel2Ideal.Loops
public import Idealize.ShloMosaic.Lib.Pipeline.ReadBack

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.Sem

variable {F : FTy → Type} [FloatOps F]

/-- The running maxima and the running sums of the 512 query columns. -/
abbrev Running (F : FTy → Type) [FloatOps F] : Type := Vec F S1x512 .f32 × Vec F S144x512 .f32

/-- One chunk's update of the running maxima and sums, from the queries, the chunk's keys and its two slabs of values. -/
def chunk (Q : Vec F S1x1x128x512 .bf16) (K : ℕ → Vec F S512x128 .bf16) (V : ℕ → Vec F S1x1x144x256 .bf16) (t : ℕ)
    (s : Running F) : Running F :=
  (k0_pay13 (k0_pay4 (K t) Q) s.1, k0_pay12 (k0_pay4 (K t) Q) (k0_pay3 (K t) Q) s.1 (V (2 * t)) (V (2 * t + 1)) s.2)

/-- The first `t` chunks' updates in turn. -/
def chunks (Q : Vec F S1x1x128x512 .bf16) (K : ℕ → Vec F S512x128 .bf16) (V : ℕ → Vec F S1x1x144x256 .bf16)
    (s : Running F) : ℕ → Running F
  | 0 => s
  | t + 1 => chunk Q K V t (chunks Q K V s t)

/-- Chunk `t` of the keys: 512 rows. -/
def keyRows (arg3 : Memref sig .tc .vmem S16640x128 .bf16) (X : BufTy.Contents (Elt F) arg3.view.ty) (t : ℕ) :
    Vec F S512x128 .bf16 :=
  View.readAt (Elt F) arg3.view (Rect.unit (s := S16640x128) ![512 * (t % 32), 0] S512x128.size (by
    have := Nat.mod_lt t (show 0 < 32 by decide); intro a; fin_cases a
    · show 512 * (t % 32) + 512 ≤ 16640; omega
    · show 0 + 128 ≤ 128; omega)).toLoadRect X

/-- Slab `n` of the values: 256 columns. -/
def valSlab (arg4 : Memref sig .tc .vmem S1x65x144x256 .bf16) (X : BufTy.Contents (Elt F) arg4.view.ty) (n : ℕ) :
    Vec F S1x1x144x256 .bf16 :=
  View.readAt (Elt F) arg4.view (Rect.unit (s := S1x65x144x256) ![0, n % 65, 0, 0] S1x1x144x256.size (by
    have := Nat.mod_lt n (show 0 < 65 by decide); intro a; fin_cases a
    · show 0 + 1 ≤ 1; omega
    · show n % 65 + 1 ≤ 65; omega
    · show 0 + 144 ≤ 144; omega
    · show 0 + 256 ≤ 256; omega)).toLoadRect X

/-- The query block whole. -/
def queries (arg2 : Memref sig .tc .vmem S1x1x128x512 .bf16) (X : BufTy.Contents (Elt F) arg2.view.ty) :
    Vec F S1x1x128x512 .bf16 :=
  View.readAt (Elt F) arg2.view (Rect.unit (s := S1x1x128x512) ![0, 0, 0, 0] S1x1x128x512.size inb_S1x1x128x512_S1x1x128x512_0_0_0_0).toLoadRect X

/-- A load of the newest piece's own rectangle reads the piece, whatever was there before. -/
theorem readAt_newest {sp : Space} {s : Shape} {e : EltTy} (v : View sig .tc sp s e) (f : v.ty.Contents (Elt F)) (r : Rect s)
    (w : r.shape.Idx → Elt F e) (L : List (View.Piece (Elt F) s e)) :
    v.readAt (Elt F) r.toLoadRect (v.writes (Elt F) f (⟨r, w⟩ :: L)) = w :=
  funext fun j => View.read_writes_cons_emb v f r w L j

/-- A load clear of the newest piece reads what the older pieces left. -/
theorem readAt_older {sp : Space} {s : Shape} {e : EltTy} (v : View sig .tc sp s e) (f : v.ty.Contents (Elt F)) (r : Rect s)
    (w : r.shape.Idx → Elt F e) (L : List (View.Piece (Elt F) s e)) (b : LoadRect s) (h : LoadRect.disj r b = true) :
    v.readAt (Elt F) b (v.writes (Elt F) f (⟨r, w⟩ :: L)) = v.readAt (Elt F) b (v.writes (Elt F) f L) :=
  funext fun j => by
    rw [View.writes_cons]
    exact View.read_slice_write_of_not_mem r _ _ _ (by rw [Rect.map_emb_univ]; exact LoadRect.idx_not_mem_of_disj h j)

variable (c : Dev nD) (i : grid0.Coords) (arg2 : Memref sig .tc .vmem S1x1x128x512 .bf16) (harg2 : arg2.IsWhole) (arg3 : Memref sig .tc .vmem S16640x128 .bf16) (harg3 : arg3.IsWhole) (arg4 : Memref sig .tc .vmem S1x65x144x256 .bf16) (harg4 : arg4.IsWhole) (arg5 : Memref sig .tc .vmem S4x64 .f32) (harg5 : arg5.IsWhole) (arg6 : Memref sig .tc .vmem S1x128x256 .f32) (harg6 : arg6.IsWhole) (arg7 : Memref sig .tc .vmem S1x512 .f32) (harg7 : arg7.IsWhole) (arg8 : Memref sig .tc .vmem S144x512 .f32) (harg8 : arg8.IsWhole) (arg9 : Memref sig .tc .vmem S4x512x512 .f32) (harg9 : arg9.IsWhole) (arg10 : Memref sig .tc .vmem S256x512 .f32) (harg10 : arg10.IsWhole) (arg1 : BitVec 32) (h2 : k0_cond2 i = 1#1) (X_arg2 : BufTy.Contents (Elt F) arg2.view.ty) (X_arg3 : BufTy.Contents (Elt F) arg3.view.ty) (X_arg4 : BufTy.Contents (Elt F) arg4.view.ty)

/-- What the trip leaves: the scores of the next two chunks' maxima, the running maxima and sums after 24 chunks over
    what it finds, and the next two chunks' scores. -/
theorem trip_left (k : Fin (k0_t1_loop i).trips) (acc : FVec F S1x512 .f32 × FVec F S1x512 .f32)
    (f7 : BufTy.Contents (Elt F) arg7.view.ty) (f8 : BufTy.Contents (Elt F) arg8.view.ty) (f9 : BufTy.Contents (Elt F) arg9.view.ty) :
    ∃ r7 r8 r9, (trip_k0_t1 (F := F) Variants.none c none i arg2 harg2 arg3 harg3 arg4 harg4 arg5 harg5 arg6 harg6 arg7 harg7 arg8 harg8 arg9 harg9 arg10 harg10 arg1 h2 X_arg2 X_arg3 X_arg4 k).1 acc f7 f8 f9 = (k0_pay4 (keyRows arg3 X_arg3 24) (queries arg2 X_arg2), k0_pay4 (keyRows arg3 X_arg3 25) (queries arg2 X_arg2))
      ∧ (trip_k0_t1 (F := F) Variants.none c none i arg2 harg2 arg3 harg3 arg4 harg4 arg5 harg5 arg6 harg6 arg7 harg7 arg8 harg8 arg9 harg9 arg10 harg10 arg1 h2 X_arg2 X_arg3 X_arg4 k).2.1 acc f7 f8 f9
        = ⟨Rect.unit (s := S1x512) ![0, 0] S1x512.size inb_S1x512_S1x512_0_0, (chunks (queries arg2 X_arg2) (keyRows arg3 X_arg3) (valSlab arg4 X_arg4)
            (View.readAt (Elt F) arg7.view (Rect.unit (s := S1x512) ![0, 0] S1x512.size inb_S1x512_S1x512_0_0).toLoadRect f7, View.readAt (Elt F) arg8.view (Rect.unit (s := S144x512) ![0, 0] S144x512.size inb_S144x512_S144x512_0_0).toLoadRect f8) 24).1⟩ :: r7
      ∧ (trip_k0_t1 (F := F) Variants.none c none i arg2 harg2 arg3 harg3 arg4 harg4 arg5 harg5 arg6 harg6 arg7 harg7 arg8 harg8 arg9 harg9 arg10 harg10 arg1 h2 X_arg2 X_arg3 X_arg4 k).2.2.1 acc f7 f8 f9
        = ⟨Rect.unit (s := S144x512) ![0, 0] S144x512.size inb_S144x512_S144x512_0_0, (chunks (queries arg2 X_arg2) (keyRows arg3 X_arg3) (valSlab arg4 X_arg4)
            (View.readAt (Elt F) arg7.view (Rect.unit (s := S1x512) ![0, 0] S1x512.size inb_S1x512_S1x512_0_0).toLoadRect f7, View.readAt (Elt F) arg8.view (Rect.unit (s := S144x512) ![0, 0] S144x512.size inb_S144x512_S144x512_0_0).toLoadRect f8) 24).2⟩ :: r8
      ∧ (trip_k0_t1 (F := F) Variants.none c none i arg2 harg2 arg3 harg3 arg4 harg4 arg5 harg5 arg6 harg6 arg7 harg7 arg8 harg8 arg9 harg9 arg10 harg10 arg1 h2 X_arg2 X_arg3 X_arg4 k).2.2.2.1 acc f7 f8 f9
        = ⟨Rect.unit (s := S4x512x512) ![1, 0, 0] S1x512x512.size inb_S4x512x512_S1x512x512_1_0_0, k0_pay3 (keyRows arg3 X_arg3 25) (queries arg2 X_arg2)⟩
          :: ⟨Rect.unit (s := S4x512x512) ![0, 0, 0] S1x512x512.size inb_S4x512x512_S1x512x512_0_0_0, k0_pay3 (keyRows arg3 X_arg3 24) (queries arg2 X_arg2)⟩ :: r9 := by
  unfold trip_k0_t1
  sl_unfold_run_names
  simp (disch := decide) only [↓ View.readCov_skip, ↓ View.readCov_cons_toLoadRect]
  exact ⟨_, _, _, rfl, rfl, rfl, rfl⟩

/-- The first loop makes one trip. -/
theorem first_trips : (k0_t1_loop i).trips = 1 := by
  have h : (i 1).val < 65 := (i 1).isLt
  unfold k0_t1_loop Scf.Loop.trips
  generalize (i 1).val = j at h
  revert h
  revert j
  decide

/-- The second loop makes none. -/
theorem second_trips : (k0_t2_loop i).trips = 0 := by
  have h : (i 1).val < 65 := (i 1).isLt
  unfold k0_t2_loop Scf.Loop.trips
  generalize (i 1).val = j at h
  revert h
  revert j
  decide

/-- What the first loop leaves: its one trip's words. -/
theorem first_left (init : FVec F S1x512 .f32 × FVec F S1x512 .f32) (f7 : BufTy.Contents (Elt F) arg7.view.ty) (f8 : BufTy.Contents (Elt F) arg8.view.ty) (f9 : BufTy.Contents (Elt F) arg9.view.ty) :
    ∃ r7 r8 r9, (st_k0_t1 (F := F) Variants.none c none i arg2 harg2 arg3 harg3 arg4 harg4 arg5 harg5 arg6 harg6 arg7 harg7 arg8 harg8 arg9 harg9 arg10 harg10 arg1 h2 X_arg2 X_arg3 X_arg4 f7 f8 f9 init (Scf.trips (k0_t1_loop i).lb (k0_t1_loop i).ub (k0_t1_loop i).st))
      = ((k0_pay4 (keyRows arg3 X_arg3 24) (queries arg2 X_arg2), k0_pay4 (keyRows arg3 X_arg3 25) (queries arg2 X_arg2)),
        ⟨Rect.unit (s := S1x512) ![0, 0] S1x512.size inb_S1x512_S1x512_0_0, (chunks (queries arg2 X_arg2) (keyRows arg3 X_arg3) (valSlab arg4 X_arg4)
            (View.readAt (Elt F) arg7.view (Rect.unit (s := S1x512) ![0, 0] S1x512.size inb_S1x512_S1x512_0_0).toLoadRect f7, View.readAt (Elt F) arg8.view (Rect.unit (s := S144x512) ![0, 0] S144x512.size inb_S144x512_S144x512_0_0).toLoadRect f8) 24).1⟩ :: r7,
        ⟨Rect.unit (s := S144x512) ![0, 0] S144x512.size inb_S144x512_S144x512_0_0, (chunks (queries arg2 X_arg2) (keyRows arg3 X_arg3) (valSlab arg4 X_arg4)
            (View.readAt (Elt F) arg7.view (Rect.unit (s := S1x512) ![0, 0] S1x512.size inb_S1x512_S1x512_0_0).toLoadRect f7, View.readAt (Elt F) arg8.view (Rect.unit (s := S144x512) ![0, 0] S144x512.size inb_S144x512_S144x512_0_0).toLoadRect f8) 24).2⟩ :: r8,
        ⟨Rect.unit (s := S4x512x512) ![1, 0, 0] S1x512x512.size inb_S4x512x512_S1x512x512_1_0_0, k0_pay3 (keyRows arg3 X_arg3 25) (queries arg2 X_arg2)⟩
          :: ⟨Rect.unit (s := S4x512x512) ![0, 0, 0] S1x512x512.size inb_S4x512x512_S1x512x512_0_0_0, k0_pay3 (keyRows arg3 X_arg3 24) (queries arg2 X_arg2)⟩ :: r9) := by
  have h0 : 0 < (k0_t1_loop i).trips := by rw [first_trips]; decide
  obtain ⟨r7, r8, r9, e0, e7, e8, e9⟩ := trip_left c i arg2 harg2 arg3 harg3 arg4 harg4 arg5 harg5 arg6 harg6 arg7 harg7 arg8 harg8 arg9 harg9 arg10 harg10 arg1 h2 X_arg2 X_arg3 X_arg4 ⟨0, h0⟩ init f7 f8 f9
  rw [show Scf.trips (k0_t1_loop i).lb (k0_t1_loop i).ub (k0_t1_loop i).st = (⟨0, h0⟩ : Fin (k0_t1_loop i).trips).val + 1 from first_trips i,
    st_k0_t1_succ]
  refine ⟨r7, r8, r9, ?_⟩
  show (_, _ ++ [], _ ++ [], _ ++ []) = _
  simp only [List.append_nil]
  exact Prod.ext e0 (Prod.ext e7 (Prod.ext e8 e9))

/-- No trips of the second loop leave everything as it was. -/
theorem none_left (v55 : BitVec 32) (init : FVec F S1x512 .f32 × FVec F S1x512 .f32) (f7 : BufTy.Contents (Elt F) arg7.view.ty) (f8 : BufTy.Contents (Elt F) arg8.view.ty) (f9 : BufTy.Contents (Elt F) arg9.view.ty) :
    (st_k0_t2 (F := F) Variants.none c none i arg2 harg2 arg3 harg3 arg4 harg4 arg5 harg5 arg6 harg6 arg7 harg7 arg8 harg8 arg9 harg9 arg10 harg10 arg1 h2 v55 X_arg2 X_arg3 X_arg4 f7 f8 f9 init 0) = (init, [], [], []) := rfl

end Cert.Kernel2Ideal.Body

end
-- ==== Proof.Found2Ideal.lean ====
/-
  What the body leaves in the block it writes, in the words of the chain: the sums over every key a block of latent
  queries sees (the context keys alone on the block of context queries), divided by the row that sums the weights, the
  first component's less lambda times the second's. It says nothing of what the scratch buffers held before.
-/
module

public import proofs.«01_k».proof.Proof.Body2Ideal
public import proofs.«01_k».proof.Proof.Chain2Ideal

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.Sem

variable {F : FTy → Type} [FloatOps F]

/-- The running maxima and sums before any key: no maximum yet, and nothing summed. -/
def start : Running F := (k0_pay446, k0_pay447)

/-- The update by the context keys, of which there are 256: the sums it leaves. -/
def ctxSums (Q : Vec F S1x1x128x512 .bf16) (K : Vec F S256x128 .bf16) (V : Vec F S1x1x144x256 .bf16) (s : Running F) :
    Vec F S144x512 .f32 :=
  k0_pay453 (k0_pay443 (k0_pay433 K Q) s.1) (k0_pay444 (k0_pay433 K Q) (k0_pay432 K Q) s.1) (k0_pay445 V) s.2

/-- The context update, as the body's steps compute it. -/
theorem k0_pay451_eq (Q : Vec F S1x1x128x512 .bf16) (K : Vec F S256x128 .bf16) (V : Vec F S1x1x144x256 .bf16) (m : Vec F S1x512 .f32)
    (a : Vec F S144x512 .f32) : k0_pay451 K Q (k0_pay449 K Q) m V a = ctxSums Q K V (m, a) := by
  unfold k0_pay451 ctxSums k0_pay453 k0_pay449 k0_pay432 k0_pay443 k0_pay444 k0_pay445 k0_pay442 k0_pay450 k0_pay433
  rfl

/-- The context keys: the last 256 rows. -/
def ctxRows (arg3 : Memref sig .tc .vmem S16640x128 .bf16) (X : BufTy.Contents (Elt F) arg3.view.ty) : Vec F S256x128 .bf16 :=
  View.readAt (Elt F) arg3.view (Rect.unit (s := S16640x128) ![16384, 0] S256x128.size inb_S16640x128_S256x128_16384_0).toLoadRect X

/-- The parameters of lambda whole. -/
def params (arg5 : Memref sig .tc .vmem S4x64 .f32) (X : BufTy.Contents (Elt F) arg5.view.ty) : Vec F S4x64 .f32 :=
  View.readAt (Elt F) arg5.view (Rect.unit (s := S4x64) ![0, 0] S4x64.size inb_S4x64_S4x64_0_0).toLoadRect X

/-- The block written, from the parameters and the sums: the first 256 columns over their row of summed weights, less
    lambda times the other 256 over theirs. -/
def pieces (p : Vec F S4x64 .f32) (A : Vec F S144x512 .f32) : List (View.Piece (Elt F) S1x128x256 .f32) :=
  [⟨Rect.unit (s := S1x128x256) ![0, 0, 0] S1x128x256.size inb_S1x128x256_S1x128x256_0_0_0, k0_pay1 (k0_pay455 p) (k0_pay456 (View.ld A (Rect.unit (s := S144x512) ![128, 0] S1x512.size inb_S144x512_S1x512_128_0))) (View.ld A (Rect.unit (s := S144x512) ![0, 0] S128x256.size inb_S144x512_S128x256_0_0)) (View.ld A (Rect.unit (s := S144x512) ![0, 256] S128x256.size inb_S144x512_S128x256_0_256))⟩]

variable (c : Dev nD) (i : grid0.Coords) (arg2 : Memref sig .tc .vmem S1x1x128x512 .bf16) (harg2 : arg2.IsWhole) (arg3 : Memref sig .tc .vmem S16640x128 .bf16) (harg3 : arg3.IsWhole) (arg4 : Memref sig .tc .vmem S1x65x144x256 .bf16) (harg4 : arg4.IsWhole) (arg5 : Memref sig .tc .vmem S4x64 .f32) (harg5 : arg5.IsWhole) (arg6 : Memref sig .tc .vmem S1x128x256 .f32) (harg6 : arg6.IsWhole) (arg7 : Memref sig .tc .vmem S1x512 .f32) (harg7 : arg7.IsWhole) (arg8 : Memref sig .tc .vmem S144x512 .f32) (harg8 : arg8.IsWhole) (arg9 : Memref sig .tc .vmem S4x512x512 .f32) (harg9 : arg9.IsWhole) (arg10 : Memref sig .tc .vmem S256x512 .f32) (harg10 : arg10.IsWhole) (h2 : k0_cond2 i = 1#1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty)

/-- The block of context queries. -/
theorem context_left (h1 : Scalar.cmpi .ne (Scalar.extui (Scalar.xori (Scalar.cmpi .slt (BitVec.ofNat 32 (i 1).val) 64#32) 1#1) : BitVec 32) 0#32 = 1#1) (h2 : k0_cond2 i ≠ 1#1) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) :
    (runContext (F := F) c i arg2 harg2 arg3 harg3 arg4 harg4 arg5 harg5 arg6 harg6 arg7 harg7 arg8 harg8 arg9 harg9 arg10 harg10 h1 h2 X_arg2 X_arg3 X_arg4 X_arg5).1 f_arg6 f_arg7 f_arg8 f_arg9 f_arg10
      = pieces (params arg5 X_arg5) (ctxSums (queries arg2 X_arg2) (ctxRows arg3 X_arg3) (valSlab arg4 X_arg4 64) start) := by
  unfold runContext
  sl_unfold_run_names
  simp (disch := decide) only [↓ View.readCov_skip, ↓ View.readCov_cons_toLoadRect, View.readCov_fill, k0_pay451_eq]
  rfl

/-- A block of latent queries. -/
theorem latent_left (h1 : Scalar.cmpi .ne (Scalar.extui (Scalar.xori (Scalar.cmpi .slt (BitVec.ofNat 32 (i 1).val) 64#32) 1#1) : BitVec 32) 0#32 ≠ 1#1) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) :
    (runLatent (F := F) c i arg2 harg2 arg3 harg3 arg4 harg4 arg5 harg5 arg6 harg6 arg7 harg7 arg8 harg8 arg9 harg9 arg10 harg10 h1 h2 X_arg2 X_arg3 X_arg4 X_arg5).1 f_arg6 f_arg7 f_arg8 f_arg9 f_arg10
      = pieces (params arg5 X_arg5) (ctxSums (queries arg2 X_arg2) (ctxRows arg3 X_arg3) (valSlab arg4 X_arg4 64)
          (chunks (queries arg2 X_arg2) (keyRows arg3 X_arg3) (valSlab arg4 X_arg4) start 32)) := by
  choose r7 r8 r9 e using first_left (F := F) c i arg2 harg2 arg3 harg3 arg4 harg4 arg5 harg5 arg6 harg6 arg7 harg7 arg8 harg8 arg9 harg9 arg10 harg10 (BitVec.ofNat 32 ↑(i 1)) h2 X_arg2 X_arg3 X_arg4
  unfold runLatent
  sl_unfold_run_names
  have hz := second_trips i
  dsimp only [k0_t2_loop, Scf.Loop.trips] at hz
  have e2 := none_left (F := F) c i arg2 harg2 arg3 harg3 arg4 harg4 arg5 harg5 arg6 harg6 arg7 harg7 arg8 harg8 arg9 harg9 arg10 harg10 (BitVec.ofNat 32 ↑(i 1)) h2 X_arg2 X_arg3 X_arg4
  simp only [hz]
  simp only [e]
  rw [e2]
  simp only [e2, List.nil_append, List.cons_append]
  simp (disch := decide) only [↓ View.readCov_skip, ↓ View.readCov_cons_toLoadRect, ↓ readAt_newest, ↓ readAt_older, View.readCov_fill]

  rfl

end Cert.Kernel2Ideal.Body

end
-- ==== Proof.Region2Ideal.lean ====
/-
  The whole run of the kernel: at every point of the grid the body leaves the block of outputs the chain of updates
  gives, from the blocks of queries, keys and values of that point and the parameters of lambda; the arguments stay as they were and every
  semaphore is back at zero.
-/
module

public import proofs.«01_k».proof.Proof.Found2Ideal
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.Quiescent

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The query block whole, of a block's words. -/
def queriesOf (q : Vec F S1x1x128x512 .bf16) : Vec F S1x1x128x512 .bf16 :=
  View.ld q (Rect.unit (s := S1x1x128x512) ![0, 0, 0, 0] S1x1x128x512.size inb_S1x1x128x512_S1x1x128x512_0_0_0_0)

/-- Chunk `t` of the keys, of a block's words. -/
def keyRowsOf (k : Vec F S16640x128 .bf16) (t : ℕ) : Vec F S512x128 .bf16 :=
  View.ld k (Rect.unit (s := S16640x128) ![512 * (t % 32), 0] S512x128.size (by
    have := Nat.mod_lt t (show 0 < 32 by decide); intro a; fin_cases a
    · show 512 * (t % 32) + 512 ≤ 16640; omega
    · show 0 + 128 ≤ 128; omega))

/-- The context keys, of a block's words. -/
def ctxRowsOf (k : Vec F S16640x128 .bf16) : Vec F S256x128 .bf16 :=
  View.ld k (Rect.unit (s := S16640x128) ![16384, 0] S256x128.size inb_S16640x128_S256x128_16384_0)

/-- Slab `n` of the values, of a block's words. -/
def valSlabOf (v : Vec F S1x65x144x256 .bf16) (n : ℕ) : Vec F S1x1x144x256 .bf16 :=
  View.ld v (Rect.unit (s := S1x65x144x256) ![0, n % 65, 0, 0] S1x1x144x256.size (by
    have := Nat.mod_lt n (show 0 < 65 by decide); intro a; fin_cases a
    · show 0 + 1 ≤ 1; omega
    · show n % 65 + 1 ≤ 65; omega
    · show 0 + 144 ≤ 144; omega
    · show 0 + 256 ≤ 256; omega))

/-- The sums over the context keys after `n` chunks of the others. -/
def sumsOf (n : ℕ) (q : Vec F S1x1x128x512 .bf16) (k : Vec F S16640x128 .bf16) (v : Vec F S1x65x144x256 .bf16) : Vec F S144x512 .f32 :=
  ctxSums (queriesOf q) (ctxRowsOf k) (valSlabOf v 64) (chunks (queriesOf q) (keyRowsOf k) (valSlabOf v) start n)

/-- The chunks a block of queries sees beside the context keys: all 32 for latent queries, none for context queries. -/
def seen (i : grid0.Coords) : ℕ := if k0_cond2 i = 1#1 then 32 else 0

/-- The parameters of lambda whole, of a block's words. -/
def paramsOf (p : Vec F S4x64 .f32) : Vec F S4x64 .f32 :=
  View.ld p (Rect.unit (s := S4x64) ![0, 0] S4x64.size inb_S4x64_S4x64_0_0)

/-- The block the body writes. -/
def outOf (n : ℕ) (q : Vec F S1x1x128x512 .bf16) (k : Vec F S16640x128 .bf16) (v : Vec F S1x65x144x256 .bf16) (p : Vec F S4x64 .f32) : Vec F S1x128x256 .f32 :=
  View.canon (pieces (paramsOf p) (sumsOf n q k v))

/-- The piece covers the block. -/
theorem pieces_cover (p : Vec F S4x64 .f32) (A : Vec F S144x512 .f32) (y : S1x128x256.Idx) : ∃ pc ∈ pieces p A, y ∈ pc.1.set := by
  unfold pieces
  exact View.cover_of_tiled [⟨Rect.unit (s := S1x128x256) ![0, 0, 0] S1x128x256.size inb_S1x128x256_S1x128x256_0_0_0, _⟩] S1x128x256.size (by rfl) y

/-- The body's two branches are taken one or the other. -/
theorem branches (i : grid0.Coords) : (Scalar.cmpi .ne (Scalar.extui (Scalar.xori (Scalar.cmpi .slt (BitVec.ofNat 32 (i 1).val) 64#32) 1#1) : BitVec 32) 0#32 = 1#1) ↔ ¬ k0_cond2 i = 1#1 := by
  have h : (i 1).val < 65 := (i 1).isLt
  unfold k0_cond2
  generalize (i 1).val = j at h
  revert h
  revert j
  decide

set_option maxHeartbeats 1000000 in
/-- The body, from the blocks it reads to the block it writes. -/
theorem sound_kernel (c : Dev nD) (i : grid0.Coords) (arg2 : Memref sig .tc .vmem S1x1x128x512 .bf16) (harg2 : arg2.IsWhole) (arg3 : Memref sig .tc .vmem S16640x128 .bf16) (harg3 : arg3.IsWhole) (arg4 : Memref sig .tc .vmem S1x65x144x256 .bf16) (harg4 : arg4.IsWhole) (arg5 : Memref sig .tc .vmem S4x64 .f32) (harg5 : arg5.IsWhole) (arg6 : Memref sig .tc .vmem S1x128x256 .f32) (harg6 : arg6.IsWhole) (arg7 : Memref sig .tc .vmem S1x512 .f32) (harg7 : arg7.IsWhole) (arg8 : Memref sig .tc .vmem S144x512 .f32) (harg8 : arg8.IsWhole) (arg9 : Memref sig .tc .vmem S4x512x512 .f32) (harg9 : arg9.IsWhole) (arg10 : Memref sig .tc .vmem S256x512 .f32) (harg10 : arg10.IsWhole)
    (x2 : Vec F S1x1x128x512 .bf16) (x3 : Vec F S16640x128 .bf16) (x4 : Vec F S1x65x144x256 .bf16) (x5 : Vec F S4x64 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outOf (seen i) x2 x3 x4 x5) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) Set.univ (cc0_diff_attn (F := F) i arg2 harg2 arg3 harg3 arg4 harg4 arg5 harg5 arg6 harg6 arg7 harg7 arg8 harg8 arg9 harg9 arg10 harg10) K := by
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf2 hf3 hf4 hf5
  have key : ∃ L, L = pieces (paramsOf (arg5.view.read (Elt F) f5)) (sumsOf (seen i) (arg2.view.read (Elt F) f2) (arg3.view.read (Elt F) f3) (arg4.view.read (Elt F) f4))
      ∧ (Held (F := F) c arg2 arg3 arg4 arg5 arg6 arg7 arg8 arg9 arg10 f2 f3 f4 f5 f6 f7 f8 f9 f10
      ⊢ wp frame (wpE (defs₀ (F := F)) Variants.none (c : Thread nD τ) none) Set.univ (cc0_diff_attn (F := F) i arg2 harg2 arg3 harg3 arg4 harg4 arg5 harg5 arg6 harg6 arg7 harg7 arg8 harg8 arg9 harg9 arg10 harg10)
          (fun _ => Left (F := F) c arg2 arg3 arg4 arg5 arg6 arg7 arg8 arg9 arg10 f2 f3 f4 f5 (arg6.view.writes (Elt F) f6 L))) := by
    by_cases h2 : k0_cond2 i = 1#1
    · have h1 := mt (branches i).1 (not_not.2 h2)
      exact ⟨_, by unfold seen; rw [if_pos h2, latent_left]; rfl, (runLatent (F := F) c i arg2 harg2 arg3 harg3 arg4 harg4 arg5 harg5 arg6 harg6 arg7 harg7 arg8 harg8 arg9 harg9 arg10 harg10 h1 h2 f2 f3 f4 f5).2 f6 f7 f8 f9 f10⟩
    · have h1 := (branches i).2 h2
      exact ⟨_, by unfold seen; rw [if_neg h2, context_left]; rfl, (runContext (F := F) c i arg2 harg2 arg3 harg3 arg4 harg4 arg5 harg5 arg6 harg6 arg7 harg7 arg8 harg8 arg9 harg9 arg10 harg10 h1 h2 f2 f3 f4 f5).2 f6 f7 f8 f9 f10⟩
  obtain ⟨L, hL, run⟩ := key
  subst hL
  iapply (wp_wand_r frame (wpE (defs₀ (F := F)) Variants.none (c : Thread nD τ) none) Set.univ
    (Q := fun _ => Left (F := F) c arg2 arg3 arg4 arg5 arg6 arg7 arg8 arg9 arg10 f2 f3 f4 f5 (arg6.view.writes (Elt F) f6 (pieces (paramsOf (arg5.view.read (Elt F) f5)) (sumsOf (seen i) (arg2.view.read (Elt F) f2) (arg3.view.read (Elt F) f3) (arg4.view.read (Elt F) f4))))))
  isplitl [H2 H3 H4 H5 H6 H7 H8 H9 H10]
  · iapply run
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %a HL
  icases HL with ⟨H2, H3, H4, H5, H6, ⟨%g7, H7⟩, ⟨%g8, H8⟩, ⟨%g9, H9⟩, ⟨%g10, H10⟩⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (pieces_cover _ _)
  isplitl [H7]
  · iexists _; iexists g7; isplitr; · ipureintro; rfl
    iexact H7
  isplitl [H8]
  · iexists _; iexists g8; isplitr; · ipureintro; rfl
    iexact H8
  isplitl [H9]
  · iexists _; iexists g9; isplitr; · ipureintro; rfl
    iexact H9
  iexists _; iexists g10; isplitr; · ipureintro; rfl
  iexact H10

variable (m : (ℓ : Loc nD τ sig) → Buf (Elt F) ℓ) (ρ : Dev nD → PrngReg)

/-- What the windows hold at each point: the inputs their blocks, the output the block the body writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (seen (grid0.coords t)) (iblk m c 0 t) (iblk m c 1 t) (iblk m c 2 t) (iblk m c 3 t)
  Φ _ := Pipeline.ΦA spec0 c
  q _ := fullShare
  owed _ := 0

/-- Each window's array is the launched one. -/
theorem A_eq (c : Dev nD) (w : Fin cfg0.W) : (dats m 0 c).A w = V m c (Pipeline.arrRef spec0 w) := rfl
/-- The query window holds its block. -/
theorem after0_0 (c : Dev nD) (t : Fin cfg0.N) : (dats m 0 c).after 0 t = iblk m c 0 t := by dsimp only [dats]
/-- The key window holds its block. -/
theorem after0_1 (c : Dev nD) (t : Fin cfg0.N) : (dats m 0 c).after 1 t = iblk m c 1 t := by dsimp only [dats]
/-- The value window holds its block. -/
theorem after0_2 (c : Dev nD) (t : Fin cfg0.N) : (dats m 0 c).after 2 t = iblk m c 2 t := by dsimp only [dats]
/-- The parameter window holds its block. -/
theorem after0_3 (c : Dev nD) (t : Fin cfg0.N) : (dats m 0 c).after 3 t = iblk m c 3 t := by dsimp only [dats]
/-- The output window holds what the body writes. -/
theorem after0_4 (c : Dev nD) (t : Fin cfg0.N) : (dats m 0 c).after 4 t
    = outOf (seen (grid0.coords t)) (iblk m c 0 t) (iblk m c 1 t) (iblk m c 2 t) (iblk m c 3 t) := by dsimp only [dats]
/-- The query window holds, before the body runs, its block. -/
theorem before0_0 (c : Dev nD) (t : Fin cfg0.N) (d) : (dats m 0 c).before 0 t d = iblk m c 0 t :=
  before0_0_of m (dats m 0 c) (A_eq m c 0) (after0_0 m c) t d
/-- The key window holds, before the body runs, its block. -/
theorem before0_1 (c : Dev nD) (t : Fin cfg0.N) (d) : (dats m 0 c).before 1 t d = iblk m c 1 t :=
  before0_1_of m (dats m 0 c) (A_eq m c 1) (after0_1 m c) t d
/-- The value window holds, before the body runs, its block. -/
theorem before0_2 (c : Dev nD) (t : Fin cfg0.N) (d) : (dats m 0 c).before 2 t d = iblk m c 2 t :=
  before0_2_of m (dats m 0 c) (A_eq m c 2) (after0_2 m c) t d
/-- The parameter window holds, before the body runs, its block. -/
theorem before0_3 (c : Dev nD) (t : Fin cfg0.N) (d) : (dats m 0 c).before 3 t d = iblk m c 3 t :=
  before0_3_of m (dats m 0 c) (A_eq m c 3) (after0_3 m c) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at a point: from the windows' contents before it to those after it. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, show (dats m 0 c).Φ t.castSucc = Pipeline.ΦA spec0 c from rfl]
  unfold Pipeline.ΦA
  rw [scopedRest0_eq]
  iintro ⟨⟨⟨⟨%f7, H7⟩, ⟨%f8, H8⟩, ⟨%f9, H9⟩, ⟨%f10, H10⟩⟩, Hr⟩, Ho, ⟨%d0, H0⟩, ⟨%d1, H1⟩, ⟨%d2, H2⟩, ⟨%d3, H3⟩, ⟨%d4, H4⟩⟩
  iapply (sound_kernel c (grid0.coords t) _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H7]; · iexists f7; rw [owns_whole]; iexact H7
  isplitl [H8]; · iexists f8; rw [owns_whole]; iexact H8
  isplitl [H9]; · iexists f9; rw [owns_whole]; iexact H9
  isplitl [H10]; · iexists f10; rw [owns_whole]; iexact H10
  simp only [owns_whole]
  iintro ⟨H0, H1, H2, H3, H4, ⟨%g7, H7⟩, ⟨%g8, H8⟩, ⟨%g9, H9⟩, ⟨%g10, H10⟩⟩
  isplitl [H7 H8 H9 H10 Hr]
  · isplitr [Hr]
    · isplitl [H7]; · iexists g7; iexact H7
      isplitl [H8]; · iexists g8; iexact H8
      isplitl [H9]; · iexists g9; iexact H9
      iexists g10; iexact H10
    · iexact Hr
  isplitl [Ho]; · iexact Ho
  isplitl [H0]; · iexact H0
  isplitl [H1]; · iexact H1
  isplitl [H2]; · iexact H2
  isplitl [H3]; · iexact H3
  iexact H4

/-- The same at every point, as the launch asks for it. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: every array ends as the windows' proof data say, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl) (Q' := _)

/-- The arguments end as they were, and every semaphore counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_with_sems (frame_of m ρ (dats m) (fun _ _ => rfl)) (run_main m ρ)

end Cert.Kernel2Ideal.Body

end
-- ==== Proof.Difference.lean ====
/-
  The difference of two attentions to the same keys, over the extended reals: weighing each value by the difference of
  its two weights comes to the difference of the two weighted sums. Scores, values and the factor are real numbers.
-/
module

public import proofs.«01_k».proof.Proof.Softmax

@[expose] public section

noncomputable section

namespace Cert.Attention

open Idealize.ShloMosaic

variable (s t : ℕ → ℝ) (v : ℕ → EReal)

/-- Attention to real values is a real number. -/
theorem attention_real (n : ℕ) (hv : ∀ r, v r = ((v r).toReal : EReal)) :
    attention s v n = ((∑ k : Fin n, (v k).toReal * weight s n k : ℝ) : EReal) := by
  rw [← coe_sum, Fin.sum_univ_eq_sum_range (fun r => (((v r).toReal * weight s n r : ℝ) : EReal))]
  unfold attention
  refine Finset.sum_congr rfl fun r _ => ?_
  rw [hv r, EReal.coe_mul, EReal.toReal_coe]
  rfl

/-- **The difference**: values weighed by the differences of the weights. -/
theorem difference {n : ℕ} (hn : 0 < n) (L M N : ℝ) (hv : ∀ r, v r = ((v r).toReal : EReal)) :
    ∑ k : Fin n, (Ideal.div (Ideal.exp ((s k : EReal) * (Real.log 2 : EReal) - (M : EReal)))
          (0 + ∑ j : Fin n, Ideal.exp ((s j : EReal) * (Real.log 2 : EReal) - (M : EReal)))
        - (L : EReal) * Ideal.div (Ideal.exp ((t k : EReal) * (Real.log 2 : EReal) - (N : EReal)))
          (0 + ∑ j : Fin n, Ideal.exp ((t j : EReal) * (Real.log 2 : EReal) - (N : EReal)))) * v k
      = attention s v n - (L : EReal) * attention t v n := by
  simp only [weight_eq s hn, weight_eq t hn]
  rw [attention_real s v n hv, attention_real t v n hv, ← EReal.coe_mul, ← EReal.coe_sub, Finset.mul_sum, ← Finset.sum_sub_distrib, ← coe_sum]
  refine Finset.sum_congr rfl fun k _ => ?_
  rw [hv k, ← EReal.coe_mul, ← EReal.coe_sub, ← EReal.coe_mul, EReal.toReal_coe]
  congr 1
  ring

end Cert.Attention

end
-- ==== Proof.Spec2.lean ====
/-
  What the differential call computes, from its arguments, over the extended reals: the difference of two attentions of
  each token's query to the keys it may see, the second multiplied by lambda. The scores are read as real numbers, which
  they are when queries and keys are.
-/
module

public import proofs.«01_k».proof.Proof.Difference
public import proofs.«01_k».proof.Proof.Spec
public import proofs.«01_k».proof.Proof.Region2Ideal
public import Idealize.ShloMosaic.Lib.Pointwise

@[expose] public section

set_option maxRecDepth 16384

noncomputable section

namespace Cert.Differential

open Cert.Kernel2Ideal Cert.Kernel2Ideal.Gen Cert.Attention
open Idealize.ShloMosaic Idealize.ShloMosaic.TcCoe Idealize.SL.Sem

variable (q : FVec Ideal S8x65x128x512 .bf16) (k : FVec Ideal S16640x1024 .bf16) (v : FVec Ideal S8x65x144x256 .bf16) (p : FVec Ideal S4x64 .f32)

/-- Component `c` of key `r` of head `h` against the same component of the query of token `256 i + j`. -/
def keyScore (h : Fin 8) (c : Fin 2) (i : Fin 65) (j : Fin 256) (r : ℕ) : EReal :=
  ∑ d : Fin 64, k (ix2 ⟨r % 16640, Nat.mod_lt _ (by decide)⟩ ⟨128 * h + (64 * c + d), by omega⟩) * q (ix4 h i ⟨64 * c + d, by omega⟩ ⟨256 * c + j, by omega⟩)

/-- Row `e` of the values of head `h` at key `r`. -/
def keyValue (h : Fin 8) (e : Fin 144) (r : ℕ) : EReal :=
  v (ix4 h ⟨r / 256 % 65, Nat.mod_lt _ (by decide)⟩ e ⟨r % 256, Nat.mod_lt _ (by decide)⟩)

/-- The factor of the second attention. -/
def lambda : EReal :=
  Ideal.exp (∑ d : Fin 64, p (ix2 0 d) * p (ix2 1 d)) - Ideal.exp (∑ d : Fin 64, p (ix2 2 d) * p (ix2 3 d)) + Ideal.ofBits .f32 0x3E4CCCCD#32

/-- Attention of component `c` of the query of token `256 i + j`, entry `e`. -/
def part (h : Fin 8) (c : Fin 2) (e : Fin 128) (i : Fin 65) (j : Fin 256) : EReal :=
  attention (fun r => (keyScore q k h c i j (firstKey i + r)).toReal) (fun r => keyValue v h ⟨e, by omega⟩ (firstKey i + r))
    (16640 - firstKey i)

/-- Entry `e` of the output of token `256 i + j` in head `h`. -/
def entry (h : Fin 8) (e : Fin 128) (i : Fin 65) (j : Fin 256) : EReal :=
  part q k v h 0 e i j - lambda p * part q k v h 1 e i j

/-- The output array. -/
def output : FVec Ideal S8x128x16640 .f32 := fun y =>
  entry q k v p ⟨(y 0).val, (y 0).isLt⟩ ⟨(y 1).val, (y 1).isLt⟩
    ⟨(y 2).val / 256, by have := (y 2).isLt; change _ < 16640 at this; omega⟩ ⟨(y 2).val % 256, by omega⟩

/-- The arguments the value is claimed at: queries, keys, values and the parameters of lambda are real numbers, row 128
    of the values is ones, and each component's queries are zero in the rows of the other. -/
structure Good : Prop where
  query : ∀ x, q x = ((q x).toReal : EReal)
  key : ∀ x, k x = ((k x).toReal : EReal)
  value : ∀ h i (e : Fin 128) j, v (ix4 h i ⟨e, by omega⟩ j) = ((v (ix4 h i ⟨e, by omega⟩ j)).toReal : EReal)
  param : ∀ x, p x = ((p x).toReal : EReal)
  ones : ∀ h i j, v (ix4 h i 128 j) = 1
  lower : ∀ h i (d : Fin 64) (j : Fin 256), q (ix4 h i ⟨64 + d, by omega⟩ ⟨j, by omega⟩) = 0
  upper : ∀ h i (d : Fin 64) (j : Fin 256), q (ix4 h i ⟨d, by omega⟩ ⟨256 + j, by omega⟩) = 0

/-- Products of real numbers have a real sum. -/
theorem sum_real {n : ℕ} (f g : Fin n → EReal) (hf : ∀ d, f d = ((f d).toReal : EReal)) (hg : ∀ d, g d = ((g d).toReal : EReal)) :
    ∑ d, f d * g d = ((∑ d, (f d).toReal * (g d).toReal : ℝ) : EReal) := by
  rw [← coe_sum]
  exact Finset.sum_congr rfl fun d _ => by rw [EReal.coe_mul, ← hf, ← hg]

variable (good : Good q k v p)

include good in
/-- Real queries and keys have real scores. -/
theorem keyScore_real (h : Fin 8) (c : Fin 2) (i : Fin 65) (j : Fin 256) (r : ℕ) :
    keyScore q k h c i j r = ((keyScore q k h c i j r).toReal : EReal) := by
  rw [keyScore, sum_real _ _ (fun d => good.key _) (fun d => good.query _), EReal.toReal_coe]

include good in
/-- Real values. -/
theorem keyValue_real (h : Fin 8) (e : Fin 128) (r : ℕ) :
    keyValue v h ⟨e, by omega⟩ r = ((keyValue v h ⟨e, by omega⟩ r).toReal : EReal) := good.value _ _ _ _

/-- The constant of lambda is a real number. -/
theorem init_real : ∃ x : ℝ, Ideal.ofBits .f32 0x3E4CCCCD#32 = (x : EReal) :=
  ⟨13421773 * (2 ^ 26)⁻¹, by simp [Ideal.ofBits, Ideal.ieee, EReal.coe_mul]⟩

include good in
/-- Lambda is a real number. -/
theorem lambda_real : ∃ L : ℝ, lambda p = (L : EReal) := by
  obtain ⟨x, hx⟩ := init_real
  rw [lambda, sum_real _ _ (fun d => good.param _) (fun d => good.param _), sum_real _ _ (fun d => good.param _) (fun d => good.param _), hx,
    Ideal.exp_coe, Ideal.exp_coe, ← EReal.coe_sub, ← EReal.coe_add]
  exact ⟨_, rfl⟩

/-- The 128 rows of one component's queries against a key: the 64 of the component, as the others are zero. -/
theorem halves (f g : Fin 128 → EReal) (c : Fin 2) (h0 : c = 0 → ∀ d : Fin 64, g ⟨64 + d, by omega⟩ = 0) (h1 : c = 1 → ∀ d : Fin 64, g ⟨d, by omega⟩ = 0) :
    ∑ d, f d * g d = ∑ d : Fin 64, f ⟨64 * c + d, by omega⟩ * g ⟨64 * c + d, by omega⟩ := by
  have e : ∑ d, f d * g d = (∑ d : Fin 64, f ⟨d, by omega⟩ * g ⟨d, by omega⟩) + ∑ d : Fin 64, f ⟨64 + d, by omega⟩ * g ⟨64 + d, by omega⟩ :=
    Fin.sum_univ_add (a := 64) (b := 64) fun d => f d * g d
  rw [e]
  obtain rfl | rfl : c = 0 ∨ c = 1 := by omega
  · rw [Finset.sum_eq_zero (s := Finset.univ) (f := fun d : Fin 64 => f ⟨64 + d, by omega⟩ * g ⟨64 + d, by omega⟩) fun d _ => by rw [h0 rfl, mul_zero], add_zero]
    refine Finset.sum_congr rfl fun d _ => congrArg₂ (· * ·) (congrArg f (Fin.ext ?_)) (congrArg g (Fin.ext ?_)) <;> simp
  · rw [Finset.sum_eq_zero (s := Finset.univ) (f := fun d : Fin 64 => f ⟨d, by omega⟩ * g ⟨d, by omega⟩) fun d _ => by rw [h1 rfl, mul_zero], zero_add]
    rfl

end Cert.Differential

end
-- ==== Proof.Output2.lean ====
/-
  The block the differential body writes, at one column and one row, over the extended reals: the first attention less
  lambda times the second. Its sums are the ones of the grouped-query body (Column, Output), read of the same blocks.
-/
module

public import proofs.«01_k».proof.Proof.Region2Ideal
public import proofs.«01_k».proof.Proof.Output
public import proofs.«01_k».proof.Proof.Spec2
public import Idealize.ShloMosaic.Lib.Pointwise
public import Idealize.ShloMosaic.Lib.Pipeline.ValueKit

@[expose] public section

set_option maxRecDepth 16384

noncomputable section

namespace Cert.Kernel2Ideal.Body

open Cert.Kernel2Ideal Cert.Kernel2Ideal.Gen Cert.Differential
open Cert.Attention (attention firstKey)
open Idealize.ShloMosaic Idealize.ShloMosaic.TcCoe Idealize.SL.Sem

/-- Lambda, as the body computes it. -/
theorem lambda_apply (p : FVec Ideal S4x64 .f32) : k0_pay455 (F := Ideal) (paramsOf p) (ix2 0 0) = lambda p := by
  pointwise [k0_pay455, paramsOf]
  unfold lambda
  rfl

/-- A block written, at row `e` and column `j`. -/
theorem pieces_apply (p : FVec Ideal S4x64 .f32) (A : FVec Ideal S144x512 .f32) (e : Fin 128) (j : Fin 256) :
    View.canon (pieces (F := Ideal) p A) (ix3 0 e j)
      = A (ix2 ⟨e, by omega⟩ ⟨j, by omega⟩) * Ideal.div 1 (A (ix2 128 ⟨j, by omega⟩))
        - k0_pay455 (F := Ideal) p (ix2 0 0) * (A (ix2 ⟨e, by omega⟩ ⟨256 + j, by omega⟩) * Ideal.div 1 (A (ix2 128 ⟨256 + j, by omega⟩))) := by
  unfold pieces
  canon_tiles x h
  pointwise [k0_pay1, k0_pay456]
  replace h1 : e.val = (x 1).val := h1
  replace h2 : j.val = (x 2).val := h2
  simp only [h1, h2]

variable (n : ℕ) (hn : n = 0 ∨ n = 32) (q : FVec Ideal S1x1x128x512 .bf16) (k : FVec Ideal S16640x128 .bf16) (v : FVec Ideal S1x65x144x256 .bf16)

/-- One chunk's update is the one of the grouped-query body. -/
theorem chunk_eq (Q : FVec Ideal S1x1x128x512 .bf16) (K : ℕ → FVec Ideal S512x128 .bf16) (V : ℕ → FVec Ideal S1x1x144x256 .bf16) (t : ℕ) (s : Running Ideal) :
    chunk (F := Ideal) Q K V t s = KernelIdeal.Body.chunk (F := Ideal) Q K V t s := rfl

/-- So are the updates in turn. -/
theorem chunks_eq (Q : FVec Ideal S1x1x128x512 .bf16) (K : ℕ → FVec Ideal S512x128 .bf16) (V : ℕ → FVec Ideal S1x1x144x256 .bf16) (s : Running Ideal) (n : ℕ) :
    chunks (F := Ideal) Q K V s n = KernelIdeal.Body.chunks (F := Ideal) Q K V s n := by
  induction n with
  | zero => rfl
  | succ n ih =>
    show chunk Q K V n (chunks Q K V s n) = KernelIdeal.Body.chunk (F := Ideal) Q K V n (KernelIdeal.Body.chunks (F := Ideal) Q K V s n)
    rw [ih, chunk_eq]

/-- The sums are the ones of the grouped-query body. -/
theorem sumsOf_eq : sumsOf (F := Ideal) n q k v = KernelIdeal.Body.sumsOf (F := Ideal) n q k v := by
  unfold sumsOf
  rw [chunks_eq]
  rfl

variable (s t : ℕ → ℝ)

include hn in
/-- **The block written**: of each query, the first component's attention to the keys its block sees, less lambda times
    the second's. -/
theorem outOf_apply (p : FVec Ideal S4x64 .f32) (e : Fin 128) (j : Fin 256)
    (hs : ∀ r, KernelIdeal.Body.score q k ⟨j, by omega⟩ r = (s r : EReal)) (ht : ∀ r, KernelIdeal.Body.score q k ⟨256 + j, by omega⟩ r = (t r : EReal))
    (h1 : ∀ r, KernelIdeal.Body.value v 128 r = 1) :
    outOf (F := Ideal) n q k v p (ix3 0 e j)
      = attention (fun r => s (16384 - 512 * n + r)) (fun r => KernelIdeal.Body.value v ⟨e, by omega⟩ (16384 - 512 * n + r)) (512 * n + 256)
        - lambda p * attention (fun r => t (16384 - 512 * n + r)) (fun r => KernelIdeal.Body.value v ⟨e, by omega⟩ (16384 - 512 * n + r)) (512 * n + 256) := by
  have held := fun c s hs => (KernelIdeal.Body.sumsOf_held n hn q k v c s hs ⟨e, by omega⟩ _ fun _ => rfl).finish _ _ (by omega)
    (KernelIdeal.Body.sumsOf_held n hn q k v c s hs 128 _ fun r => h1 _)
  unfold outOf
  rw [pieces_apply, lambda_apply, sumsOf_eq, held _ s hs, held _ t ht]

end Cert.Kernel2Ideal.Body

end
-- ==== Proof.Value2.lean ====
/-
  The differential kernel's output array, over the extended reals.
-/
module

public import proofs.«01_k».proof.Proof.Output2
public import proofs.«01_k».proof.Proof.Spec2

@[expose] public section

set_option maxRecDepth 16384

noncomputable section

namespace Cert.Kernel2Ideal.Body

open Cert.Kernel2Ideal Cert.Kernel2Ideal.Gen Cert.Differential
open Cert.Attention (attention firstKey)
open Idealize.ShloMosaic Idealize.ShloMosaic.TcCoe Idealize.SL.Sem

variable (m : (ℓ : Loc nD τ sig) → Buf (Elt Ideal) ℓ)

/-- Which blocks each grid point reads and writes. -/
theorem idx : ∀ t : Fin cfg0.N, win0_0.index t = ![t.val / 65, t.val % 65, 0, 0] ∧ win0_1.index t = ![0, t.val / 65]
    ∧ win0_2.index t = ![t.val / 65, 0, 0, 0] ∧ win0_3.index t = ![0, 0] ∧ win0_4.index t = ![t.val / 65, 0, t.val % 65] ∧ t.val < 520 :=
  (by decide +kernel : ∀ t : Fin grid0.N, _)

/-- How many chunks of keys a grid point visits beside the context keys. -/
theorem seen_eq : ∀ t : Fin cfg0.N, seen (grid0.coords t) = if t.val % 65 < 64 then 32 else 0 :=
  (by decide +kernel : ∀ t : Fin grid0.N, _)

variable (c : Dev nD) (t : Fin cfg0.N)

/-- A query block, at a row and a column. -/
theorem query_block (d : Fin 128) (x : Fin 512) (h0 : t.val / 65 < 8) (h1 : t.val % 65 < 65) :
    (iblk m c 0 t : FVec Ideal S1x1x128x512 .bf16) (ix4 0 0 d x)
      = (m ((c : Thread nD τ).loc main_arg0) : FVec Ideal S8x65x128x512 .bf16) (ix4 ⟨t.val / 65, h0⟩ ⟨t.val % 65, h1⟩ d x) := by
  blk_ext [iblk, V, idx t]

/-- A key block, at a row and a column. -/
theorem key_block (r : Fin 16640) (d : Fin 128) (h0 : t.val / 65 < 8) :
    (iblk m c 1 t : FVec Ideal S16640x128 .bf16) (ix2 r d)
      = (m ((c : Thread nD τ).loc main_arg1) : FVec Ideal S16640x1024 .bf16) (ix2 r ⟨128 * (t.val / 65) + d, by omega⟩) := by
  blk_ext [iblk, V, idx t]

/-- A value block, at an index. -/
theorem value_block (i : Fin 65) (e : Fin 144) (j : Fin 256) (h0 : t.val / 65 < 8) :
    (iblk m c 2 t : FVec Ideal S1x65x144x256 .bf16) (ix4 0 i e j)
      = (m ((c : Thread nD τ).loc main_arg2) : FVec Ideal S8x65x144x256 .bf16) (ix4 ⟨t.val / 65, h0⟩ i e j) := by
  blk_ext [iblk, V, idx t]

/-- The parameters of lambda, whole at every grid point. -/
theorem param_block : (iblk m c 3 t : FVec Ideal S4x64 .f32) = (m ((c : Thread nD τ).loc main_arg3) : FVec Ideal S4x64 .f32) := by
  funext y
  obtain ⟨a, b, rfl⟩ : ∃ (a : Fin 4) (b : Fin 64), y = ix2 a b := ⟨y 0, y 1, eq_ix2 (n0 := 4) (n1 := 64) y⟩
  blk_ext [iblk, V, idx t]

variable (good : Good (m ((c : Thread nD τ).loc main_arg0)) (m ((c : Thread nD τ).loc main_arg1)) (m ((c : Thread nD τ).loc main_arg2)) (m ((c : Thread nD τ).loc main_arg3)))

include good in
/-- A block's 128-row scores in the columns of component `x` are the component's. -/
theorem block_score (x : Fin 2) (j : Fin 256) (r : ℕ) (h0 : t.val / 65 < 8) (h1 : t.val % 65 < 65) :
    KernelIdeal.Body.score (iblk m c 0 t : FVec Ideal S1x1x128x512 .bf16) (iblk m c 1 t : FVec Ideal S16640x128 .bf16) ⟨256 * x + j, by omega⟩ r
      = keyScore (m ((c : Thread nD τ).loc main_arg0)) (m ((c : Thread nD τ).loc main_arg1)) ⟨t.val / 65, h0⟩ x ⟨t.val % 65, h1⟩ j r := by
  unfold KernelIdeal.Body.score keyScore
  rw [halves _ _ x]
  · refine Finset.sum_congr rfl fun d _ => ?_
    rw [key_block m c t _ _ h0, query_block m c t _ _ h0 h1]
  · rintro rfl d
    rw [query_block m c t _ _ h0 h1, ← good.lower ⟨t.val / 65, h0⟩ ⟨t.val % 65, h1⟩ d j]
    blk_ext
  · rintro rfl d
    rw [query_block m c t _ _ h0 h1, ← good.upper ⟨t.val / 65, h0⟩ ⟨t.val % 65, h1⟩ d j]
    blk_ext

include good in
/-- What a grid point writes, at an index of its block, is the output entry there. -/
theorem point (e : Fin 128) (j : Fin 256) (h0 : t.val / 65 < 8) (h1 : t.val % 65 < 65) :
    outOf (F := Ideal) (seen (grid0.coords t)) (iblk m c 0 t) (iblk m c 1 t) (iblk m c 2 t) (iblk m c 3 t) (ix3 0 e j)
      = entry (m ((c : Thread nD τ).loc main_arg0)) (m ((c : Thread nD τ).loc main_arg1)) (m ((c : Thread nD τ).loc main_arg2))
          (m ((c : Thread nD τ).loc main_arg3)) ⟨t.val / 65, h0⟩ e ⟨t.val % 65, h1⟩ j := by
  have hs := fun (x : Fin 2) r => (block_score m c t good x j r h0 h1).trans (keyScore_real _ _ _ _ good _ _ _ _ _)
  have hv : ∀ e r, KernelIdeal.Body.value (iblk m c 2 t : FVec Ideal S1x65x144x256 .bf16) e r = keyValue (m ((c : Thread nD τ).loc main_arg2)) ⟨t.val / 65, h0⟩ e r :=
    fun e r => value_block m c t _ e _ h0
  have e1 : 16384 - 512 * seen (grid0.coords t) = firstKey ⟨t.val % 65, h1⟩ := by
    rw [seen_eq, firstKey]; dsimp only; split <;> rfl
  have e2 : 512 * seen (grid0.coords t) + 256 = 16640 - firstKey ⟨t.val % 65, h1⟩ := by
    rw [seen_eq, firstKey]; dsimp only; split <;> rfl
  have hw : (fun r => KernelIdeal.Body.value (iblk m c 2 t : FVec Ideal S1x65x144x256 .bf16) ⟨e, by omega⟩ (firstKey ⟨t.val % 65, h1⟩ + r))
      = fun r => keyValue (m ((c : Thread nD τ).loc main_arg2)) ⟨t.val / 65, h0⟩ ⟨e, by omega⟩ (firstKey ⟨t.val % 65, h1⟩ + r) := funext fun r => hv _ _
  have h128 : ∀ r, KernelIdeal.Body.value (iblk m c 2 t : FVec Ideal S1x65x144x256 .bf16) 128 r = 1 := fun r => (hv _ r).trans (good.ones _ _ _)
  refine (outOf_apply (seen (grid0.coords t)) (by rw [seen_eq]; split <;> simp) (iblk m c 0 t) (iblk m c 1 t) (iblk m c 2 t) _ _ (iblk m c 3 t) e j
    (fun r => Eq.trans ?_ (hs 0 r)) (fun r => hs 1 r) h128).trans ?_
  · exact congrArg (fun x => KernelIdeal.Body.score _ _ x r) (Fin.ext (by simp))
  rw [e1, e2, hw, param_block]
  rfl

include good in
/-- **The kernel's output array** is the output. -/
theorem final : (dats m 0 c).arrAt 4 (cfgs 0).N
      = output (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  have ht : t.val < 520 := (idx t).2.2.2.2.2
  have b0 : (y 0).val < 1 := (y 0).isLt
  have b2 : (y 2).val < 256 := (y 2).isLt
  have f0 : (((cfg0.win 4).blk t).view.emb y 0).val = t.val / 65 + (y 0).val := by blk_simp [idx t]
  have f1 : (((cfg0.win 4).blk t).view.emb y 1).val = (y 1).val := by blk_simp [idx t]
  have f2 : (((cfg0.win 4).blk t).view.emb y 2).val = t.val % 65 * 256 + (y 2).val := by blk_simp [idx t]
  refine Eq.trans ?_ ((point m c t good ⟨(y 1).val, (y 1).isLt⟩ ⟨(y 2).val, (y 2).isLt⟩ (by omega) (by omega)).trans ?_)
  · refine congrArg (outOf (F := Ideal) (seen (grid0.coords t)) (iblk m c 0 t) (iblk m c 1 t) (iblk m c 2 t) (iblk m c 3 t)) ((eq_ix3 (n0 := 1) (n1 := 128) (n2 := 256) y).trans ?_)
    exact congrArg (fun z => ix3 (n0 := 1) (n1 := 128) (n2 := 256) z (y 1) (y 2)) (Fin.ext (show (y 0).val = 0 by omega))
  · unfold output
    congr 1 <;> apply Fin.ext
    · show t.val / 65 = (((cfg0.win 4).blk t).view.emb y 0).val
      omega
    · exact f1.symm
    · show t.val % 65 = (((cfg0.win 4).blk t).view.emb y 2).val / 256
      omega
    · show (y 2).val = (((cfg0.win 4).blk t).view.emb y 2).val % 256
      omega

end Cert.Kernel2Ideal.Body

end
-- ==== Proof.Reference2.lean ====
/-
  The differential reference's result, over the extended reals: the output.
-/
module

public import proofs.«01_k».proof.Proof.Spec2
public import proofs.«01_k».proof.Proof.Reference
public import proofs.«01_k».proof.Proof.Gen.Reference2Ideal.Read
public import Idealize.ShloMosaic.Lib.Pipeline.ValueKit

@[expose] public section

set_option maxRecDepth 16384

noncomputable section

namespace Cert.Reference2Ideal.Value

open Cert.Reference2Ideal Cert.Reference2Ideal.Gen Cert.Reference2Ideal.Read Cert.Differential
open Cert.Attention (attention firstKey difference)
open Cert.ReferenceIdeal.Value (ofBits_bot log_two reduce_real)
open Idealize.ShloMosaic Idealize.ShloMosaic.TcCoe Idealize.SL.Sem

variable (q : FVec Ideal S8x65x128x512 .bf16) (k : FVec Ideal S16640x1024 .bf16) (v : FVec Ideal S8x65x144x256 .bf16) (p : FVec Ideal S4x64 .f32)

/-- The two components' queries, joined. -/
theorem stack_apply (h : Fin 8) (c : Fin 2) (i : Fin 65) (d : Fin 64) (j : Fin 256) :
    val_main_v5 (F := Ideal) q (ix5 h c i d j) = q (ix4 h i ⟨64 * c + d, by omega⟩ ⟨256 * c + j, by omega⟩) := by
  obtain rfl | rfl : c = 0 ∨ c = 1 := by omega
  · pointwise [val_main_v5, val_main_v4, val_main_v3, val_main_v2, val_main_v1, val_main_v0]
    blk_ext
  · pointwise [val_main_v5, val_main_v4, val_main_v3, val_main_v2, val_main_v1, val_main_v0]
    blk_ext

/-- The query of a token. -/
theorem query_apply (h : Fin 8) (c : Fin 2) (x : Fin 16640) (d : Fin 64) :
    val_main_v7 (F := Ideal) q (ix4 h c x d) = q (ix4 h ⟨x / 256, by omega⟩ ⟨64 * c + d, by omega⟩ ⟨256 * c + x % 256, by omega⟩) := by
  refine Eq.trans ?_ (stack_apply q h c ⟨x / 256, by omega⟩ d ⟨x % 256, by omega⟩)
  pointwise [val_main_v7, val_main_v6]
  blk_ext

/-- The key of a token. -/
theorem key_apply (h : Fin 8) (c : Fin 2) (r : Fin 16640) (d : Fin 64) :
    val_main_v10 (F := Ideal) k (ix4 h c r d) = k (ix2 r ⟨128 * h + (64 * c + d), by omega⟩) := by
  pointwise [val_main_v10, val_main_v9, val_main_v8]
  blk_ext

/-- A value row at a key. -/
theorem keyValue_apply (h : Fin 8) (r : Fin 16640) (e : Fin 128) :
    val_main_v14 (F := Ideal) v (ix3 h r e) = keyValue v h ⟨e, by omega⟩ r := by
  pointwise [val_main_v14, val_main_v13, val_main_v12, val_main_v11]
  unfold keyValue
  blk_ext

/-- Lambda. -/
theorem lambda_apply (y : S_.Idx) : val_main_v31 (F := Ideal) p y = lambda p := by
  rw [val_main_v31_apply, val_main_v30_apply, val_main_v29_apply, val_main_v22_apply, val_main_v21_apply, val_main_v28_apply]
  have e : ∀ f : S64.Idx → EReal, ∑ j, f j = ∑ d : Fin 64, f (ix1 d) := fun f =>
    Fintype.sum_equiv ⟨fun j => j 0, fun d => ix1 d, fun j => (eq_ix1 (n0 := 64) j).symm, fun d => rfl⟩ _ _ fun j => congrArg f (eq_ix1 (n0 := 64) j)
  have h0 : ∀ d : Fin 64, val_main_v20 (F := Ideal) p (ix1 d) = p (ix2 0 d) * p (ix2 1 d) := fun d => by
    pointwise [val_main_v20, val_main_v19, val_main_v18, val_main_v17, val_main_v16]
  have h1 : ∀ d : Fin 64, val_main_v27 (F := Ideal) p (ix1 d) = p (ix2 2 d) * p (ix2 3 d) := fun d => by
    pointwise [val_main_v27, val_main_v26, val_main_v25, val_main_v24, val_main_v23]
  rw [e, e]
  simp only [h0, h1, val_main_cst_0_apply, val_main_cst_1_apply, val_main_cst_2_apply]
  unfold lambda
  show Ideal.exp (Ideal.ofBits .f32 0#32 + _) - Ideal.exp (Ideal.ofBits .f32 0#32 + _) + _ = _
  rw [Ideal.ofBits_zero_f32, zero_add, zero_add]
  rfl

/-- A query against a key. -/
theorem score_apply (h : Fin 8) (c : Fin 2) (x r : Fin 16640) :
    ∑ d : Fin 64, val_main_v7 (F := Ideal) q (ix4 h c x d) * val_main_v10 (F := Ideal) k (ix4 h c r d)
      = keyScore q k h c ⟨x / 256, by omega⟩ ⟨x % 256, by omega⟩ r := by
  unfold keyScore
  refine Finset.sum_congr rfl fun d _ => ?_
  rw [query_apply, key_apply, mul_comm]
  refine congrArg (· * _) (congrArg k ?_)
  blk_ext

/-- A latent query's scores in base e. -/
theorem latent_score (h : Fin 8) (c : Fin 2) (x : Fin 16384) (r : Fin 16640) :
    val_main_v35 (F := Ideal) q k (ix4 h c x r) = (∑ d : Fin 64, val_main_v7 (F := Ideal) q (ix4 h c ⟨x, by omega⟩ d) * val_main_v10 (F := Ideal) k (ix4 h c r d)) * Ideal.log (Ideal.ofBits .f32 0x40000000#32) := by
  rw [val_main_v35_apply, val_main_v33_apply, val_main_v34_apply, val_main_v15_apply, val_main_cst_apply]
  refine congrArg (· * _) (Finset.sum_congr rfl fun d _ => ?_)
  have el : idx_main_v32 (lidx_main_v33 (ix4 h c x r) d) = ix4 h c ⟨x, by omega⟩ d := funext fun a => match a with
    | ⟨0, _⟩ => rfl
    | ⟨1, _⟩ => rfl
    | ⟨2, _⟩ => rfl
    | ⟨3, _⟩ => rfl
  have er : ridx_main_v33 (ix4 h c x r) d = ix4 h c r d := funext fun a => match a with
    | ⟨0, _⟩ => rfl
    | ⟨1, _⟩ => rfl
    | ⟨2, _⟩ => rfl
    | ⟨3, _⟩ => rfl
  rw [val_main_v32_apply, el, er]

/-- A latent query's weights before they are divided. -/
theorem latent_weight (h : Fin 8) (c : Fin 2) (x : Fin 16384) (r : Fin 16640) :
    val_main_v42 (F := Ideal) q k (ix4 h c x r) = Ideal.exp (val_main_v35 (F := Ideal) q k (ix4 h c x r) - max (Ideal.ofBits .f32 0xFF800000#32) (val_main_v36 (F := Ideal) q k (ix3 h c x))) := by
  rw [val_main_v42_apply, val_main_v41_apply, val_main_v40_apply, val_main_v39_apply, val_main_v38_apply, val_main_v37_apply]
  have e : idx_main_v39 (idx_main_v40 (ix4 h c x r)) = ix3 h c x := funext fun a => match a with
    | ⟨0, _⟩ => rfl
    | ⟨1, _⟩ => rfl
    | ⟨2, _⟩ => rfl
  rw [e]
  rfl

/-- What they are divided by. -/
theorem latent_total (h : Fin 8) (c : Fin 2) (x : Fin 16384) :
    val_main_v43 (F := Ideal) q k (ix3 h c x) = Ideal.ofBits .f32 0#32 + ∑ r : Fin 16640, val_main_v42 (F := Ideal) q k (ix4 h c x r) := by
  rw [val_main_v43_apply]
  refine congrArg (_ + ·) (Finset.sum_congr rfl fun r _ => congrArg _ ?_)
  exact funext fun a => match a with
    | ⟨0, _⟩ => rfl
    | ⟨1, _⟩ => rfl
    | ⟨2, _⟩ => rfl
    | ⟨3, _⟩ => rfl

/-- A latent query's weight at a key. -/
theorem latent_share (h : Fin 8) (c : Fin 2) (x : Fin 16384) (r : Fin 16640) :
    val_main_v46 (F := Ideal) q k (ix4 h c x r) = Ideal.div (val_main_v42 (F := Ideal) q k (ix4 h c x r)) (val_main_v43 (F := Ideal) q k (ix3 h c x)) := by
  rw [val_main_v46_apply, val_main_v45_apply, val_main_v44_apply]
  have e : idx_main_v44 (idx_main_v45 (ix4 h c x r)) = ix3 h c x := funext fun a => match a with
    | ⟨0, _⟩ => rfl
    | ⟨1, _⟩ => rfl
    | ⟨2, _⟩ => rfl
  rw [e]
  rfl

/-- The first component's. -/
theorem latent_first (h : Fin 8) (x : Fin 16384) (r : Fin 16640) :
    val_main_v48 (F := Ideal) q k (ix3 h x r) = val_main_v46 (F := Ideal) q k (ix4 h 0 x r) := by
  rw [val_main_v48_apply, val_main_v47_apply]
  refine congrArg _ (funext fun a => match a with
    | ⟨0, _⟩ => Fin.ext (show ((h.val * 16384 + x.val) * 16640 + r.val) / 272629760 = h.val by omega)
    | ⟨1, _⟩ => rfl
    | ⟨2, _⟩ => Fin.ext (show ((h.val * 16384 + x.val) * 16640 + r.val) / 16640 % 16384 = x.val by omega)
    | ⟨3, _⟩ => Fin.ext (show ((h.val * 16384 + x.val) * 16640 + r.val) % 16640 = r.val by omega))

/-- The second component's. -/
theorem latent_second (h : Fin 8) (x : Fin 16384) (r : Fin 16640) :
    val_main_v50 (F := Ideal) q k (ix3 h x r) = val_main_v46 (F := Ideal) q k (ix4 h 1 x r) := by
  rw [val_main_v50_apply, val_main_v49_apply]
  refine congrArg _ (funext fun a => match a with
    | ⟨0, _⟩ => Fin.ext (show ((h.val * 16384 + x.val) * 16640 + r.val) / 272629760 = h.val by omega)
    | ⟨1, _⟩ => rfl
    | ⟨2, _⟩ => Fin.ext (show ((h.val * 16384 + x.val) * 16640 + r.val) / 16640 % 16384 = x.val by omega)
    | ⟨3, _⟩ => Fin.ext (show ((h.val * 16384 + x.val) * 16640 + r.val) % 16640 = r.val by omega))

/-- A latent query's output. -/
theorem latent_out (h : Fin 8) (x : Fin 16384) (e : Fin 128) :
    val_main_v54 (F := Ideal) q k v p (ix3 h x e) = ∑ r : Fin 16640,
      (Ideal.div (val_main_v42 (F := Ideal) q k (ix4 h 0 x r)) (val_main_v43 (F := Ideal) q k (ix3 h 0 x))
        - lambda p * Ideal.div (val_main_v42 (F := Ideal) q k (ix4 h 1 x r)) (val_main_v43 (F := Ideal) q k (ix3 h 1 x)))
      * val_main_v14 (F := Ideal) v (ix3 h r e) := by
  rw [val_main_v54_apply]
  refine Finset.sum_congr rfl fun r _ => ?_
  have el : lidx_main_v54 (ix3 h x e) r = ix3 h x r := funext fun a => match a with
    | ⟨0, _⟩ => rfl
    | ⟨1, _⟩ => rfl
    | ⟨2, _⟩ => rfl
  have er : ridx_main_v54 (ix3 h x e) r = ix3 h r e := funext fun a => match a with
    | ⟨0, _⟩ => rfl
    | ⟨1, _⟩ => rfl
    | ⟨2, _⟩ => rfl
  rw [el, er, val_main_v53_apply, val_main_v52_apply, val_main_v51_apply, latent_first, latent_second, latent_share, latent_share, lambda_apply]
  rfl

/-- A context query's scores in base e. -/
theorem context_score (h : Fin 8) (c : Fin 2) (x r : Fin 256) :
    val_main_v60 (F := Ideal) q k (ix4 h c x r) = (∑ d : Fin 64, val_main_v7 (F := Ideal) q (ix4 h c ⟨16384 + x, by omega⟩ d) * val_main_v10 (F := Ideal) k (ix4 h c ⟨16384 + r, by omega⟩ d)) * Ideal.log (Ideal.ofBits .f32 0x40000000#32) := by
  rw [val_main_v60_apply, val_main_v58_apply, val_main_v59_apply, val_main_v15_apply, val_main_cst_apply]
  refine congrArg (· * _) (Finset.sum_congr rfl fun d _ => ?_)
  have el : idx_main_v55 (lidx_main_v58 (ix4 h c x r) d) = ix4 h c ⟨16384 + x, by omega⟩ d := funext fun a => match a with
    | ⟨0, _⟩ => rfl
    | ⟨1, _⟩ => rfl
    | ⟨2, _⟩ => rfl
    | ⟨3, _⟩ => rfl
  have er : idx_main_v56 (ridx_main_v58 (ix4 h c x r) d) = ix4 h c ⟨16384 + r, by omega⟩ d := funext fun a => match a with
    | ⟨0, _⟩ => rfl
    | ⟨1, _⟩ => rfl
    | ⟨2, _⟩ => rfl
    | ⟨3, _⟩ => rfl
  rw [val_main_v55_apply, val_main_v56_apply, el, er]

/-- A context query's weights before they are divided. -/
theorem context_weight (h : Fin 8) (c : Fin 2) (x r : Fin 256) :
    val_main_v67 (F := Ideal) q k (ix4 h c x r) = Ideal.exp (val_main_v60 (F := Ideal) q k (ix4 h c x r) - max (Ideal.ofBits .f32 0xFF800000#32) (val_main_v61 (F := Ideal) q k (ix3 h c x))) := by
  rw [val_main_v67_apply, val_main_v66_apply, val_main_v65_apply, val_main_v64_apply, val_main_v63_apply, val_main_v62_apply]
  have e : idx_main_v64 (idx_main_v65 (ix4 h c x r)) = ix3 h c x := funext fun a => match a with
    | ⟨0, _⟩ => rfl
    | ⟨1, _⟩ => rfl
    | ⟨2, _⟩ => rfl
  rw [e]
  rfl

/-- What they are divided by. -/
theorem context_total (h : Fin 8) (c : Fin 2) (x : Fin 256) :
    val_main_v68 (F := Ideal) q k (ix3 h c x) = Ideal.ofBits .f32 0#32 + ∑ r : Fin 256, val_main_v67 (F := Ideal) q k (ix4 h c x r) := by
  rw [val_main_v68_apply]
  refine congrArg (_ + ·) (Finset.sum_congr rfl fun r _ => congrArg _ ?_)
  exact funext fun a => match a with
    | ⟨0, _⟩ => rfl
    | ⟨1, _⟩ => rfl
    | ⟨2, _⟩ => rfl
    | ⟨3, _⟩ => rfl

/-- A value row at a context key. -/
theorem context_value (h : Fin 8) (r : Fin 256) (e : Fin 128) :
    val_main_v57 (F := Ideal) v (ix3 h r e) = val_main_v14 (F := Ideal) v (ix3 h ⟨16384 + r, by omega⟩ e) := by
  pointwise [val_main_v57]

/-- A context query's weight at a key. -/
theorem context_share (h : Fin 8) (c : Fin 2) (x : Fin 256) (r : Fin 256) :
    val_main_v71 (F := Ideal) q k (ix4 h c x r) = Ideal.div (val_main_v67 (F := Ideal) q k (ix4 h c x r)) (val_main_v68 (F := Ideal) q k (ix3 h c x)) := by
  rw [val_main_v71_apply, val_main_v70_apply, val_main_v69_apply]
  have e : idx_main_v69 (idx_main_v70 (ix4 h c x r)) = ix3 h c x := funext fun a => match a with
    | ⟨0, _⟩ => rfl
    | ⟨1, _⟩ => rfl
    | ⟨2, _⟩ => rfl
  rw [e]
  rfl

/-- The first component's. -/
theorem context_first (h : Fin 8) (x : Fin 256) (r : Fin 256) :
    val_main_v73 (F := Ideal) q k (ix3 h x r) = val_main_v71 (F := Ideal) q k (ix4 h 0 x r) := by
  rw [val_main_v73_apply, val_main_v72_apply]
  refine congrArg _ (funext fun a => match a with
    | ⟨0, _⟩ => Fin.ext (show ((h.val * 256 + x.val) * 256 + r.val) / 65536 = h.val by omega)
    | ⟨1, _⟩ => rfl
    | ⟨2, _⟩ => Fin.ext (show ((h.val * 256 + x.val) * 256 + r.val) / 256 % 256 = x.val by omega)
    | ⟨3, _⟩ => Fin.ext (show ((h.val * 256 + x.val) * 256 + r.val) % 256 = r.val by omega))

/-- The second component's. -/
theorem context_second (h : Fin 8) (x : Fin 256) (r : Fin 256) :
    val_main_v75 (F := Ideal) q k (ix3 h x r) = val_main_v71 (F := Ideal) q k (ix4 h 1 x r) := by
  rw [val_main_v75_apply, val_main_v74_apply]
  refine congrArg _ (funext fun a => match a with
    | ⟨0, _⟩ => Fin.ext (show ((h.val * 256 + x.val) * 256 + r.val) / 65536 = h.val by omega)
    | ⟨1, _⟩ => rfl
    | ⟨2, _⟩ => Fin.ext (show ((h.val * 256 + x.val) * 256 + r.val) / 256 % 256 = x.val by omega)
    | ⟨3, _⟩ => Fin.ext (show ((h.val * 256 + x.val) * 256 + r.val) % 256 = r.val by omega))

/-- A context query's output. -/
theorem context_out (h : Fin 8) (x : Fin 256) (e : Fin 128) :
    val_main_v79 (F := Ideal) q k v p (ix3 h x e) = ∑ r : Fin 256,
      (Ideal.div (val_main_v67 (F := Ideal) q k (ix4 h 0 x r)) (val_main_v68 (F := Ideal) q k (ix3 h 0 x))
        - lambda p * Ideal.div (val_main_v67 (F := Ideal) q k (ix4 h 1 x r)) (val_main_v68 (F := Ideal) q k (ix3 h 1 x)))
      * val_main_v14 (F := Ideal) v (ix3 h ⟨16384 + r, by omega⟩ e) := by
  rw [val_main_v79_apply]
  refine Finset.sum_congr rfl fun r _ => ?_
  have el : lidx_main_v79 (ix3 h x e) r = ix3 h x r := funext fun a => match a with
    | ⟨0, _⟩ => rfl
    | ⟨1, _⟩ => rfl
    | ⟨2, _⟩ => rfl
  have er : ridx_main_v79 (ix3 h x e) r = ix3 h r e := funext fun a => match a with
    | ⟨0, _⟩ => rfl
    | ⟨1, _⟩ => rfl
    | ⟨2, _⟩ => rfl
  rw [el, er, val_main_v78_apply, val_main_v77_apply, val_main_v76_apply, context_first, context_second, context_share, context_share, lambda_apply, context_value]
  rfl

/-- The result, from the two outputs joined. -/
theorem result_apply (h : Fin 8) (e : Fin 128) (x : Fin 16640) :
    val_main_v81 (F := Ideal) q k v p (ix3 h e x)
      = if hx : x.val < 16384 then val_main_v54 (F := Ideal) q k v p (ix3 h ⟨x, hx⟩ e)
        else val_main_v79 (F := Ideal) q k v p (ix3 h ⟨x - 16384, by omega⟩ e) := by
  pointwise [val_main_v81, val_main_v80]

variable (good : Good q k v p)

include good in
/-- **A latent token's output.** -/
theorem latent (h : Fin 8) (x : Fin 16384) (e : Fin 128) :
    val_main_v54 (F := Ideal) q k v p (ix3 h x e) = entry q k v p h e ⟨x / 256, by omega⟩ ⟨x % 256, by omega⟩ := by
  have hs : ∀ (h : Fin 8) (c : Fin 2) (x : Fin 16384) (r : Fin 16640), val_main_v35 (F := Ideal) q k (ix4 h c x r)
      = ((keyScore q k h c ⟨x / 256, by omega⟩ ⟨x % 256, by omega⟩ r).toReal : EReal) * (Real.log 2 : EReal) := fun h c x r => by
    rw [latent_score, score_apply, ← keyScore_real q k v p good, log_two]
  have hm : ∀ c : Fin 2, ∃ C : ℝ, val_main_v36 (F := Ideal) q k (ix3 h c x) = (C : EReal) := fun c =>
    reduce_real (val_main_v35 (F := Ideal) q k) (fun i => by
      obtain ⟨h, c, x, r, rfl⟩ : ∃ (h : Fin 8) (c : Fin 2) (x : Fin 16384) (r : Fin 16640), i = ix4 h c x r := ⟨i 0, i 1, i 2, i 3, eq_ix4 (n0 := 8) (n1 := 2) (n2 := 16384) (n3 := 16640) i⟩
      rw [hs, ← EReal.coe_mul, EReal.toReal_coe])
    (val_main_cst_3 (F := Ideal)) reducesTo_S8x2x16384x16640_S8x2x16384_d3 (by decide) h_S_ ofBits_bot (by decide) (ix3 h c x)
  obtain ⟨M, hM⟩ := hm 0
  obtain ⟨N, hN⟩ := hm 1
  obtain ⟨L, hL⟩ := lambda_real q k v p good
  have hi : firstKey ⟨x.val / 256, by omega⟩ = 0 := if_pos (show x.val / 256 < 64 by omega)
  rw [latent_out, latent_total, latent_total]
  simp only [latent_weight, hM, hN, hL, hs, keyValue_apply, ofBits_bot, bot_le, sup_of_le_right, Ideal.ofBits_zero_f32]
  unfold entry part
  simp only [hi, hL, Nat.zero_add]
  exact difference (fun r => (keyScore q k h 0 ⟨x / 256, by omega⟩ ⟨x % 256, by omega⟩ r).toReal)
    (fun r => (keyScore q k h 1 ⟨x / 256, by omega⟩ ⟨x % 256, by omega⟩ r).toReal) (fun r => keyValue v h ⟨e, by omega⟩ r) (n := 16640) (by decide) L M N
    fun r => keyValue_real q k v p good h e r

include good in
/-- **A context token's output.** -/
theorem context (h : Fin 8) (x : Fin 256) (e : Fin 128) :
    val_main_v79 (F := Ideal) q k v p (ix3 h x e) = entry q k v p h e ⟨(16384 + x) / 256, by omega⟩ ⟨(16384 + x) % 256, by omega⟩ := by
  have hs : ∀ (h : Fin 8) (c : Fin 2) (x r : Fin 256), val_main_v60 (F := Ideal) q k (ix4 h c x r)
      = ((keyScore q k h c ⟨(16384 + x) / 256, by omega⟩ ⟨(16384 + x) % 256, by omega⟩ (16384 + r)).toReal : EReal) * (Real.log 2 : EReal) := fun h c x r => by
    rw [context_score, score_apply, ← keyScore_real q k v p good, log_two]
  have hm : ∀ c : Fin 2, ∃ C : ℝ, val_main_v61 (F := Ideal) q k (ix3 h c x) = (C : EReal) := fun c =>
    reduce_real (val_main_v60 (F := Ideal) q k) (fun i => by
      obtain ⟨h, c, x, r, rfl⟩ : ∃ (h : Fin 8) (c : Fin 2) (x : Fin 256) (r : Fin 256), i = ix4 h c x r := ⟨i 0, i 1, i 2, i 3, eq_ix4 (n0 := 8) (n1 := 2) (n2 := 256) (n3 := 256) i⟩
      rw [hs, ← EReal.coe_mul, EReal.toReal_coe])
    (val_main_cst_6 (F := Ideal)) reducesTo_S8x2x256x256_S8x2x256_d3 (by decide) h_S_ ofBits_bot (by decide) (ix3 h c x)
  obtain ⟨M, hM⟩ := hm 0
  obtain ⟨N, hN⟩ := hm 1
  obtain ⟨L, hL⟩ := lambda_real q k v p good
  have hi : firstKey ⟨(16384 + x.val) / 256, by omega⟩ = 16384 := if_neg (show ¬ (16384 + x.val) / 256 < 64 by omega)
  rw [context_out, context_total, context_total]
  simp only [context_weight, hM, hN, hL, hs, keyValue_apply, ofBits_bot, bot_le, sup_of_le_right, Ideal.ofBits_zero_f32]
  unfold entry part
  simp only [hi, hL]
  exact difference (fun r => (keyScore q k h 0 ⟨(16384 + x) / 256, by omega⟩ ⟨(16384 + x) % 256, by omega⟩ (16384 + r)).toReal)
    (fun r => (keyScore q k h 1 ⟨(16384 + x) / 256, by omega⟩ ⟨(16384 + x) % 256, by omega⟩ (16384 + r)).toReal) (fun r => keyValue v h ⟨e, by omega⟩ (16384 + r)) (n := 256) (by decide) L M N
    fun r => keyValue_real q k v p good h e (16384 + r)

include good in
/-- **The reference's result** is the output. -/
theorem final : val_main_v81 (F := Ideal) q k v p = output q k v p := by
  funext y
  obtain ⟨h, e, x, rfl⟩ : ∃ (h : Fin 8) (e : Fin 128) (x : Fin 16640), y = ix3 h e x := ⟨y 0, y 1, y 2, eq_ix3 (n0 := 8) (n1 := 128) (n2 := 16640) y⟩
  rw [result_apply]
  split
  · exact latent q k v p good h _ e
  · rename_i hx
    refine (context q k v p good h _ e).trans ?_
    have hx' : 16384 + (x.val - 16384) = x.val := by omega
    unfold output
    simp only [hx']
    rfl

end Cert.Reference2Ideal.Value

end
-- ==== Proof.Wellformed2.lean ====
/-
  The differential call's precondition, read: queries, keys, values and the parameters of lambda are real numbers, row
  128 of the values is ones, and each component's queries are zero in the rows of the other.
-/
module

public import proofs.«01_k».proof.Defs
public import proofs.«01_k».proof.Proof.Spec2
public import proofs.«01_k».proof.Proof.Wellformed
public import proofs.«01_k».proof.Proof.Gen.Pre_well_formed2
public import Idealize.ShloMosaic.Lib.Pipeline.ValueKit
public import Idealize.ShloMosaic.Lib.IdealHost

@[expose] public section

set_option maxRecDepth 16384

noncomputable section

namespace Cert.Pre_well_formed2

open Cert.Differential Cert.Pre_well_formed2.Gen
open Idealize.ShloMosaic Idealize.ShloMosaic.TcCoe Idealize.SL.Sem
open Cert.Pre_well_formed (ofBits_top real_of_abs of_bit)

variable (q : FVec Ideal S8x65x128x512 .bf16) (k : FVec Ideal S16640x1024 .bf16) (v : FVec Ideal S8x65x144x256 .bf16) (p : FVec Ideal S4x64 .f32)

/-- What the precondition says. -/
theorem good (hq : (fn (F := Ideal) q k v p).1 = fun _ => 1#1) (hk : (fn (F := Ideal) q k v p).2.1 = fun _ => 1#1)
    (hv : (fn (F := Ideal) q k v p).2.2.1 = fun _ => 1#1) (hp : (fn (F := Ideal) q k v p).2.2.2.1 = fun _ => 1#1)
    (ho : (fn (F := Ideal) q k v p).2.2.2.2.1 = fun _ => 1#1) (hl : (fn (F := Ideal) q k v p).2.2.2.2.2.1 = fun _ => 1#1)
    (hu : (fn (F := Ideal) q k v p).2.2.2.2.2.2 = fun _ => 1#1) : Good q k v p := by
  refine ⟨fun x => ?_, fun x => ?_, fun h i e j => ?_, fun x => ?_, fun h i j => ?_, fun h i d j => ?_, fun h i d j => ?_⟩
  · have h := congrFun hq x
    revert h
    pointwise [fn, fn_part1]
    rw [ofBits_top]
    exact fun h => real_of_abs (of_bit h)
  · have h := congrFun hk x
    revert h
    pointwise [fn, fn_part1]
    rw [ofBits_top]
    exact fun h => real_of_abs (of_bit h)
  · have h := congrFun hv (ix4 h i e j)
    revert h
    pointwise [fn, fn_part1]
    rw [ofBits_top]
    exact fun h => real_of_abs (of_bit h)
  · have h := congrFun hp x
    revert h
    pointwise [fn, fn_part1]
    rw [ofBits_top]
    exact fun h => real_of_abs (of_bit h)
  · have h := congrFun ho (ix3 h i j)
    revert h
    pointwise [fn, fn_part1]
    exact fun h => of_bit h
  · have h := congrFun hl (ix4 h i d j)
    revert h
    pointwise [fn, fn_part1]
    exact fun h => of_bit h
  · have h := congrFun hu (ix4 h i d j)
    revert h
    pointwise [fn, fn_part1]
    exact fun h => of_bit h

end Cert.Pre_well_formed2

end
-- ==== Proof.Spec3.lean ====
/-
  What the input projection computes, from its arguments, over the extended reals: each token's RMS norm, scaled and
  shifted by the row of its stream, times the weights, with 512 zero columns put in before column 9728.
-/
module

public import proofs.«01_k».proof.Proof.Gen.Kernel3Ideal.Value
public import Idealize.ShloMosaic.Lib.Pointwise

@[expose] public section

set_option maxRecDepth 16384

noncomputable section

namespace Cert.Projection

open Cert.Kernel3Ideal
open Idealize.ShloMosaic Idealize.ShloMosaic.TcCoe Idealize.SL.Sem

variable (x : FVec Ideal S16640x2048 .f32) (g : FVec Ideal S2048 .f32) (b : FVec Ideal S4x8x6144 .f32) (w : FVec Ideal S4x2048x15872 .f32)

/-- The stream of a token: 0 for a latent token, 1 for a context token. -/
def stream (r : ℕ) : Fin 8 := if r < 16384 then 0 else 1

/-- Component `d` of token `r`'s norm times the gain. -/
def normed (r : Fin 16640) (d : Fin 2048) : EReal :=
  x (ix2 r d) * Ideal.rsqrt (Ideal.div (∑ e : Fin 2048, x (ix2 r e) * x (ix2 r e)) (Ideal.ofBits .f32 0x45000000#32) + Ideal.ofBits .f32 0x358637BD#32)
    * g (ix1 d)

/-- It scaled and shifted by the stream's row. -/
def hidden (r : Fin 16640) (d : Fin 2048) : EReal :=
  normed x g r d * (1 + b (ix3 0 (stream r) ⟨2048 + d, by omega⟩)) + b (ix3 0 (stream r) ⟨d, by omega⟩)

/-- Column `q` of the product with the weights. -/
def product (r : Fin 16640) (q : Fin 15872) : EReal :=
  ∑ d : Fin 2048, hidden x g b r d * w (ix3 0 d q)

/-- An entry of the output. -/
def entry (r : Fin 16640) (q : Fin 16384) : EReal :=
  if h : q.val < 9728 then product x g b w r ⟨q, by omega⟩
  else if q.val < 10240 then 0 else product x g b w r ⟨q - 512, by omega⟩

/-- The output array. -/
def output : FVec Ideal S16640x16384 .bf16 := fun y => entry x g b w ⟨(y 0).val, (y 0).isLt⟩ ⟨(y 1).val, (y 1).isLt⟩

end Cert.Projection

end
-- ==== Proof.Block3.lean ====
/-
  What one grid point of the input projection computes from its blocks, over the extended reals: the first of a row of
  points keeps the block's tokens normed, scaled and shifted; each multiplies what is kept by its block of weights.
-/
module

public import proofs.«01_k».proof.Proof.Spec3
public import Idealize.ShloMosaic.Lib.Pipeline.ValueKit
public import Idealize.ShloMosaic.Lib.WholeRead

@[expose] public section

set_option maxRecDepth 16384

noncomputable section

namespace Cert.Kernel3Ideal.Body

open Cert.Kernel3Ideal Cert.Kernel3Ideal.Gen Cert.Projection
open Idealize.ShloMosaic Idealize.ShloMosaic.TcCoe Idealize.SL.Sem

/-- Component `d` of row `a` of the `n`-th block of tokens: the norm times the gain, scaled and shifted. -/
def kept (n : ℕ) (x0 : FVec Ideal S1664x2048 .f32) (x1 : FVec Ideal S1x2048 .f32) (x2 : FVec Ideal S1x8x6144 .f32) : FVec Ideal S1664x2048 .bf16 := fun y =>
  x0 y * Ideal.rsqrt (Ideal.div (∑ e : Fin 2048, x0 (ix2 ⟨(y 0).val, (y 0).isLt⟩ e) * x0 (ix2 ⟨(y 0).val, (y 0).isLt⟩ e)) (Ideal.ofBits .f32 0x45000000#32) + Ideal.ofBits .f32 0x358637BD#32)
    * x1 (ix2 0 ⟨(y 1).val, (y 1).isLt⟩)
    * (1 + x2 (ix3 0 (stream (1664 * n + (y 0).val)) ⟨2048 + (y 1).val, by have := (y 1).isLt; change _ < 2048 at this; omega⟩))
    + x2 (ix3 0 (stream (1664 * n + (y 0).val)) ⟨(y 1).val, by have := (y 1).isLt; change _ < 2048 at this; omega⟩)

theorem kept_apply (n : ℕ) (x0 : FVec Ideal S1664x2048 .f32) (x1 : FVec Ideal S1x2048 .f32) (x2 : FVec Ideal S1x8x6144 .f32) (a : Fin 1664) (d : Fin 2048) :
    kept n x0 x1 x2 (ix2 a d)
      = x0 (ix2 a d) * Ideal.rsqrt (Ideal.div (∑ e : Fin 2048, x0 (ix2 a e) * x0 (ix2 a e)) (Ideal.ofBits .f32 0x45000000#32) + Ideal.ofBits .f32 0x358637BD#32)
          * x1 (ix2 0 d) * (1 + x2 (ix3 0 (stream (1664 * n + a)) ⟨2048 + d, by omega⟩)) + x2 (ix3 0 (stream (1664 * n + a)) ⟨d, by omega⟩) := rfl

variable (c : Dev nD) (i : grid0.Coords) (arg2 : Memref sig .tc .vmem S1664x2048 .f32) (harg2 : arg2.IsWhole) (arg3 : Memref sig .tc .vmem S1x2048 .f32) (harg3 : arg3.IsWhole) (arg4 : Memref sig .tc .vmem S1x8x6144 .f32) (harg4 : arg4.IsWhole) (arg5 : Memref sig .tc .vmem S1x2048x512 .f32) (harg5 : arg5.IsWhole) (arg6 : Memref sig .tc .vmem S1664x512 .bf16) (harg6 : arg6.IsWhole) (arg7 : Memref sig .tc .vmem S1664x2048 .bf16) (harg7 : arg7.IsWhole)
  (x0 : FVec Ideal S1664x2048 .f32) (x1 : FVec Ideal S1x2048 .f32) (x2 : FVec Ideal S1x8x6144 .f32) (x3 : FVec Ideal S1x2048x512 .f32) (xs0 : FVec Ideal S1664x2048 .bf16)

/-- The row a trip's 32 tokens start at. -/
theorem off (k : Fin k0_t1_loop.trips) : k0_off1 k = ![32 * k.val, 0] :=
  (by decide +kernel : ∀ k : Fin k0_t1_loop.trips, k0_off1 k = ![32 * k.val, 0]) k

/-- Whether a trip's tokens are context tokens. -/
theorem chosen : ∀ (n : Fin 10) (k : Fin k0_t1_loop.trips),
    Scalar.cmpi .sge (Scalar.addi (Scalar.muli (BitVec.ofNat 32 n.val) 1664#32) (Scalar.muli (Scf.iv 0#32 1#32 k.val) 32#32)) 16384#32
      = if 16384 ≤ 1664 * n.val + 32 * k.val then 1#1 else 0#1 := by decide +kernel

/-- What a trip stores, at an index. -/
theorem stored (v9 : FVec Ideal S1x2048 .f32) (v11 v16 v21 v23 : FVec Ideal S1x1x2048 .f32) (k : Fin k0_t1_loop.trips) (v34 : FVec Ideal S32x2048 .f32) (a : Fin 32) (d : Fin 2048) :
    k0_pay1 (F := Ideal) i v9 v11 v16 v21 v23 k v34 (ix2 a d)
      = v34 (ix2 a d) * Ideal.rsqrt (Ideal.div (∑ e : Fin 2048, v34 (ix2 a e) * v34 (ix2 a e)) (Ideal.ofBits .f32 0x45000000#32) + Ideal.ofBits .f32 0x358637BD#32)
          * (if 16384 ≤ 1664 * (i 0).val + 32 * k.val then v9 (ix2 0 d) * (1 + v16 (ix3 0 0 d)) else v9 (ix2 0 d) * (1 + v11 (ix3 0 0 d)))
        + (if 16384 ≤ 1664 * (i 0).val + 32 * k.val then v23 (ix3 0 0 d) else v21 (ix3 0 0 d)) := by
  pointwise [k0_pay1]
  have h := chosen ⟨(i 0).val, (i 0).isLt⟩ k
  dsimp only at h
  rw [h]
  split <;> rfl

/-- It is what is kept, at the index the trip's index lands on. -/
theorem stored_kept (v9 : FVec Ideal S1x2048 .f32) (v11 v16 v21 v23 : FVec Ideal S1x1x2048 .f32) (k : Fin k0_t1_loop.trips) (v34 : FVec Ideal S32x2048 .f32) (a : Fin 32) (d : Fin 2048)
    (y : S1664x2048.Idx) (e0 : (y 0).val = 32 * k.val + a.val) (e1 : (y 1).val = d.val) (hx : ∀ e : Fin 2048, v34 (ix2 a e) = x0 (ix2 ⟨(y 0).val, (y 0).isLt⟩ e))
    (h9 : v9 (ix2 0 d) = x1 (ix2 0 d)) (h11 : v11 (ix3 0 0 d) = x2 (ix3 0 0 ⟨2048 + d, by omega⟩)) (h16 : v16 (ix3 0 0 d) = x2 (ix3 0 1 ⟨2048 + d, by omega⟩))
    (h21 : v21 (ix3 0 0 d) = x2 (ix3 0 0 ⟨d, by omega⟩)) (h23 : v23 (ix3 0 0 d) = x2 (ix3 0 1 ⟨d, by omega⟩)) :
    k0_pay1 (F := Ideal) i v9 v11 v16 v21 v23 k v34 (ix2 a d) = kept (i 0).val x0 x1 x2 y := by
  have hk : k.val < 52 := k.isLt
  have ed : d = ⟨(y 1).val, (y 1).isLt⟩ := Fin.ext e1.symm
  have ey : (ix2 ⟨(y 0).val, (y 0).isLt⟩ d : S1664x2048.Idx) = y := by rw [ed]; exact (eq_ix2 (n0 := 1664) (n1 := 2048) y).symm
  rw [stored]
  simp only [hx]
  rw [h9, h11, h16, h21, h23, ey]
  unfold kept
  have hs : stream (1664 * (i 0).val + (y 0).val) = if 16384 ≤ 1664 * (i 0).val + 32 * k.val then 1 else 0 := by
    unfold stream
    split <;> split <;> first | rfl | (exfalso; omega)
  rw [hs]
  subst ed
  split
  · rw [← mul_assoc]
  · rw [← mul_assoc]

/-- A trip's piece comes before the earlier trips'. -/
theorem trips_succ (hc0 : cond0_0 i) (v9 : FVec Ideal S1x2048 .f32) (v11 v16 v21 v23 : FVec Ideal S1x1x2048 .f32) (X : BufTy.Contents (Elt Ideal) arg2.view.ty)
    (n : ℕ) (hn : n < k0_t1_loop.trips) :
    pb_k0_t1 (F := Ideal) Variants.none c none i arg2 harg2 arg3 harg3 arg4 harg4 arg5 harg5 arg6 harg6 arg7 harg7 hc0 v9 v11 v16 v21 v23 X (n + 1)
      = ⟨Rect.unit (s := S1664x2048) (k0_off1 ⟨n, hn⟩) S32x2048.size (k0_off1_inb i ⟨n, hn⟩ hc0), k0_pay1 (F := Ideal) i v9 v11 v16 v21 v23 ⟨n, hn⟩ (arg2.view.readAt (Elt Ideal) (Rect.unit (s := S1664x2048) (k0_off1 ⟨n, hn⟩) S32x2048.size (k0_off1_inb i ⟨n, hn⟩ hc0)).toLoadRect X)⟩
        :: pb_k0_t1 (F := Ideal) Variants.none c none i arg2 harg2 arg3 harg3 arg4 harg4 arg5 harg5 arg6 harg6 arg7 harg7 hc0 v9 v11 v16 v21 v23 X n := by
  refine (pb_k0_t1_succ (F := Ideal) Variants.none c none i arg2 harg2 arg3 harg3 arg4 harg4 arg5 harg5 arg6 harg6 arg7 harg7 hc0 v9 v11 v16 v21 v23 X ⟨n, hn⟩).trans ?_
  refine congrArg (· ++ _) ?_ |>.trans List.singleton_append
  unfold tripL_k0_t1 trip_k0_t1; rfl

/-- The pieces of the trips before the `n`-th agree with a value at an index when each trip's does. -/
theorem trips_at (hc0 : cond0_0 i) (v9 : FVec Ideal S1x2048 .f32) (v11 v16 v21 v23 : FVec Ideal S1x1x2048 .f32) (X : BufTy.Contents (Elt Ideal) arg2.view.ty)
    (y : S1664x2048.Idx) (v : EReal)
    (H : ∀ (k : Fin k0_t1_loop.trips) (z : S32x2048.Idx), (Rect.unit (s := S1664x2048) (k0_off1 k) S32x2048.size (k0_off1_inb i k hc0)).emb z = y →
      k0_pay1 (F := Ideal) i v9 v11 v16 v21 v23 k (arg2.view.readAt (Elt Ideal) (Rect.unit (s := S1664x2048) (k0_off1 k) S32x2048.size (k0_off1_inb i k hc0)).toLoadRect X) z = v) :
    ∀ n : ℕ, n ≤ k0_t1_loop.trips → View.AllAt (pb_k0_t1 (F := Ideal) Variants.none c none i arg2 harg2 arg3 harg3 arg4 harg4 arg5 harg5 arg6 harg6 arg7 harg7 hc0 v9 v11 v16 v21 v23 X n) y v
  | 0, _ => View.allAt_nil _ _
  | n + 1, hn => by
    rw [trips_succ c i arg2 harg2 arg3 harg3 arg4 harg4 arg5 harg5 arg6 harg6 arg7 harg7 hc0 v9 v11 v16 v21 v23 X n hn]
    exact View.allAt_cons _ _ _ (fun z hz => H ⟨n, hn⟩ z hz) (trips_at hc0 v9 v11 v16 v21 v23 X y v H n (Nat.le_of_succ_le hn))

/-- Each row below the trips' end is stored. -/
theorem trips_cover (hc0 : cond0_0 i) (v9 : FVec Ideal S1x2048 .f32) (v11 v16 v21 v23 : FVec Ideal S1x1x2048 .f32) (X : BufTy.Contents (Elt Ideal) arg2.view.ty)
    (y : S1664x2048.Idx) :
    ∀ n : ℕ, n ≤ k0_t1_loop.trips → (y 0).val < 32 * n →
      ∃ p ∈ pb_k0_t1 (F := Ideal) Variants.none c none i arg2 harg2 arg3 harg3 arg4 harg4 arg5 harg5 arg6 harg6 arg7 harg7 hc0 v9 v11 v16 v21 v23 X n, y ∈ p.1.set
  | 0, _, h => absurd h (by omega)
  | n + 1, hn, h => by
    rw [trips_succ c i arg2 harg2 arg3 harg3 arg4 harg4 arg5 harg5 arg6 harg6 arg7 harg7 hc0 v9 v11 v16 v21 v23 X n hn]
    by_cases hy : (y 0).val < 32 * n
    · obtain ⟨p, hp, hm⟩ := trips_cover hc0 v9 v11 v16 v21 v23 X y n (Nat.le_of_succ_le hn) hy
      exact ⟨p, List.mem_cons_of_mem _ hp, hm⟩
    · refine ⟨_, List.mem_cons_self, ?_⟩
      rw [Rect.mem_set_unit]
      intro a
      have o := off ⟨n, hn⟩
      dsimp only at o
      rw [o]
      match a with
      | ⟨0, _⟩ => exact ⟨show 32 * n ≤ (y 0).val by omega, show (y 0).val < 32 * n + 32 by omega⟩
      | ⟨1, _⟩ => exact ⟨Nat.zero_le _, show (y 1).val < 0 + 2048 by have := (y 1).isLt; change _ < 2048 at this; omega⟩

/-- A row of the modulation, loaded. -/
theorem mod_row (s : Fin 2) (o : ℕ) (ho : o ≤ 4096) (off : Fin 3 → ℕ) (hoff : off = ![0, s.val, o]) (inb) (d : Fin 2048) :
    View.ld (Val := Elt Ideal) (e' := .f32) x2 (Rect.unit (s := S1x8x6144) off S1x1x2048.size inb) (ix3 0 0 d : S1x1x2048.Idx) = x2 (ix3 0 ⟨s, by omega⟩ ⟨o + d, by omega⟩) := by
  subst hoff
  refine congrArg x2 (funext fun a => Fin.ext ?_)
  match a with
  | ⟨0, _⟩ => rfl
  | ⟨1, _⟩ => show s.val + 1 * 0 = s.val; omega
  | ⟨2, _⟩ => show o + 1 * d.val = o + d.val; omega

/-- **What the first of a row of points keeps.** -/
theorem first_kept (hc0 : cond0_0 i) (hc1 : cond0_1 i) (hc2 : ¬cond0_2 i) :
    sout0_A_0 (F := Ideal) c i arg2 harg2 arg3 harg3 arg4 harg4 arg5 harg5 arg6 harg6 arg7 harg7 hc0 hc1 hc2 x0 x1 x2 x3 = kept (i 0).val x0 x1 x2 := by
  frame_out
  funext y
  refine View.canon_eq_of_allAt _ y _ (trips_cover c i arg2 harg2 arg3 harg3 arg4 harg4 arg5 harg5 arg6 harg6 arg7 harg7 hc0 _ _ _ _ _ _ y _ (le_refl _) (show (y 0).val < 32 * 52 from (y 0).isLt)) (trips_at c i arg2 harg2 arg3 harg3 arg4 harg4 arg5 harg5 arg6 harg6 arg7 harg7 hc0 _ _ _ _ _ _ y _ (fun k z hz => ?_) _ (le_refl _))
  obtain ⟨a, d, rfl⟩ : ∃ (a : Fin 32) (d : Fin 2048), z = ix2 a d := ⟨z 0, z 1, eq_ix2 (n0 := 32) (n1 := 2048) z⟩
  have hk : k.val < 52 := k.isLt
  have e0 : (y 0).val = 32 * k.val + a.val := by
    rw [← hz]
    show k0_off1 k 0 + 1 * a.val = _
    rw [off]
    show 32 * k.val + 1 * a.val = _
    omega
  have e1 : (y 1).val = d.val := by
    rw [← hz]
    show k0_off1 k 1 + 1 * d.val = _
    rw [off]
    show 0 + 1 * d.val = _
    omega
  have ex : ∀ e : Fin 2048, arg2.view.readAt (Elt Ideal) (Rect.unit (s := S1664x2048) (k0_off1 k) S32x2048.size (k0_off1_inb i k hc0)).toLoadRect (harg2.unread x0) (ix2 a e)
      = x0 (ix2 ⟨(y 0).val, (y 0).isLt⟩ e) := fun e => by
    rw [Memref.IsWhole.readAt_unread]
    refine congrArg x0 (funext fun b => Fin.ext ?_)
    match b with
    | ⟨0, _⟩ => show k0_off1 k 0 + 1 * a.val = (y 0).val; rw [off, e0]; show 32 * k.val + 1 * a.val = _; omega
    | ⟨1, _⟩ => show k0_off1 k 1 + 1 * e.val = e.val; rw [off]; show 0 + 1 * e.val = _; omega
  exact stored_kept i x0 x1 x2 _ _ _ _ _ k _ a d y e0 e1 ex rfl (mod_row x2 0 2048 (by decide) _ rfl _ d) (mod_row x2 1 2048 (by decide) _ rfl _ d)
    ((mod_row x2 0 0 (by decide) _ rfl _ d).trans (congrArg x2 (congrArg (ix3 0 0) (Fin.ext (Nat.zero_add _)))))
    ((mod_row x2 1 0 (by decide) _ rfl _ d).trans (congrArg x2 (congrArg (ix3 0 1) (Fin.ext (Nat.zero_add _)))))

/-- What is written from what is kept, at an index. -/
def written (h : FVec Ideal S1664x2048 .bf16) (w : FVec Ideal S1x2048x512 .f32) : FVec Ideal S1664x512 .bf16 := fun y =>
  ∑ d : Fin 2048, h (ix2 ⟨(y 0).val, (y 0).isLt⟩ d) * w (ix3 0 d ⟨(y 1).val, (y 1).isLt⟩)

theorem product_written (h : FVec Ideal S1664x2048 .bf16) (w : FVec Ideal S1x2048x512 .f32) : k0_pay2 (F := Ideal) h w = written h w := by
  funext y
  obtain ⟨a, q, rfl⟩ : ∃ (a : Fin 1664) (q : Fin 512), y = ix2 a q := ⟨y 0, y 1, eq_ix2 (n0 := 1664) (n1 := 512) y⟩
  pointwise [k0_pay2]
  rfl

/-- What the first of a row of points writes. -/
theorem first_written (hc0 : cond0_0 i) (hc1 : cond0_1 i) (hc2 : ¬cond0_2 i) :
    out0_A_4 (F := Ideal) c i arg2 harg2 arg3 harg3 arg4 harg4 arg5 harg5 arg6 harg6 arg7 harg7 hc0 hc1 hc2 x0 x1 x2 x3 = written (kept (i 0).val x0 x1 x2) x3 := by
  rw [← first_kept c i arg2 harg2 arg3 harg3 arg4 harg4 arg5 harg5 arg6 harg6 arg7 harg7 x0 x1 x2 x3 hc0 hc1 hc2, ← product_written]
  frame_out
  refine congrArg (fun h => k0_pay2 (F := Ideal) h x3) ((View.readCov_eq_canon_ld _ _ _ fun y => trips_cover c i arg2 harg2 arg3 harg3 arg4 harg4 arg5 harg5 arg6 harg6 arg7 harg7 hc0 _ _ _ _ _ _ y _ (le_refl _) (show (y 0).val < 32 * 52 from (y 0).isLt)).trans (View.ld_unit_lit _ _ fun a => ?_))
  match a with
  | ⟨0, _⟩ => rfl
  | ⟨1, _⟩ => rfl

/-- What any other point writes, off column block 19. -/
theorem other_written (hc0 : ¬cond0_0 i) (hc1 : cond0_1 i) (hc2 : ¬cond0_2 i) :
    out0_B_4 (F := Ideal) c i arg2 harg2 arg3 harg3 arg4 harg4 arg5 harg5 arg6 harg6 arg7 harg7 hc0 hc1 hc2 x0 x1 x2 x3 xs0 = written xs0 x3 := by
  rw [← product_written]
  frame_out

/-- What the point at column block 19 writes. -/
theorem zero_written (hc0 : ¬cond0_0 i) (hc1 : ¬cond0_1 i) (hc2 : cond0_2 i) :
    out0_C_4 (F := Ideal) c i arg2 harg2 arg3 harg3 arg4 harg4 arg5 harg5 arg6 harg6 arg7 harg7 hc0 hc1 hc2 x0 x1 x2 x3 xs0 = fun _ => (0 : EReal) := by
  frame_out
  funext y
  obtain ⟨a, q, rfl⟩ : ∃ (a : Fin 1664) (q : Fin 512), y = ix2 a q := ⟨y 0, y 1, eq_ix2 (n0 := 1664) (n1 := 512) y⟩
  pointwise [k0_pay3]

end Cert.Kernel3Ideal.Body

end
-- ==== Proof.Value3.lean ====
/-
  The input projection's output array, over the extended reals.
-/
module

public import proofs.«01_k».proof.Proof.Block3

@[expose] public section

set_option maxRecDepth 16384

noncomputable section

namespace Cert.Kernel3Ideal.Body

open Cert.Kernel3Ideal Cert.Kernel3Ideal.Gen Cert.Projection
open Idealize.ShloMosaic Idealize.ShloMosaic.TcCoe Idealize.SL.Sem

variable (m : (ℓ : Loc nD τ sig) → Buf (Elt Ideal) ℓ)

/-- Which blocks each grid point reads and writes. -/
theorem idx : ∀ t : Fin cfg0.N, win0_0.index t = ![t.val / 32, 0] ∧ win0_1.index t = ![0, 0] ∧ win0_2.index t = ![0, 0, 0]
    ∧ win0_3.index t = ![0, 0, t.val % 32 - if 19 < t.val % 32 then 1 else 0] ∧ win0_4.index t = ![t.val / 32, t.val % 32]
    ∧ (grid0.coords t 0).val = t.val / 32 ∧ t.val < 320 :=
  (by decide +kernel : ∀ t : Fin grid0.N, _)

variable (c : Dev nD) (t : Fin cfg0.N)

/-- A block of tokens, at a row and a column. -/
theorem token_block (a : Fin 1664) (d : Fin 2048) (h0 : t.val / 32 < 10) :
    (iblk m c 0 t : FVec Ideal S1664x2048 .f32) (ix2 a d)
      = (m ((c : Thread nD τ).loc main_arg0) : FVec Ideal S16640x2048 .f32) (ix2 ⟨1664 * (t.val / 32) + a, by omega⟩ d) := by
  blk_ext [iblk, V, idx t]

/-- The gain as the kernel finds it, a row. -/
theorem gain_row (d : Fin 2048) :
    (V m c main_v0 : FVec Ideal S1x2048 .f32) (ix2 0 d) = (m ((c : Thread nD τ).loc main_arg1) : FVec Ideal S2048 .f32) (ix1 d) := by
  have e : V m c main_v0 = shapeCast S1x2048 (m ((c : Thread nD τ).loc main_arg1) : FVec Ideal S2048 .f32) shapeCasts_S2048_S1x2048 := by
    dsimp only [V, hostOps0]
    after_results
    rfl
  rw [e]
  pointwise []

/-- The gain, whole at every grid point. -/
theorem gain_block (d : Fin 2048) :
    (iblk m c 1 t : FVec Ideal S1x2048 .f32) (ix2 0 d) = (m ((c : Thread nD τ).loc main_arg1) : FVec Ideal S2048 .f32) (ix1 d) := by
  refine Eq.trans (congrArg (V m c main_v0) (?_ : _ = ix2 0 d)) (gain_row m c d)
  blk_ext [idx t]

/-- The first layer's modulation, whole at every grid point. -/
theorem mod_block (s : Fin 8) (d : Fin 6144) :
    (iblk m c 2 t : FVec Ideal S1x8x6144 .f32) (ix3 0 s d) = (m ((c : Thread nD τ).loc main_arg2) : FVec Ideal S4x8x6144 .f32) (ix3 0 s d) := by
  blk_ext [iblk, V, idx t]

/-- A block of the first layer's weights, at a row and a column. -/
theorem weight_block (d : Fin 2048) (q : Fin 512) (n : ℕ) (hn : n = t.val % 32 - if 19 < t.val % 32 then 1 else 0) (h : n < 31) :
    (iblk m c 3 t : FVec Ideal S1x2048x512 .f32) (ix3 0 d q)
      = (m ((c : Thread nD τ).loc main_arg3) : FVec Ideal S4x2048x15872 .f32) (ix3 0 d ⟨512 * n + q, by omega⟩) := by
  subst hn
  blk_ext [iblk, V, idx t]

/-- The `n`-th block of tokens, normed, scaled and shifted. -/
def tokens (n : ℕ) : FVec Ideal S1664x2048 .bf16 := fun y =>
  Projection.hidden (m ((c : Thread nD τ).loc main_arg0)) (m ((c : Thread nD τ).loc main_arg1)) (m ((c : Thread nD τ).loc main_arg2))
    ⟨(1664 * n + (y 0).val) % 16640, Nat.mod_lt _ (by decide)⟩ ⟨(y 1).val, (y 1).isLt⟩

/-- What a point's blocks give is the block of tokens. -/
theorem kept_tokens (n : ℕ) (hn : n = t.val / 32) : kept n (iblk m c 0 t) (iblk m c 1 t) (iblk m c 2 t) = tokens m c n := by
  subst hn
  have ht : t.val < 320 := (idx t).2.2.2.2.2.2
  funext y
  obtain ⟨a, d, rfl⟩ : ∃ (a : Fin 1664) (d : Fin 2048), y = ix2 a d := ⟨y 0, y 1, eq_ix2 (n0 := 1664) (n1 := 2048) y⟩
  have hr : (1664 * (t.val / 32) + a.val) % 16640 = 1664 * (t.val / 32) + a.val := Nat.mod_eq_of_lt (by omega)
  have hx := fun d => token_block m c t a d (by omega)
  refine (kept_apply _ _ _ _ a d).trans ?_
  show _ = Projection.hidden (m ((c : Thread nD τ).loc main_arg0)) (m ((c : Thread nD τ).loc main_arg1)) (m ((c : Thread nD τ).loc main_arg2))
    ⟨(1664 * (t.val / 32) + a.val) % 16640, Nat.mod_lt _ (by decide)⟩ d
  simp only [hx, gain_block, mod_block, hr]
  rfl

/-- **What every point keeps** is its row's block of tokens. -/
theorem kept_at : ∀ (n : ℕ) (hn : n < cfg0.N), (outsAt0 m c n hn).2 = tokens m c (n / 32)
  | 0, hn => by
    rw [outsAt0_A m c ⟨0, hn⟩ (show 0 % 32 = 0 by decide) (show 0 % 32 ≠ 19 by decide) (show ¬ 0 % 32 = 19 by decide)]
    dsimp only
    rw [first_kept]
    exact (congrArg (fun k => kept k (iblk m c 0 ⟨0, hn⟩) (iblk m c 1 ⟨0, hn⟩) (iblk m c 2 ⟨0, hn⟩)) (idx ⟨0, hn⟩).2.2.2.2.2.1).trans (kept_tokens m c ⟨0, hn⟩ _ rfl)
  | n + 1, hn => by
    by_cases h0 : (n + 1) % 32 = 0
    · rw [outsAt0_A m c ⟨n + 1, hn⟩ h0 (show (n + 1) % 32 ≠ 19 by omega) (show ¬ (n + 1) % 32 = 19 by omega)]
      dsimp only
      rw [first_kept]
      exact (congrArg (fun k => kept k (iblk m c 0 ⟨n + 1, hn⟩) (iblk m c 1 ⟨n + 1, hn⟩) (iblk m c 2 ⟨n + 1, hn⟩)) (idx ⟨n + 1, hn⟩).2.2.2.2.2.1).trans (kept_tokens m c ⟨n + 1, hn⟩ _ rfl)
    · have e : (n + 1) / 32 = n / 32 := by omega
      rw [e, ← kept_at n (Nat.lt_of_succ_lt hn)]
      by_cases h1 : (n + 1) % 32 = 19
      · rw [outsAt0_C m c ⟨n + 1, hn⟩ h0 (not_not.mpr h1) h1]
        rfl
      · rw [outsAt0_B m c ⟨n + 1, hn⟩ h0 h1 h1]
        rfl

/-- What every point writes off column block 19. -/
theorem written_at (h : t.val % 32 ≠ 19) : (outsAt0 m c t.val t.isLt).1 = written (tokens m c (t.val / 32)) (iblk m c 3 t) := by
  by_cases h0 : t.val % 32 = 0
  · rw [outsAt0_A m c t h0 h h]
    dsimp only
    rw [first_written]
    exact congrArg (fun k => written k (iblk m c 3 t)) ((congrArg (fun k => kept k (iblk m c 0 t) (iblk m c 1 t) (iblk m c 2 t)) (idx t).2.2.2.2.2.1).trans (kept_tokens m c t _ rfl))
  · have e : (t.val - 1) / 32 = t.val / 32 := by omega
    rw [outsAt0_B m c t h0 h h]
    dsimp only
    rw [other_written, kept_at, e]

/-- What a point writes, at an index of its block, is the output entry there. -/
theorem point (a : Fin 1664) (q : Fin 512) (h0 : t.val / 32 < 10) (h1 : t.val % 32 < 32) :
    ((outsAt0 m c t.val t.isLt).1 : FVec Ideal S1664x512 .bf16) (ix2 a q)
      = entry (m ((c : Thread nD τ).loc main_arg0)) (m ((c : Thread nD τ).loc main_arg1)) (m ((c : Thread nD τ).loc main_arg2))
          (m ((c : Thread nD τ).loc main_arg3)) ⟨1664 * (t.val / 32) + a, by omega⟩ ⟨512 * (t.val % 32) + q, by omega⟩ := by
  have hr : (1664 * (t.val / 32) + a.val) % 16640 = 1664 * (t.val / 32) + a.val := Nat.mod_eq_of_lt (by omega)
  by_cases h19 : t.val % 32 = 19
  · rw [outsAt0_C m c t (by omega) (not_not.mpr h19) h19]
    dsimp only
    rw [zero_written]
    unfold entry
    rw [dif_neg (show ¬ 512 * (t.val % 32) + q.val < 9728 by omega), if_pos (show 512 * (t.val % 32) + q.val < 10240 by omega)]
  · rw [written_at m c t h19]
    have key : ∀ (p : Fin 15872) (n : ℕ) (hn : n = t.val % 32 - if 19 < t.val % 32 then 1 else 0) (h : n < 31) (hp : p.val = 512 * n + q.val),
        written (tokens m c (t.val / 32)) (iblk m c 3 t) (ix2 a q)
          = product (m ((c : Thread nD τ).loc main_arg0)) (m ((c : Thread nD τ).loc main_arg1)) (m ((c : Thread nD τ).loc main_arg2))
            (m ((c : Thread nD τ).loc main_arg3)) ⟨1664 * (t.val / 32) + a, by omega⟩ p := fun p n hn h hp => by
      have hp' : p = ⟨512 * n + q.val, by omega⟩ := Fin.ext hp
      rw [hp']
      refine Finset.sum_congr rfl fun d _ => ?_
      refine congrArg₂ (· * ·) ?_ (weight_block m c t d q n hn h)
      exact congrArg (fun r => Projection.hidden (m ((c : Thread nD τ).loc main_arg0)) (m ((c : Thread nD τ).loc main_arg1)) (m ((c : Thread nD τ).loc main_arg2)) r d) (Fin.ext hr)
    unfold entry
    by_cases hl : t.val % 32 < 19
    · rw [dif_pos (show 512 * (t.val % 32) + q.val < 9728 by omega)]
      exact key _ (t.val % 32) (by rw [if_neg (by omega)]; omega) (by omega) rfl
    · rw [dif_neg (show ¬ 512 * (t.val % 32) + q.val < 9728 by omega), if_neg (show ¬ 512 * (t.val % 32) + q.val < 10240 by omega)]
      exact key _ (t.val % 32 - 1) (by rw [if_pos (by omega)]) (by omega) (by dsimp only; omega)

/-- **The kernel's output array** is the output. -/
theorem final : (dats m 0 c).arrAt 4 (cfgs 0).N
      = output (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  have ht : t.val < 320 := (idx t).2.2.2.2.2.2
  have f0 : (((cfg0.win 4).blk t).view.emb y 0).val = t.val / 32 * 1664 + (y 0).val := by blk_simp [idx t]
  have f1 : (((cfg0.win 4).blk t).view.emb y 1).val = t.val % 32 * 512 + (y 1).val := by blk_simp [idx t]
  refine Eq.trans ?_ ((point m c t ⟨(y 0).val, (y 0).isLt⟩ ⟨(y 1).val, (y 1).isLt⟩ (by omega) (by omega)).trans ?_)
  · exact congrArg (outsAt0 m c t.val t.isLt).1 (eq_ix2 (n0 := 1664) (n1 := 512) y)
  · unfold output
    congr 1 <;> apply Fin.ext
    · show 1664 * (t.val / 32) + (y 0).val = (((cfg0.win 4).blk t).view.emb y 0).val
      omega
    · show 512 * (t.val % 32) + (y 1).val = (((cfg0.win 4).blk t).view.emb y 1).val
      omega

end Cert.Kernel3Ideal.Body

end
-- ==== Proof.Reference3.lean ====
/-
  The input projection's reference's result, over the extended reals: the output.
-/
module

public import proofs.«01_k».proof.Proof.Spec3
public import proofs.«01_k».proof.Proof.Gen.Reference3Ideal.Read
public import Idealize.ShloMosaic.Lib.Pipeline.ValueKit

@[expose] public section

set_option maxRecDepth 16384

noncomputable section

namespace Cert.Reference3Ideal.Value

open Cert.Reference3Ideal Cert.Reference3Ideal.Gen Cert.Reference3Ideal.Read Cert.Projection
open Idealize.ShloMosaic Idealize.ShloMosaic.TcCoe Idealize.SL.Sem

variable (x : FVec Ideal S16640x2048 .f32) (g : FVec Ideal S2048 .f32) (b : FVec Ideal S4x8x6144 .f32) (w : FVec Ideal S4x2048x15872 .f32)

/-- The sum of a token's squares. -/
theorem squares_apply (r : Fin 16640) : val_main_v5 (F := Ideal) x (ix1 r) = ∑ e : Fin 2048, x (ix2 r e) * x (ix2 r e) := by
  rw [val_main_v5_apply, val_main_cst_apply]
  have e : ∀ e : Fin 2048, idx_main_v5 (ix1 r) e = ix2 r e := fun e => funext fun a => match a with
    | ⟨0, _⟩ => rfl
    | ⟨1, _⟩ => rfl
  simp only [e, val_main_v4_apply]
  refine (congrArg (· + _) Ideal.ofBits_zero_f32).trans (zero_add _)

/-- The norm times the gain. -/
theorem normed_apply (r : Fin 16640) (d : Fin 2048) : val_main_v16 (F := Ideal) x g (ix2 r d) = normed x g r d := by
  rw [val_main_v16_apply, val_main_v13_apply, val_main_v12_apply, val_main_v11_apply, val_main_v10_apply, val_main_v9_apply, val_main_cst_1_apply,
    val_main_v8_apply, val_main_v7_apply, val_main_cst_0_apply, val_main_v6_apply, val_main_v15_apply, val_main_v14_apply]
  have e1 : idx_main_v6 (idx_main_v12 (ix2 r d)) = ix1 r := funext fun a => match a with
    | ⟨0, _⟩ => rfl
  have e2 : idx_main_v14 (idx_main_v15 (ix2 r d)) = ix1 d := funext fun a => match a with
    | ⟨0, _⟩ => rfl
  rw [e1, e2, squares_apply]
  rfl

/-- The scale of a latent token. -/
theorem scale0_apply (d : Fin 2048) : val_main_v21 (F := Ideal) b (ix1 d) = 1 + b (ix3 0 0 ⟨2048 + d, by omega⟩) := by
  pointwise [val_main_v21, val_main_v20, val_main_cst_2, val_main_v19, val_main_v18, val_main_v3, val_main_v2]
  blk_ext

/-- The shift of a latent token. -/
theorem shift0_apply (d : Fin 2048) : val_main_v26 (F := Ideal) b (ix1 d) = b (ix3 0 0 ⟨d, by omega⟩) := by
  pointwise [val_main_v26, val_main_v25, val_main_v1, val_main_v0]
  blk_ext

/-- The scale of a context token. -/
theorem scale1_apply (d : Fin 2048) : val_main_v34 (F := Ideal) b (ix1 d) = 1 + b (ix3 0 1 ⟨2048 + d, by omega⟩) := by
  pointwise [val_main_v34, val_main_v33, val_main_cst_3, val_main_v32, val_main_v31, val_main_v3, val_main_v2]
  blk_ext

/-- The shift of a context token. -/
theorem shift1_apply (d : Fin 2048) : val_main_v39 (F := Ideal) b (ix1 d) = b (ix3 0 1 ⟨d, by omega⟩) := by
  pointwise [val_main_v39, val_main_v38, val_main_v1, val_main_v0]
  blk_ext

/-- A latent token, scaled and shifted. -/
theorem latent_apply (r : Fin 16384) (d : Fin 2048) :
    val_main_v29 (F := Ideal) x g b (ix2 r d) = hidden x g b ⟨r, by omega⟩ d := by
  rw [val_main_v29_apply, val_main_v24_apply, val_main_v17_apply, val_main_v23_apply, val_main_v22_apply, val_main_v28_apply, val_main_v27_apply]
  have e1 : idx_main_v17 (ix2 r d) = ix2 ⟨r, by omega⟩ d := funext fun a => match a with
    | ⟨0, _⟩ => rfl
    | ⟨1, _⟩ => rfl
  have e2 : idx_main_v22 (idx_main_v23 (ix2 r d)) = ix1 d := funext fun a => match a with
    | ⟨0, _⟩ => rfl
  have e3 : idx_main_v27 (idx_main_v28 (ix2 r d)) = ix1 d := funext fun a => match a with
    | ⟨0, _⟩ => rfl
  rw [e1, e2, e3, normed_apply, scale0_apply, shift0_apply]
  have hs : stream r.val = 0 := if_pos r.isLt
  unfold Projection.hidden
  rw [hs]
  rfl

/-- A context token, scaled and shifted. -/
theorem context_apply (r : Fin 256) (d : Fin 2048) :
    val_main_v42 (F := Ideal) x g b (ix2 r d) = hidden x g b ⟨16384 + r, by omega⟩ d := by
  rw [val_main_v42_apply, val_main_v37_apply, val_main_v30_apply, val_main_v36_apply, val_main_v35_apply, val_main_v41_apply, val_main_v40_apply]
  have e1 : idx_main_v30 (ix2 r d) = ix2 ⟨16384 + r, by omega⟩ d := funext fun a => match a with
    | ⟨0, _⟩ => rfl
    | ⟨1, _⟩ => rfl
  have e2 : idx_main_v35 (idx_main_v36 (ix2 r d)) = ix1 d := funext fun a => match a with
    | ⟨0, _⟩ => rfl
  have e3 : idx_main_v40 (idx_main_v41 (ix2 r d)) = ix1 d := funext fun a => match a with
    | ⟨0, _⟩ => rfl
  rw [e1, e2, e3, normed_apply, scale1_apply, shift1_apply]
  have hs : stream (16384 + r.val) = 1 := if_neg (by omega)
  unfold Projection.hidden
  dsimp only
  rw [hs]
  rfl

/-- Every token, scaled and shifted. -/
theorem hidden_apply (r : Fin 16640) (d : Fin 2048) : val_main_v43 (F := Ideal) x g b (ix2 r d) = hidden x g b r d := by
  have e : val_main_v43 (F := Ideal) x g b (ix2 r d)
      = if hx : r.val < 16384 then val_main_v29 (F := Ideal) x g b (ix2 ⟨r, hx⟩ d)
        else val_main_v42 (F := Ideal) x g b (ix2 ⟨r - 16384, by omega⟩ d) := by
    pointwise [val_main_v43]
  rw [e]
  split
  · exact latent_apply x g b _ d
  · refine (context_apply x g b _ d).trans (congrArg (fun r => hidden x g b r d) (Fin.ext ?_))
    show 16384 + (r.val - 16384) = r.val
    omega

/-- The product with the weights. -/
theorem product_apply (r : Fin 16640) (q : Fin 15872) : val_main_v46 (F := Ideal) x g b w (ix2 r q) = product x g b w r q := by
  rw [val_main_v46_apply]
  refine Finset.sum_congr rfl fun d _ => ?_
  have el : lidx_main_v46 (ix2 r q) d = ix2 r d := funext fun a => match a with
    | ⟨0, _⟩ => rfl
    | ⟨1, _⟩ => rfl
  have er : idx_main_v44 (idx_main_v45 (ridx_main_v46 (ix2 r q) d)) = ix3 0 d q := funext fun a => match a with
    | ⟨0, _⟩ => rfl
    | ⟨1, _⟩ => Fin.ext (show (d.val * 15872 + q.val) / 15872 % 2048 = d.val by omega)
    | ⟨2, _⟩ => Fin.ext (show (d.val * 15872 + q.val) % 15872 = q.val by omega)
  rw [el, hidden_apply, val_main_v45_apply, val_main_v44_apply, er]

/-- The columns, in order. -/
theorem result_apply (r : Fin 16640) (q : Fin 16384) :
    val_main_v51 (F := Ideal) x g b w (ix2 r q)
      = if hq : q.val < 9728 then val_main_v48 (F := Ideal) x g b w (ix2 r ⟨q, hq⟩)
        else if hq' : q.val - 9728 < 512 then val_main_v47 (F := Ideal) (ix2 r ⟨q - 9728, by omega⟩)
        else val_main_v49 (F := Ideal) x g b w (ix2 r ⟨q - 9728 - 512, by omega⟩) := by
  pointwise [val_main_v51, val_main_v50]

/-- **The reference's result** is the output. -/
theorem final : val_main_v51 (F := Ideal) x g b w = output x g b w := by
  funext y
  obtain ⟨r, q, rfl⟩ : ∃ (r : Fin 16640) (q : Fin 16384), y = ix2 r q := ⟨y 0, y 1, eq_ix2 (n0 := 16640) (n1 := 16384) y⟩
  rw [result_apply]
  show _ = entry x g b w r q
  unfold entry
  split
  · rw [val_main_v48_apply]
    have e : ∀ h : q.val < 9728, idx_main_v48 (ix2 r ⟨q, h⟩) = ix2 r ⟨q, by omega⟩ := fun h => funext fun a => match a with
      | ⟨0, _⟩ => rfl
      | ⟨1, _⟩ => rfl
    rw [e, product_apply]
  · rename_i h1
    split
    · rename_i h2
      rw [if_pos (show q.val < 10240 by omega), val_main_v47_apply, val_main_cst_4_apply]
      exact Ideal.ofBits_zero_f32
    · rename_i h2
      rw [if_neg (show ¬ q.val < 10240 by omega), val_main_v49_apply]
      have e : ∀ p : Fin 6144, idx_main_v49 (ix2 r p) = ix2 r ⟨9728 + p, by omega⟩ := fun p => funext fun a => match a with
        | ⟨0, _⟩ => rfl
        | ⟨1, _⟩ => rfl
      rw [e, product_apply]
      exact congrArg _ (Fin.ext (by dsimp only; omega))

end Cert.Reference3Ideal.Value

end
-- ==== Proof.Spec4.lean ====
/-
  What the merge of a layer computes, from its arguments, over the extended reals: the differential branch's head norm
  times its gain and the layer's constant, gated; the grouped branch, gated; the three branches through their weights, each under its own gate;
  their sum through the output weights, times the gate row of the token's stream, added to the token.
-/
module

public import proofs.«01_k».proof.Proof.Gen.Kernel4Ideal.Value
public import Idealize.ShloMosaic.Lib.Pointwise

@[expose] public section

set_option maxRecDepth 16384

noncomputable section

namespace Cert.Merge

open Cert.Kernel4Ideal
open Idealize.ShloMosaic Idealize.ShloMosaic.TcCoe Idealize.SL.Sem

/-- A gate times its logistic. -/
def silu (v : EReal) : EReal := v * Ideal.logistic v

/-- Component `e` of a head's RMS norm, times its gain and a constant `u`. -/
def normed (u : EReal) (v : Fin 128 → EReal) (g : EReal) (e : Fin 128) : EReal :=
  v e * Ideal.rsqrt (Ideal.div (∑ k : Fin 128, v k * v k) (Ideal.ofBits .f32 0x43000000#32) + Ideal.ofBits .f32 0x358637BD#32) * g
    * u

/-- The stream of a token: 0 for a latent token, 1 for a context token. -/
def stream (r : ℕ) : Fin 8 := if r < 16384 then 0 else 1

variable (u : EReal) (l : Fin 4) (p : FVec Ideal S16640x1024 .bf16) (d : FVec Ideal S8x128x16640 .f32) (a : FVec Ideal S8x128x16640 .f32) (z : FVec Ideal S16640x16384 .bf16)
  (g : FVec Ideal S128 .f32) (wb : FVec Ideal S4x3x1024x2048 .bf16) (wo : FVec Ideal S4x2048x2048 .bf16) (x : FVec Ideal S16640x2048 .f32) (b : FVec Ideal S4x8x6144 .f32)

/-- Component `j` of token `r`'s differential branch. -/
def diffBranch (r : Fin 16640) (j : Fin 1024) : EReal :=
  normed u (fun k => d (ix3 ⟨j / 128, by omega⟩ k r)) (g (ix1 ⟨j % 128, by omega⟩)) ⟨j % 128, by omega⟩ * silu (z (ix2 r ⟨6144 + j, by omega⟩))

/-- Component `j` of token `r`'s grouped branch. -/
def groupBranch (r : Fin 16640) (j : Fin 1024) : EReal :=
  a (ix3 ⟨j / 128, by omega⟩ ⟨j % 128, by omega⟩ r) * silu (z (ix2 r ⟨8704 + j, by omega⟩))

/-- Component `q` of the sum of the three branches, each through its weights and under its gate. -/
def summed (r : Fin 16640) (q : Fin 2048) : EReal :=
  Ideal.logistic (z (ix2 r ⟨10240 + q, by omega⟩)) * (∑ j : Fin 1024, p (ix2 r j) * wb (ix4 l 0 j q))
    + Ideal.logistic (z (ix2 r ⟨12288 + q, by omega⟩)) * (∑ j : Fin 1024, diffBranch u d z g r j * wb (ix4 l 1 j q))
    + Ideal.logistic (z (ix2 r ⟨14336 + q, by omega⟩)) * (∑ j : Fin 1024, groupBranch a z r j * wb (ix4 l 2 j q))

/-- An entry of the output. -/
def entry (r : Fin 16640) (q : Fin 2048) : EReal :=
  x (ix2 r q) + b (ix3 l (stream r) ⟨4096 + q, by omega⟩) * ∑ k : Fin 2048, summed u l p d a z g wb r k * wo (ix3 l k q)

/-- The output array of the first layer, whose constant is 0.8. -/
def output : FVec Ideal S16640x2048 .f32 := fun y => entry (Ideal.ofBits .f32 0x3F4CCCCD#32) 0 p d a z g wb wo x b ⟨(y 0).val, (y 0).isLt⟩ ⟨(y 1).val, (y 1).isLt⟩

end Cert.Merge

end
-- ==== Proof.Block4.lean ====
/-
  What one grid point of the merge computes from its blocks, over the extended reals: it keeps the two gated branches, a
  head at a time, then puts the three branches through their weights and gates, and their sum through the output weights.
-/
module

public import proofs.«01_k».proof.Proof.Spec4
public import Idealize.ShloMosaic.Lib.Pipeline.ValueKit
public import Idealize.ShloMosaic.Lib.WholeRead

@[expose] public section

set_option maxRecDepth 16384

noncomputable section

namespace Cert.Kernel4Ideal.Body

open Cert.Kernel4Ideal Cert.Kernel4Ideal.Gen Cert.Merge
open Idealize.ShloMosaic Idealize.ShloMosaic.TcCoe Idealize.SL.Sem

/-- The differential branch of a block of tokens, gated. -/
def dKept (u : EReal) (x1 : FVec Ideal S8x128x256 .f32) (x3 : FVec Ideal S256x1024 .bf16) (x6 : FVec Ideal S1x128 .f32) (a : Fin 256) (j : Fin 1024) : EReal :=
  normed u (fun k => x1 (ix3 ⟨j / 128, by omega⟩ k a)) (x6 (ix2 0 ⟨j % 128, by omega⟩)) ⟨j % 128, by omega⟩ * silu (x3 (ix2 a j))

/-- The grouped branch of a block of tokens, gated. -/
def aKept (x2 : FVec Ideal S8x128x256 .f32) (x4 x5 : FVec Ideal S256x512 .bf16) (a : Fin 256) (j : Fin 1024) : EReal :=
  x2 (ix3 ⟨j / 128, by omega⟩ ⟨j % 128, by omega⟩ a) * silu (if h : j.val < 512 then x4 (ix2 a ⟨j, h⟩) else x5 (ix2 a ⟨j - 512, by omega⟩))

/-- A block of the two branches as an array. -/
def rows (f : Fin 256 → Fin 1024 → EReal) : FVec Ideal S256x1024 .bf16 := fun y => f ⟨(y 0).val, (y 0).isLt⟩ ⟨(y 1).val, (y 1).isLt⟩

/-- The sum of the three branches, each through its weights and under its gate. -/
def mixed (x0 : FVec Ideal S256x1024 .bf16) (x7 x8 x9 : FVec Ideal S256x2048 .bf16) (x10 : FVec Ideal S1x3x1024x2048 .bf16) (D A : Fin 256 → Fin 1024 → EReal)
    (a : Fin 256) (k : Fin 2048) : EReal :=
  Ideal.logistic (x7 (ix2 a k)) * (∑ j : Fin 1024, x0 (ix2 a j) * x10 (ix4 0 0 j k))
    + Ideal.logistic (x8 (ix2 a k)) * (∑ j : Fin 1024, D a j * x10 (ix4 0 1 j k))
    + Ideal.logistic (x9 (ix2 a k)) * (∑ j : Fin 1024, A a j * x10 (ix4 0 2 j k))

/-- What the `n`-th grid point writes, at an index. -/
def written (n : ℕ) (x0 : FVec Ideal S256x1024 .bf16) (x1 x2 : FVec Ideal S8x128x256 .f32) (x3 : FVec Ideal S256x1024 .bf16) (x4 x5 : FVec Ideal S256x512 .bf16)
    (x6 : FVec Ideal S1x128 .f32) (x7 x8 x9 : FVec Ideal S256x2048 .bf16) (x10 : FVec Ideal S1x3x1024x2048 .bf16) (x11 : FVec Ideal S1x2048x2048 .bf16)
    (x12 : FVec Ideal S256x2048 .f32) (x13 : FVec Ideal S1x8x6144 .f32) (a : Fin 256) (q : Fin 2048) : EReal :=
  x12 (ix2 a q) + x13 (ix3 0 (if 64 ≤ n then 1 else 0) ⟨4096 + q, by omega⟩)
    * ∑ k : Fin 2048, mixed x0 x7 x8 x9 x10 (dKept (Ideal.ofBits .f32 0x3F4CCCCD#32) x1 x3 x6) (aKept x2 x4 x5) a k * x11 (ix3 0 k q)

/-- A head of the differential branch. -/
theorem d_head (v0 : FVec Ideal S1x128x256 .f32) (v1 : FVec Ideal S1x128 .f32) (v2 : FVec Ideal S256x128 .bf16) (a : Fin 256) (e : Fin 128) :
    k0_pay2 (F := Ideal) v0 v1 v2 (ix2 a e) = normed (Ideal.ofBits .f32 0x3F4CCCCD#32) (fun k => v0 (ix3 0 k a)) (v1 (ix2 0 e)) e * silu (v2 (ix2 a e)) := by
  pointwise [k0_pay2]
  rfl

/-- A head of the grouped branch. -/
theorem a_head (v0 : FVec Ideal S256x128 .bf16) (v1 : FVec Ideal S1x128x256 .f32) (a : Fin 256) (e : Fin 128) :
    k0_pay17 (F := Ideal) v0 v1 (ix2 a e) = v1 (ix3 0 e a) * silu (v0 (ix2 a e)) := by
  pointwise [k0_pay17]
  rfl

/-- The first two branches, through their weights and gates. -/
theorem two_branches (v0 : FVec Ideal S256x1024 .bf16) (w0 : FVec Ideal S1x1x1024x2048 .bf16) (g0 : FVec Ideal S256x2048 .bf16) (v1 : FVec Ideal S256x1024 .bf16)
    (w1 : FVec Ideal S1x1x1024x2048 .bf16) (g1 : FVec Ideal S256x2048 .bf16) (a : Fin 256) (k : Fin 2048) :
    k0_pay25 (F := Ideal) v0 w0 g0 v1 w1 g1 (ix2 a k)
      = Ideal.logistic (g0 (ix2 a k)) * (∑ j : Fin 1024, v0 (ix2 a j) * w0 (ix4 0 0 j k))
        + Ideal.logistic (g1 (ix2 a k)) * (∑ j : Fin 1024, v1 (ix2 a j) * w1 (ix4 0 0 j k)) := by
  pointwise [k0_pay25]

/-- Whether a grid point's tokens are context tokens. -/
theorem chosen : ∀ n : Fin 65, Scalar.cmpi .sge (BitVec.ofNat 32 n.val) 64#32 = if 64 ≤ n.val then 1#1 else 0#1 := by decide +kernel

/-- What is written, at an index. -/
theorem stored (n : ℕ) (hn : n < 65) (s : FVec Ideal S256x2048 .f32) (v : FVec Ideal S256x1024 .bf16) (w : FVec Ideal S1x1x1024x2048 .bf16) (g : FVec Ideal S256x2048 .bf16)
    (wo : FVec Ideal S1x2048x2048 .bf16) (m1 m0 : FVec Ideal S1x1x2048 .f32) (x : FVec Ideal S256x2048 .f32) (a : Fin 256) (q : Fin 2048) :
    k0_pay1 (F := Ideal) (BitVec.ofNat 32 n) s v w g wo m1 m0 x (ix2 a q)
      = x (ix2 a q) + (if 64 ≤ n then m1 (ix3 0 0 q) else m0 (ix3 0 0 q))
        * ∑ k : Fin 2048, (s (ix2 a k) + Ideal.logistic (g (ix2 a k)) * (∑ j : Fin 1024, v (ix2 a j) * w (ix4 0 0 j k))) * wo (ix3 0 k q) := by
  pointwise [k0_pay1]
  have h := chosen ⟨n, hn⟩
  dsimp only at h
  rw [h]
  split <;> rfl

variable (c : Dev nD) (i : grid0.Coords) (arg1 : Memref sig .tc .vmem S256x1024 .bf16) (harg1 : arg1.IsWhole) (arg2 : Memref sig .tc .vmem S8x128x256 .f32) (harg2 : arg2.IsWhole) (arg3 : Memref sig .tc .vmem S8x128x256 .f32) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S1x3x1024x2048 .bf16) (harg11 : arg11.IsWhole) (arg12 : Memref sig .tc .vmem S1x2048x2048 .bf16) (harg12 : arg12.IsWhole) (arg13 : Memref sig .tc .vmem S256x2048 .f32) (harg13 : arg13.IsWhole) (arg14 : Memref sig .tc .vmem S1x8x6144 .f32) (harg14 : arg14.IsWhole) (arg15 : Memref sig .tc .vmem S256x2048 .f32) (harg15 : arg15.IsWhole) (arg16 : Memref sig .tc .vmem S256x1024 .bf16) (harg16 : arg16.IsWhole) (arg17 : Memref sig .tc .vmem S256x1024 .bf16) (harg17 : arg17.IsWhole)
  (x0 : FVec Ideal S256x1024 .bf16) (x1 : FVec Ideal S8x128x256 .f32) (x2 : FVec Ideal S8x128x256 .f32) (x3 : FVec Ideal S256x1024 .bf16) (x4 : FVec Ideal S256x512 .bf16) (x5 : FVec Ideal S256x512 .bf16) (x6 : FVec Ideal S1x128 .f32) (x7 : FVec Ideal S256x2048 .bf16) (x8 : FVec Ideal S256x2048 .bf16) (x9 : FVec Ideal S256x2048 .bf16) (x10 : FVec Ideal S1x3x1024x2048 .bf16) (x11 : FVec Ideal S1x2048x2048 .bf16) (x12 : FVec Ideal S256x2048 .f32) (x13 : FVec Ideal S1x8x6144 .f32)

/-- A row of the modulation, loaded. -/
theorem mod_row (s : Fin 2) (off : Fin 3 → ℕ) (hoff : off = ![0, s.val, 4096]) (inb) (q : Fin 2048) :
    View.ld (Val := Elt Ideal) (e' := .f32) x13 (Rect.unit (s := S1x8x6144) off S1x1x2048.size inb) (ix3 0 0 q : S1x1x2048.Idx) = x13 (ix3 0 ⟨s, by omega⟩ ⟨4096 + q, by omega⟩) := by
  subst hoff
  refine congrArg x13 (funext fun a => Fin.ext ?_)
  match a with
  | ⟨0, _⟩ => rfl
  | ⟨1, _⟩ => show s.val + 1 * 0 = s.val; omega
  | ⟨2, _⟩ => show 4096 + 1 * q.val = 4096 + q.val; omega

/-- A branch's weights, loaded. -/
theorem branch_weights (s : Fin 3) (off : Fin 4 → ℕ) (hoff : off = ![0, s.val, 0, 0]) (inb) (j : Fin 1024) (k : Fin 2048) :
    View.ld (Val := Elt Ideal) (e' := .bf16) x10 (Rect.unit (s := S1x3x1024x2048) off S1x1x1024x2048.size inb) (ix4 0 0 j k : S1x1x1024x2048.Idx) = x10 (ix4 0 s j k) := by
  subst hoff
  refine congrArg x10 (funext fun a => Fin.ext ?_)
  match a with
  | ⟨0, _⟩ => rfl
  | ⟨1, _⟩ => show s.val + 1 * 0 = s.val; omega
  | ⟨2, _⟩ => show 0 + 1 * j.val = j.val; omega
  | ⟨3, _⟩ => show 0 + 1 * k.val = k.val; omega

/-- What a head's store of the differential branch leaves at an index. -/
theorem d_at (u : EReal) (h o : ℕ) (ho : o = 128 * h) (hh : h < 8) (off1 : Fin 3 → ℕ) (hoff1 : off1 = ![h, 0, 0]) (inb1) (off3 : Fin 2 → ℕ) (hoff3 : off3 = ![0, o]) (inb3 inb) (P : FVec Ideal S256x128 .bf16)
    (hP : ∀ (a : Fin 256) (e : Fin 128), P (ix2 a e)
      = normed u (fun k => View.ld (Val := Elt Ideal) (e' := .f32) x1 (Rect.unit (s := S8x128x256) off1 S1x128x256.size inb1) (ix3 0 k a : S1x128x256.Idx)) (x6 (ix2 0 e)) e
        * silu (View.ld (Val := Elt Ideal) (e' := .bf16) x3 (Rect.unit (s := S256x1024) off3 S256x128.size inb3) (ix2 a e : S256x128.Idx)))
    (y : S256x1024.Idx) (z : S256x128.Idx) (hz : (Rect.unit (s := S256x1024) off3 S256x128.size inb).emb z = y) : P z = rows (dKept u x1 x3 x6) y := by
  subst hoff1 hoff3 ho
  obtain ⟨a, e, rfl⟩ : ∃ (a : Fin 256) (e : Fin 128), z = ix2 a e := ⟨z 0, z 1, eq_ix2 (n0 := 256) (n1 := 128) z⟩
  have e0 : (y 0).val = a.val := by rw [← hz]; show 0 + 1 * a.val = _; omega
  have e1 : (y 1).val = 128 * h + e.val := by rw [← hz]; show 128 * h + 1 * e.val = _; omega
  have ey : y = ix2 a ⟨128 * h + e.val, by omega⟩ := funext fun b => match b with
    | ⟨0, _⟩ => Fin.ext e0
    | ⟨1, _⟩ => Fin.ext e1
  have l1 : ∀ k : Fin 128, View.ld (Val := Elt Ideal) (e' := .f32) x1 (Rect.unit (s := S8x128x256) ![h, 0, 0] S1x128x256.size inb1) (ix3 0 k a : S1x128x256.Idx) = x1 (ix3 ⟨h, hh⟩ k a) := fun k => by
    refine congrArg x1 (funext fun b => Fin.ext ?_)
    match b with
    | ⟨0, _⟩ => show h + 1 * 0 = h; omega
    | ⟨1, _⟩ => show 0 + 1 * k.val = k.val; omega
    | ⟨2, _⟩ => show 0 + 1 * a.val = a.val; omega
  have l3 : View.ld (Val := Elt Ideal) (e' := .bf16) x3 (Rect.unit (s := S256x1024) ![0, 128 * h] S256x128.size inb3) (ix2 a e : S256x128.Idx) = x3 (ix2 a ⟨128 * h + e.val, by omega⟩) := by
    refine congrArg x3 (funext fun b => Fin.ext ?_)
    match b with
    | ⟨0, _⟩ => show 0 + 1 * a.val = a.val; omega
    | ⟨1, _⟩ => show 128 * h + 1 * e.val = 128 * h + e.val; omega
  have q1 : (⟨(128 * h + e.val) / 128, by omega⟩ : Fin 8) = ⟨h, hh⟩ := Fin.ext (by dsimp only; omega)
  have q2 : (⟨(128 * h + e.val) % 128, by omega⟩ : Fin 128) = e := Fin.ext (by dsimp only; omega)
  rw [hP, ey]
  simp only [l1, l3]
  show _ = dKept u x1 x3 x6 a ⟨128 * h + e.val, by omega⟩
  unfold dKept
  dsimp only
  rw [q1, q2]

/-- What a head's store of the grouped branch leaves at an index. -/
theorem a_at (h o p : ℕ) (ho : o = 128 * h) (hh : h < 8) (x : FVec Ideal S256x512 .bf16) (hx : (x = x4 ∧ p = o ∧ h < 4) ∨ (x = x5 ∧ o = p + 512 ∧ 4 ≤ h))
    (off1 : Fin 3 → ℕ) (hoff1 : off1 = ![h, 0, 0]) (inb1) (off3 : Fin 2 → ℕ) (hoff3 : off3 = ![0, p]) (inb3) (off : Fin 2 → ℕ) (hoff : off = ![0, o]) (inb) (P : FVec Ideal S256x128 .bf16)
    (hP : ∀ (a : Fin 256) (e : Fin 128), P (ix2 a e)
      = View.ld (Val := Elt Ideal) (e' := .f32) x2 (Rect.unit (s := S8x128x256) off1 S1x128x256.size inb1) (ix3 0 e a : S1x128x256.Idx)
        * silu (View.ld (Val := Elt Ideal) (e' := .bf16) x (Rect.unit (s := S256x512) off3 S256x128.size inb3) (ix2 a e : S256x128.Idx)))
    (y : S256x1024.Idx) (z : S256x128.Idx) (hz : (Rect.unit (s := S256x1024) off S256x128.size inb).emb z = y) : P z = rows (aKept x2 x4 x5) y := by
  subst hoff1 hoff3 hoff ho
  obtain ⟨a, e, rfl⟩ : ∃ (a : Fin 256) (e : Fin 128), z = ix2 a e := ⟨z 0, z 1, eq_ix2 (n0 := 256) (n1 := 128) z⟩
  have e0 : (y 0).val = a.val := by rw [← hz]; show 0 + 1 * a.val = _; omega
  have e1 : (y 1).val = 128 * h + e.val := by rw [← hz]; show 128 * h + 1 * e.val = _; omega
  have ey : y = ix2 a ⟨128 * h + e.val, by omega⟩ := funext fun b => match b with
    | ⟨0, _⟩ => Fin.ext e0
    | ⟨1, _⟩ => Fin.ext e1
  have l1 : View.ld (Val := Elt Ideal) (e' := .f32) x2 (Rect.unit (s := S8x128x256) ![h, 0, 0] S1x128x256.size inb1) (ix3 0 e a : S1x128x256.Idx) = x2 (ix3 ⟨h, hh⟩ e a) := by
    refine congrArg x2 (funext fun b => Fin.ext ?_)
    match b with
    | ⟨0, _⟩ => show h + 1 * 0 = h; omega
    | ⟨1, _⟩ => show 0 + 1 * e.val = e.val; omega
    | ⟨2, _⟩ => show 0 + 1 * a.val = a.val; omega
  have hp : p + e.val < 512 := by rcases hx with ⟨_, h1, h2⟩ | ⟨_, h1, h2⟩ <;> omega
  have l3 : View.ld (Val := Elt Ideal) (e' := .bf16) x (Rect.unit (s := S256x512) ![0, p] S256x128.size inb3) (ix2 a e : S256x128.Idx) = x (ix2 a ⟨p + e.val, hp⟩) := by
    refine congrArg x (funext fun b => Fin.ext ?_)
    match b with
    | ⟨0, _⟩ => show 0 + 1 * a.val = a.val; omega
    | ⟨1, _⟩ => show p + 1 * e.val = p + e.val; omega
  have q1 : (⟨(128 * h + e.val) / 128, by omega⟩ : Fin 8) = ⟨h, hh⟩ := Fin.ext (by dsimp only; omega)
  have q2 : (⟨(128 * h + e.val) % 128, by omega⟩ : Fin 128) = e := Fin.ext (by dsimp only; omega)
  rw [hP, ey, l1, l3]
  show _ = aKept x2 x4 x5 a ⟨128 * h + e.val, by omega⟩
  unfold aKept
  dsimp only
  rw [q1, q2]
  refine congrArg (_ * silu ·) ?_
  rcases hx with ⟨rfl, h1, h2⟩ | ⟨rfl, h1, h2⟩
  · rw [dif_pos (show 128 * h + e.val < 512 by omega)]
    exact congrArg (fun k => x (ix2 a k)) (Fin.ext (by dsimp only; omega))
  · rw [dif_neg (show ¬ 128 * h + e.val < 512 by omega)]
    exact congrArg (fun k => x (ix2 a k)) (Fin.ext (by dsimp only; omega))

/-- What is written from what is kept. -/
theorem assembled (hn : (i 0).val < 65) (D A : FVec Ideal S256x1024 .bf16) (hD : D = rows (dKept (Ideal.ofBits .f32 0x3F4CCCCD#32) x1 x3 x6)) (hA : A = rows (aKept x2 x4 x5))
    (w0 w1 w2 : FVec Ideal S1x1x1024x2048 .bf16) (h0 : ∀ j k, w0 (ix4 0 0 j k) = x10 (ix4 0 0 j k)) (h1 : ∀ j k, w1 (ix4 0 0 j k) = x10 (ix4 0 1 j k)) (h2 : ∀ j k, w2 (ix4 0 0 j k) = x10 (ix4 0 2 j k))
    (m1 m0 : FVec Ideal S1x1x2048 .f32) (k1 : ∀ q : Fin 2048, m1 (ix3 0 0 q) = x13 (ix3 0 1 ⟨4096 + q, by omega⟩)) (k0 : ∀ q : Fin 2048, m0 (ix3 0 0 q) = x13 (ix3 0 0 ⟨4096 + q, by omega⟩)) :
    k0_pay1 (F := Ideal) (BitVec.ofNat 32 (i 0).val) (k0_pay25 (F := Ideal) x0 w0 x7 D w1 x8) A w2 x9 x11 m1 m0 x12
      = fun y => written (i 0).val x0 x1 x2 x3 x4 x5 x6 x7 x8 x9 x10 x11 x12 x13 ⟨(y 0).val, (y 0).isLt⟩ ⟨(y 1).val, (y 1).isLt⟩ := by
  funext y
  obtain ⟨a, q, rfl⟩ : ∃ (a : Fin 256) (q : Fin 2048), y = ix2 a q := ⟨y 0, y 1, eq_ix2 (n0 := 256) (n1 := 2048) y⟩
  rw [stored _ hn]
  subst hD hA
  simp only [two_branches, h0, h1, h2, k1, k0]
  unfold written mixed
  split <;> rfl

/-- **What a grid point writes.** -/
theorem writes (hn : (i 0).val < 65) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13
      = fun y => written (i 0).val x0 x1 x2 x3 x4 x5 x6 x7 x8 x9 x10 x11 x12 x13 ⟨(y 0).val, (y 0).isLt⟩ ⟨(y 1).val, (y 1).isLt⟩ := by
  frame_out
  refine assembled i x0 x1 x2 x3 x4 x5 x6 x7 x8 x9 x10 x11 x12 x13 hn _ _ ?_ ?_ _ _ _ (branch_weights x10 0 _ rfl _) (branch_weights x10 1 _ rfl _) (branch_weights x10 2 _ rfl _) _ _
    (mod_row x13 1 _ rfl _) (mod_row x13 0 _ rfl _)
  · refine (View.readCov_eq_canon_ld _ _ _ fun y => ?_).trans ((View.ld_unit_lit _ _ fun a => ?_).trans (funext fun y => ?_))
    · exact View.cover_of_tiled (s := S256x1024) _ ![256, 128] (by sl_kernel_rfl) y
    · match a with
      | ⟨0, _⟩ => rfl
      | ⟨1, _⟩ => rfl
    refine View.canon_eq_of_allAt _ y _ ?_ ?_
    · exact View.cover_of_tiled (s := S256x1024) _ ![256, 128] (by sl_kernel_rfl) y
    exact View.allAt_cons _ _ _ (fun z hz => d_at x1 x3 x6 _ 7 896 rfl (by decide) _ rfl _ _ rfl _ _ _ (fun a e => d_head _ _ _ a e) y z hz) (
      View.allAt_cons _ _ _ (fun z hz => d_at x1 x3 x6 _ 6 768 rfl (by decide) _ rfl _ _ rfl _ _ _ (fun a e => d_head _ _ _ a e) y z hz) (
      View.allAt_cons _ _ _ (fun z hz => d_at x1 x3 x6 _ 5 640 rfl (by decide) _ rfl _ _ rfl _ _ _ (fun a e => d_head _ _ _ a e) y z hz) (
      View.allAt_cons _ _ _ (fun z hz => d_at x1 x3 x6 _ 4 512 rfl (by decide) _ rfl _ _ rfl _ _ _ (fun a e => d_head _ _ _ a e) y z hz) (
      View.allAt_cons _ _ _ (fun z hz => d_at x1 x3 x6 _ 3 384 rfl (by decide) _ rfl _ _ rfl _ _ _ (fun a e => d_head _ _ _ a e) y z hz) (
      View.allAt_cons _ _ _ (fun z hz => d_at x1 x3 x6 _ 2 256 rfl (by decide) _ rfl _ _ rfl _ _ _ (fun a e => d_head _ _ _ a e) y z hz) (
      View.allAt_cons _ _ _ (fun z hz => d_at x1 x3 x6 _ 1 128 rfl (by decide) _ rfl _ _ rfl _ _ _ (fun a e => d_head _ _ _ a e) y z hz) (
      View.allAt_cons _ _ _ (fun z hz => d_at x1 x3 x6 _ 0 0 rfl (by decide) _ rfl _ _ rfl _ _ _ (fun a e => d_head _ _ _ a e) y z hz) (
      View.allAt_nil _ _))))))))
  · refine (View.readCov_eq_canon_ld _ _ _ fun y => ?_).trans ((View.ld_unit_lit _ _ fun a => ?_).trans (funext fun y => ?_))
    · exact View.cover_of_tiled (s := S256x1024) _ ![256, 128] (by sl_kernel_rfl) y
    · match a with
      | ⟨0, _⟩ => rfl
      | ⟨1, _⟩ => rfl
    refine View.canon_eq_of_allAt _ y _ ?_ ?_
    · exact View.cover_of_tiled (s := S256x1024) _ ![256, 128] (by sl_kernel_rfl) y
    exact View.allAt_cons _ _ _ (fun z hz => a_at x2 x4 x5 7 896 384 rfl (by decide) _ (.inr ⟨rfl, rfl, by decide⟩) _ rfl _ _ rfl _ _ rfl _ _ (fun a e => a_head _ _ a e) y z hz) (
      View.allAt_cons _ _ _ (fun z hz => a_at x2 x4 x5 6 768 256 rfl (by decide) _ (.inr ⟨rfl, rfl, by decide⟩) _ rfl _ _ rfl _ _ rfl _ _ (fun a e => a_head _ _ a e) y z hz) (
      View.allAt_cons _ _ _ (fun z hz => a_at x2 x4 x5 5 640 128 rfl (by decide) _ (.inr ⟨rfl, rfl, by decide⟩) _ rfl _ _ rfl _ _ rfl _ _ (fun a e => a_head _ _ a e) y z hz) (
      View.allAt_cons _ _ _ (fun z hz => a_at x2 x4 x5 4 512 0 rfl (by decide) _ (.inr ⟨rfl, rfl, by decide⟩) _ rfl _ _ rfl _ _ rfl _ _ (fun a e => a_head _ _ a e) y z hz) (
      View.allAt_cons _ _ _ (fun z hz => a_at x2 x4 x5 3 384 384 rfl (by decide) _ (.inl ⟨rfl, rfl, by decide⟩) _ rfl _ _ rfl _ _ rfl _ _ (fun a e => a_head _ _ a e) y z hz) (
      View.allAt_cons _ _ _ (fun z hz => a_at x2 x4 x5 2 256 256 rfl (by decide) _ (.inl ⟨rfl, rfl, by decide⟩) _ rfl _ _ rfl _ _ rfl _ _ (fun a e => a_head _ _ a e) y z hz) (
      View.allAt_cons _ _ _ (fun z hz => a_at x2 x4 x5 1 128 128 rfl (by decide) _ (.inl ⟨rfl, rfl, by decide⟩) _ rfl _ _ rfl _ _ rfl _ _ (fun a e => a_head _ _ a e) y z hz) (
      View.allAt_cons _ _ _ (fun z hz => a_at x2 x4 x5 0 0 0 rfl (by decide) _ (.inl ⟨rfl, rfl, by decide⟩) _ rfl _ _ rfl _ _ rfl _ _ (fun a e => a_head _ _ a e) y z hz) (
      View.allAt_nil _ _))))))))

end Cert.Kernel4Ideal.Body

end
-- ==== Proof.Value4.lean ====
/-
  The merge's output array, over the extended reals.
-/
module

public import proofs.«01_k».proof.Proof.Block4

@[expose] public section

set_option maxRecDepth 16384

noncomputable section

namespace Cert.Kernel4Ideal.Body

open Cert.Kernel4Ideal Cert.Kernel4Ideal.Gen Cert.Merge
open Idealize.ShloMosaic Idealize.ShloMosaic.TcCoe Idealize.SL.Sem

variable (m : (ℓ : Loc nD τ sig) → Buf (Elt Ideal) ℓ)

/-- Which blocks each grid point reads and writes. -/
theorem idx : ∀ t : Fin cfg0.N, win0_0.index t = ![t.val, 0] ∧ win0_1.index t = ![0, 0, t.val] ∧ win0_2.index t = ![0, 0, t.val]
    ∧ win0_3.index t = ![t.val, 6] ∧ win0_4.index t = ![t.val, 17] ∧ win0_5.index t = ![t.val, 18] ∧ win0_6.index t = ![0, 0]
    ∧ win0_7.index t = ![t.val, 5] ∧ win0_8.index t = ![t.val, 6] ∧ win0_9.index t = ![t.val, 7] ∧ win0_10.index t = ![0, 0, 0, 0]
    ∧ win0_11.index t = ![0, 0, 0] ∧ win0_12.index t = ![t.val, 0] ∧ win0_13.index t = ![0, 0, 0] ∧ win0_14.index t = ![t.val, 0]
    ∧ (grid0.coords t 0).val = t.val ∧ t.val < 65 :=
  (by decide +kernel : ∀ t : Fin grid0.N, _)

variable (c : Dev nD) (t : Fin cfg0.N)

/-- The gain as the kernel finds it, a row. -/
theorem gain_row (e : Fin 128) :
    (V m c main_v0 : FVec Ideal S1x128 .f32) (ix2 0 e) = (m ((c : Thread nD τ).loc main_arg4) : FVec Ideal S128 .f32) (ix1 e) := by
  have h : V m c main_v0 = shapeCast S1x128 (m ((c : Thread nD τ).loc main_arg4) : FVec Ideal S128 .f32) shapeCasts_S128_S1x128 := by
    dsimp only [V, hostOps0]
    after_results
    rfl
  rw [h]
  pointwise []

/-- The gain, whole at every grid point. -/
theorem gain_block (e : Fin 128) :
    (iblk m c 6 t : FVec Ideal S1x128 .f32) (ix2 0 e) = (m ((c : Thread nD τ).loc main_arg4) : FVec Ideal S128 .f32) (ix1 e) := by
  refine Eq.trans (congrArg (V m c main_v0) (?_ : _ = ix2 0 e)) (gain_row m c e)
  blk_ext [idx t]

/-- A block of the retention branch. -/
theorem r_block (h : t.val < 65) (a : Fin 256) (j : Fin 1024) :
    (iblk m c 0 t : FVec Ideal S256x1024 .bf16) (ix2 a j) = (m ((c : Thread nD τ).loc main_arg0) : FVec Ideal S16640x1024 .bf16) (ix2 ⟨256 * t + a, by omega⟩ j) := by
  blk_ext [iblk, V, idx t]

/-- A block of the differential branch. -/
theorem d_block (h : t.val < 65) (n : Fin 8) (k : Fin 128) (a : Fin 256) :
    (iblk m c 1 t : FVec Ideal S8x128x256 .f32) (ix3 n k a) = (m ((c : Thread nD τ).loc main_arg1) : FVec Ideal S8x128x16640 .f32) (ix3 n k ⟨256 * t + a, by omega⟩) := by
  blk_ext [iblk, V, idx t]

/-- A block of the grouped branch. -/
theorem a_block (h : t.val < 65) (n : Fin 8) (k : Fin 128) (a : Fin 256) :
    (iblk m c 2 t : FVec Ideal S8x128x256 .f32) (ix3 n k a) = (m ((c : Thread nD τ).loc main_arg2) : FVec Ideal S8x128x16640 .f32) (ix3 n k ⟨256 * t + a, by omega⟩) := by
  blk_ext [iblk, V, idx t]

/-- A block of the gates of the differential branch. -/
theorem d_gate_block (h : t.val < 65) (a : Fin 256) (j : Fin 1024) :
    (iblk m c 3 t : FVec Ideal S256x1024 .bf16) (ix2 a j) = (m ((c : Thread nD τ).loc main_arg3) : FVec Ideal S16640x16384 .bf16) (ix2 ⟨256 * t + a, by omega⟩ ⟨6144 + j, by omega⟩) := by
  blk_ext [iblk, V, idx t]

/-- A block of the first gates of the grouped branch. -/
theorem a_gate0_block (h : t.val < 65) (a : Fin 256) (j : Fin 512) :
    (iblk m c 4 t : FVec Ideal S256x512 .bf16) (ix2 a j) = (m ((c : Thread nD τ).loc main_arg3) : FVec Ideal S16640x16384 .bf16) (ix2 ⟨256 * t + a, by omega⟩ ⟨8704 + j, by omega⟩) := by
  blk_ext [iblk, V, idx t]

/-- A block of the last gates of the grouped branch. -/
theorem a_gate1_block (h : t.val < 65) (a : Fin 256) (j : Fin 512) :
    (iblk m c 5 t : FVec Ideal S256x512 .bf16) (ix2 a j) = (m ((c : Thread nD τ).loc main_arg3) : FVec Ideal S16640x16384 .bf16) (ix2 ⟨256 * t + a, by omega⟩ ⟨9216 + j, by omega⟩) := by
  blk_ext [iblk, V, idx t]

/-- A block of the gates of branch 0. -/
theorem gate0_block (h : t.val < 65) (a : Fin 256) (j : Fin 2048) :
    (iblk m c 7 t : FVec Ideal S256x2048 .bf16) (ix2 a j) = (m ((c : Thread nD τ).loc main_arg3) : FVec Ideal S16640x16384 .bf16) (ix2 ⟨256 * t + a, by omega⟩ ⟨10240 + j, by omega⟩) := by
  blk_ext [iblk, V, idx t]

/-- A block of the gates of branch 1. -/
theorem gate1_block (h : t.val < 65) (a : Fin 256) (j : Fin 2048) :
    (iblk m c 8 t : FVec Ideal S256x2048 .bf16) (ix2 a j) = (m ((c : Thread nD τ).loc main_arg3) : FVec Ideal S16640x16384 .bf16) (ix2 ⟨256 * t + a, by omega⟩ ⟨12288 + j, by omega⟩) := by
  blk_ext [iblk, V, idx t]

/-- A block of the gates of branch 2. -/
theorem gate2_block (h : t.val < 65) (a : Fin 256) (j : Fin 2048) :
    (iblk m c 9 t : FVec Ideal S256x2048 .bf16) (ix2 a j) = (m ((c : Thread nD τ).loc main_arg3) : FVec Ideal S16640x16384 .bf16) (ix2 ⟨256 * t + a, by omega⟩ ⟨14336 + j, by omega⟩) := by
  blk_ext [iblk, V, idx t]

/-- The first layer's branch weights, whole at every grid point. -/
theorem branch_block (h : t.val < 65) (s : Fin 3) (j : Fin 1024) (k : Fin 2048) :
    (iblk m c 10 t : FVec Ideal S1x3x1024x2048 .bf16) (ix4 0 s j k) = (m ((c : Thread nD τ).loc main_arg5) : FVec Ideal S4x3x1024x2048 .bf16) (ix4 0 s j k) := by
  blk_ext [iblk, V, idx t]

/-- The first layer's output weights, whole at every grid point. -/
theorem out_block (h : t.val < 65) (k q : Fin 2048) :
    (iblk m c 11 t : FVec Ideal S1x2048x2048 .bf16) (ix3 0 k q) = (m ((c : Thread nD τ).loc main_arg6) : FVec Ideal S4x2048x2048 .bf16) (ix3 0 k q) := by
  blk_ext [iblk, V, idx t]

/-- A block of tokens. -/
theorem token_block (h : t.val < 65) (a : Fin 256) (q : Fin 2048) :
    (iblk m c 12 t : FVec Ideal S256x2048 .f32) (ix2 a q) = (m ((c : Thread nD τ).loc main_arg7) : FVec Ideal S16640x2048 .f32) (ix2 ⟨256 * t + a, by omega⟩ q) := by
  blk_ext [iblk, V, idx t]

/-- The first layer's modulation, whole at every grid point. -/
theorem mod_block (h : t.val < 65) (s : Fin 8) (q : Fin 6144) :
    (iblk m c 13 t : FVec Ideal S1x8x6144 .f32) (ix3 0 s q) = (m ((c : Thread nD τ).loc main_arg8) : FVec Ideal S4x8x6144 .f32) (ix3 0 s q) := by
  blk_ext [iblk, V, idx t]

/-- A block of the differential branch, gated. -/
theorem d_kept (h : t.val < 65) (a : Fin 256) (j : Fin 1024) :
    dKept (Ideal.ofBits .f32 0x3F4CCCCD#32) (iblk m c 1 t) (iblk m c 3 t) (iblk m c 6 t) a j
      = diffBranch (Ideal.ofBits .f32 0x3F4CCCCD#32) (m ((c : Thread nD τ).loc main_arg1)) (m ((c : Thread nD τ).loc main_arg3)) (m ((c : Thread nD τ).loc main_arg4)) ⟨256 * t + a, by omega⟩ j := by
  unfold dKept diffBranch
  exact congrArg₂ (· * ·) (congrArg₂ (fun v g => normed _ v g _) (funext fun k => d_block m c t h _ k a) (gain_block m c t _)) (congrArg silu (d_gate_block m c t h a j))

/-- A block of the grouped branch, gated. -/
theorem a_kept (h : t.val < 65) (a : Fin 256) (j : Fin 1024) :
    aKept (iblk m c 2 t) (iblk m c 4 t) (iblk m c 5 t) a j
      = groupBranch (m ((c : Thread nD τ).loc main_arg2)) (m ((c : Thread nD τ).loc main_arg3)) ⟨256 * t + a, by omega⟩ j := by
  unfold aKept groupBranch
  refine congrArg₂ (· * ·) (a_block m c t h _ _ a) (congrArg silu ?_)
  split
  · exact a_gate0_block m c t h a _
  · refine (a_gate1_block m c t h a _).trans (congrArg (fun k => (m ((c : Thread nD τ).loc main_arg3) : FVec Ideal S16640x16384 .bf16) (ix2 ⟨256 * t + a, by omega⟩ k)) (Fin.ext ?_))
    dsimp only
    omega

/-- A block of the three branches' sum. -/
theorem mixed_block (h : t.val < 65) (a : Fin 256) (k : Fin 2048) :
    mixed (iblk m c 0 t) (iblk m c 7 t) (iblk m c 8 t) (iblk m c 9 t) (iblk m c 10 t) (dKept (Ideal.ofBits .f32 0x3F4CCCCD#32) (iblk m c 1 t) (iblk m c 3 t) (iblk m c 6 t)) (aKept (iblk m c 2 t) (iblk m c 4 t) (iblk m c 5 t)) a k
      = summed (Ideal.ofBits .f32 0x3F4CCCCD#32) 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨256 * t + a, by omega⟩ k := by
  unfold mixed summed
  refine congrArg₂ (· + ·) (congrArg₂ (· + ·) (congrArg₂ (· * ·) (congrArg Ideal.logistic (gate0_block m c t h a k)) (Finset.sum_congr rfl fun j _ => ?_))
    (congrArg₂ (· * ·) (congrArg Ideal.logistic (gate1_block m c t h a k)) (Finset.sum_congr rfl fun j _ => ?_)))
    (congrArg₂ (· * ·) (congrArg Ideal.logistic (gate2_block m c t h a k)) (Finset.sum_congr rfl fun j _ => ?_))
  · exact congrArg₂ (· * ·) (r_block m c t h a j) (branch_block m c t h 0 j k)
  · exact congrArg₂ (· * ·) (d_kept m c t h a j) (branch_block m c t h 1 j k)
  · exact congrArg₂ (· * ·) (a_kept m c t h a j) (branch_block m c t h 2 j k)

/-- What a grid point writes, at an index, is the output entry there. -/
theorem point (h : t.val < 65) (a : Fin 256) (q : Fin 2048) :
    (outsAt0 m c t : FVec Ideal S256x2048 .f32) (ix2 a q) = entry (Ideal.ofBits .f32 0x3F4CCCCD#32) 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨256 * t + a, by omega⟩ q := by
  have hc : (grid0.coords t 0).val = t.val := (idx t).2.2.2.2.2.2.2.2.2.2.2.2.2.2.2.1
  have hs : (if 64 ≤ (grid0.coords t 0).val then (1 : Fin 8) else 0) = stream (256 * t.val + a.val) := by
    rw [hc]
    unfold stream
    split <;> split <;> first | rfl | (exfalso; omega)
  have e : outsAt0 m c t = _ := writes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (by omega)
  refine (congrFun e (ix2 a q)).trans ?_
  show written (grid0.coords t 0).val _ _ _ _ _ _ _ _ _ _ _ _ _ _ a q = _
  unfold written entry
  rw [hs]
  refine congrArg₂ (· + ·) (token_block m c t h a q) (congrArg₂ (· * ·) (mod_block m c t h _ _) (Finset.sum_congr rfl fun k _ => ?_))
  exact congrArg₂ (· * ·) (mixed_block m c t h a k) (out_block m c t h k q)

/-- **The kernel's output array** is the output. -/
theorem final : (dats m 0 c).arrAt 14 (cfgs 0).N = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t _ y => ?_
  blk_simp
  rw [after0_14]
  have ht : t.val < 65 := (idx t).2.2.2.2.2.2.2.2.2.2.2.2.2.2.2.2
  have f0 : (((cfg0.win 14).blk t).view.emb y 0).val = t.val * 256 + (y 0).val := by blk_simp [idx t]
  have f1 : (((cfg0.win 14).blk t).view.emb y 1).val = (y 1).val := by blk_simp [idx t]
  refine Eq.trans ?_ ((point m c t ht ⟨(y 0).val, (y 0).isLt⟩ ⟨(y 1).val, (y 1).isLt⟩).trans ?_)
  · exact congrArg (outsAt0 m c t) (eq_ix2 (n0 := 256) (n1 := 2048) y)
  · unfold output
    congr 1 <;> apply Fin.ext
    · show 256 * t.val + (y 0).val = (((cfg0.win 14).blk t).view.emb y 0).val
      omega
    · show (y 1).val = (((cfg0.win 14).blk t).view.emb y 1).val
      omega

end Cert.Kernel4Ideal.Body

end
-- ==== Proof.Reference4.lean ====
/-
  The merge's reference's result, over the extended reals: the output.
-/
module

public import proofs.«01_k».proof.Proof.Spec4
public import proofs.«01_k».proof.Proof.Gen.Reference4Ideal.Read
public import Idealize.ShloMosaic.Lib.Pipeline.ValueKit
public import Idealize.ShloMosaic.Lib.IdealHost

@[expose] public section

set_option maxRecDepth 16384

noncomputable section

namespace Cert.Reference4Ideal.Value

open Cert.Reference4Ideal Cert.Reference4Ideal.Gen Cert.Reference4Ideal.Read Cert.Merge
open Idealize.ShloMosaic Idealize.ShloMosaic.TcCoe Idealize.SL.Sem

variable (p : FVec Ideal S16640x1024 .bf16) (d : FVec Ideal S8x128x16640 .f32) (a : FVec Ideal S8x128x16640 .f32) (z : FVec Ideal S16640x16384 .bf16)
  (g : FVec Ideal S128 .f32) (wb : FVec Ideal S4x3x1024x2048 .bf16) (wo : FVec Ideal S4x2048x2048 .bf16) (x : FVec Ideal S16640x2048 .f32) (b : FVec Ideal S4x8x6144 .f32)

/-- The constant one. -/
theorem one : Ideal.ofBits .f32 0x3F800000#32 = 1 := Ideal.ofBits_one_f32

/-- The logistic, written out. -/
theorem logistic_out (v : EReal) : Ideal.div (Ideal.ofBits .f32 0x3F800000#32) (Ideal.ofBits .f32 0x3F800000#32 + Ideal.exp (-v)) = Ideal.logistic v := by
  rw [one]
  rfl

/-- A head's sum of squares. -/
theorem squares_apply (r : Fin 16640) (h : Fin 8) :
    val_main_v9 (F := Ideal) d (ix2 r h) = ∑ k : Fin 128, d (ix3 h k r) * d (ix3 h k r) := by
  rw [val_main_v9_apply, val_main_cst_apply]
  have e : ∀ k : Fin 128, idx_main_v7 (idx_main_v9 (ix2 r h) k) = ix3 h k r := fun k => funext fun i => match i with
    | ⟨0, _⟩ => rfl
    | ⟨1, _⟩ => rfl
    | ⟨2, _⟩ => rfl
  simp only [val_main_v8_apply, val_main_v7_apply, e]
  refine (congrArg (· + _) Ideal.ofBits_zero_f32).trans (zero_add _)

/-- A head's norm, times its gain and 0.8. -/
theorem normed_apply (r : Fin 16640) (h : Fin 8) (e : Fin 128) :
    val_main_v22 (F := Ideal) d g (ix3 r h e) = normed (Ideal.ofBits .f32 0x3F4CCCCD#32) (fun k => d (ix3 h k r)) (g (ix1 e)) e := by
  rw [val_main_v22_apply, val_main_v21_apply, val_main_cst_2_apply, val_main_v20_apply, val_main_v19_apply, val_main_v18_apply, val_main_v17_apply,
    val_main_v16_apply, val_main_v15_apply, val_main_v14_apply, val_main_v13_apply, val_main_cst_1_apply, val_main_v12_apply, val_main_v11_apply,
    val_main_cst_0_apply, val_main_v10_apply, val_main_v7_apply]
  have e1 : idx_main_v10 (idx_main_v16 (ix3 r h e)) = ix2 r h := funext fun i => match i with
    | ⟨0, _⟩ => rfl
    | ⟨1, _⟩ => rfl
  have e2 : idx_main_v18 (idx_main_v19 (ix3 r h e)) = ix1 e := funext fun i => match i with
    | ⟨0, _⟩ => rfl
  have e3 : idx_main_v7 (ix3 r h e) = ix3 h e r := funext fun i => match i with
    | ⟨0, _⟩ => rfl
    | ⟨1, _⟩ => rfl
    | ⟨2, _⟩ => rfl
  rw [e1, e2, e3, squares_apply]
  rfl

/-- The differential branch. -/
theorem diff_apply (r : Fin 16640) (j : Fin 1024) : val_main_v26 (F := Ideal) d z g (ix2 r j) = diffBranch (Ideal.ofBits .f32 0x3F4CCCCD#32) d z g r j := by
  rw [val_main_v26_apply, val_main_v23_apply, val_main_v25_apply, val_main_call0_v5_apply, val_main_call0_v4_apply, val_main_call0_cst_0_apply,
    val_main_call0_v3_apply, val_main_call0_v2_apply, val_main_call0_cst_apply, val_main_call0_v1_apply, val_main_call0_v0_apply, val_main_v24_apply, val_main_v0_apply]
  have e1 : idx_main_v23 (ix2 r j) = ix3 r ⟨j / 128, by omega⟩ ⟨j % 128, by omega⟩ := funext fun i => match i with
    | ⟨0, _⟩ => Fin.ext (show (r.val * 1024 + j.val) / 1024 = r.val by omega)
    | ⟨1, _⟩ => Fin.ext (show (r.val * 1024 + j.val) / 128 % 8 = j.val / 128 by omega)
    | ⟨2, _⟩ => Fin.ext (show (r.val * 1024 + j.val) % 128 = j.val % 128 by omega)
  have e2 : idx_main_v24 (ix2 r j) = ix2 r ⟨6144 + j, by omega⟩ := funext fun i => match i with
    | ⟨0, _⟩ => rfl
    | ⟨1, _⟩ => rfl
  rw [e1, e2, normed_apply]
  refine congrArg (_ * ·) (congrArg (_ * ·) (logistic_out _))

/-- The grouped branch. -/
theorem group_apply (r : Fin 16640) (j : Fin 1024) : val_main_v31 (F := Ideal) a z (ix2 r j) = groupBranch a z r j := by
  rw [val_main_v31_apply, val_main_v28_apply, val_main_v27_apply, val_main_v30_apply, val_main_call1_v5_apply, val_main_call1_v4_apply, val_main_call1_cst_0_apply,
    val_main_call1_v3_apply, val_main_call1_v2_apply, val_main_call1_cst_apply, val_main_call1_v1_apply, val_main_call1_v0_apply, val_main_v29_apply, val_main_v0_apply]
  have e1 : idx_main_v27 (idx_main_v28 (ix2 r j)) = ix3 ⟨j / 128, by omega⟩ ⟨j % 128, by omega⟩ r := funext fun i => match i with
    | ⟨0, _⟩ => Fin.ext (show (r.val * 1024 + j.val) / 128 % 8 = j.val / 128 by omega)
    | ⟨1, _⟩ => Fin.ext (show (r.val * 1024 + j.val) % 128 = j.val % 128 by omega)
    | ⟨2, _⟩ => Fin.ext (show (r.val * 1024 + j.val) / 1024 = r.val by omega)
  have e2 : idx_main_v29 (ix2 r j) = ix2 r ⟨8704 + j, by omega⟩ := funext fun i => match i with
    | ⟨0, _⟩ => rfl
    | ⟨1, _⟩ => rfl
  rw [e1, e2]
  refine congrArg (_ * ·) (congrArg (_ * ·) (logistic_out _))

/-- A branch's gate. -/
theorem gate_apply (r : Fin 16640) (q : Fin 6144) :
    val_main_v38 (F := Ideal) z (ix2 r q) = Ideal.logistic (z (ix2 r ⟨10240 + q, by omega⟩)) := by
  rw [val_main_v38_apply, val_main_v37_apply, val_main_cst_4_apply, val_main_v36_apply, val_main_v35_apply, val_main_cst_3_apply, val_main_v34_apply, val_main_v33_apply,
    val_main_v32_apply, val_main_v0_apply]
  have e : idx_main_v32 (ix2 r q) = ix2 r ⟨10240 + q, by omega⟩ := funext fun i => match i with
    | ⟨0, _⟩ => rfl
    | ⟨1, _⟩ => rfl
  rw [e]
  exact logistic_out _

/-- Branch 0's weights. -/
theorem weights0_apply (j : Fin 1024) (q : Fin 2048) : val_main_v42 (F := Ideal) wb (ix2 j q) = wb (ix4 0 0 j q) := by
  rw [val_main_v42_apply, val_main_v41_apply, val_main_v3_apply, val_main_v2_apply, val_main_v1_apply]
  refine congrArg wb (funext fun i => ?_)
  have hj := j.isLt
  have hq := q.isLt
  match i with
  | ⟨0, _⟩ => rfl
  | ⟨1, _⟩ => exact Fin.ext (show ((0 * 1024 + (j.val * 2048 + q.val) / 2048 % 1024) * 2048 + (j.val * 2048 + q.val) % 2048) / 2097152 % 3 = 0 by omega)
  | ⟨2, _⟩ => exact Fin.ext (show ((0 * 1024 + (j.val * 2048 + q.val) / 2048 % 1024) * 2048 + (j.val * 2048 + q.val) % 2048) / 2048 % 1024 = j.val by omega)
  | ⟨3, _⟩ => exact Fin.ext (show ((0 * 1024 + (j.val * 2048 + q.val) / 2048 % 1024) * 2048 + (j.val * 2048 + q.val) % 2048) % 2048 = q.val by omega)

/-- Branch 1's weights. -/
theorem weights1_apply (j : Fin 1024) (q : Fin 2048) : val_main_v47 (F := Ideal) wb (ix2 j q) = wb (ix4 0 1 j q) := by
  rw [val_main_v47_apply, val_main_v46_apply, val_main_v3_apply, val_main_v2_apply, val_main_v1_apply]
  refine congrArg wb (funext fun i => ?_)
  have hj := j.isLt
  have hq := q.isLt
  match i with
  | ⟨0, _⟩ => rfl
  | ⟨1, _⟩ => exact Fin.ext (show (((1 + 0) * 1024 + (j.val * 2048 + q.val) / 2048 % 1024) * 2048 + (j.val * 2048 + q.val) % 2048) / 2097152 % 3 = 1 by omega)
  | ⟨2, _⟩ => exact Fin.ext (show (((1 + 0) * 1024 + (j.val * 2048 + q.val) / 2048 % 1024) * 2048 + (j.val * 2048 + q.val) % 2048) / 2048 % 1024 = j.val by omega)
  | ⟨3, _⟩ => exact Fin.ext (show (((1 + 0) * 1024 + (j.val * 2048 + q.val) / 2048 % 1024) * 2048 + (j.val * 2048 + q.val) % 2048) % 2048 = q.val by omega)

/-- Branch 2's weights. -/
theorem weights2_apply (j : Fin 1024) (q : Fin 2048) : val_main_v53 (F := Ideal) wb (ix2 j q) = wb (ix4 0 2 j q) := by
  rw [val_main_v53_apply, val_main_v52_apply, val_main_v3_apply, val_main_v2_apply, val_main_v1_apply]
  refine congrArg wb (funext fun i => ?_)
  have hj := j.isLt
  have hq := q.isLt
  match i with
  | ⟨0, _⟩ => rfl
  | ⟨1, _⟩ => exact Fin.ext (show (((2 + 0) * 1024 + (j.val * 2048 + q.val) / 2048 % 1024) * 2048 + (j.val * 2048 + q.val) % 2048) / 2097152 % 3 = 2 by omega)
  | ⟨2, _⟩ => exact Fin.ext (show (((2 + 0) * 1024 + (j.val * 2048 + q.val) / 2048 % 1024) * 2048 + (j.val * 2048 + q.val) % 2048) / 2048 % 1024 = j.val by omega)
  | ⟨3, _⟩ => exact Fin.ext (show (((2 + 0) * 1024 + (j.val * 2048 + q.val) / 2048 % 1024) * 2048 + (j.val * 2048 + q.val) % 2048) % 2048 = q.val by omega)

/-- The sum of the branches. -/
theorem summed_apply (r : Fin 16640) (q : Fin 2048) :
    val_main_v56 (F := Ideal) p d a z g wb (ix2 r q) = summed (Ideal.ofBits .f32 0x3F4CCCCD#32) 0 p d a z g wb r q := by
  rw [val_main_v56_apply, val_main_v55_apply, val_main_v54_apply, val_main_v51_apply, val_main_v50_apply, val_main_v49_apply, val_main_v48_apply, val_main_v45_apply,
    val_main_v44_apply, val_main_v43_apply, val_main_v39_apply]
  have g0 : idx_main_v39 (ix2 r q) = ix2 r ⟨q, by omega⟩ := funext fun i => match i with
    | ⟨0, _⟩ => rfl
    | ⟨1, _⟩ => rfl
  have l0 : ∀ j : Fin 1024, lidx_main_v43 (ix2 r q) j = ix2 r j := fun j => funext fun i => match i with
    | ⟨0, _⟩ => rfl
    | ⟨1, _⟩ => rfl
  have r0 : ∀ j : Fin 1024, ridx_main_v43 (ix2 r q) j = ix2 j q := fun j => funext fun i => match i with
    | ⟨0, _⟩ => rfl
    | ⟨1, _⟩ => rfl
  have g1 : idx_main_v45 (ix2 r q) = ix2 r ⟨2048 + q, by omega⟩ := funext fun i => match i with
    | ⟨0, _⟩ => rfl
    | ⟨1, _⟩ => rfl
  have l1 : ∀ j : Fin 1024, lidx_main_v48 (ix2 r q) j = ix2 r j := fun j => funext fun i => match i with
    | ⟨0, _⟩ => rfl
    | ⟨1, _⟩ => rfl
  have r1 : ∀ j : Fin 1024, ridx_main_v48 (ix2 r q) j = ix2 j q := fun j => funext fun i => match i with
    | ⟨0, _⟩ => rfl
    | ⟨1, _⟩ => rfl
  have g2 : idx_main_v51 (ix2 r q) = ix2 r ⟨4096 + q, by omega⟩ := funext fun i => match i with
    | ⟨0, _⟩ => rfl
    | ⟨1, _⟩ => rfl
  have l2 : ∀ j : Fin 1024, lidx_main_v54 (ix2 r q) j = ix2 r j := fun j => funext fun i => match i with
    | ⟨0, _⟩ => rfl
    | ⟨1, _⟩ => rfl
  have r2 : ∀ j : Fin 1024, ridx_main_v54 (ix2 r q) j = ix2 j q := fun j => funext fun i => match i with
    | ⟨0, _⟩ => rfl
    | ⟨1, _⟩ => rfl
  simp only [g0, g1, g2, l0, l1, l2, r0, r1, r2, gate_apply, diff_apply, group_apply, weights0_apply, weights1_apply, weights2_apply, val_main_v40_apply]
  have c1 : (⟨10240 + (2048 + q.val), by omega⟩ : Fin 16384) = ⟨12288 + q, by omega⟩ := Fin.ext (by dsimp only; omega)
  have c2 : (⟨10240 + (4096 + q.val), by omega⟩ : Fin 16384) = ⟨14336 + q, by omega⟩ := Fin.ext (by dsimp only; omega)
  rw [c1, c2]
  rfl

/-- The output weights. -/
theorem out_weights_apply (k q : Fin 2048) : val_main_v6 (F := Ideal) wo (ix2 k q) = wo (ix3 0 k q) := by
  rw [val_main_v6_apply, val_main_v5_apply, val_main_v4_apply]
  refine congrArg wo (funext fun i => ?_)
  have hk := k.isLt
  have hq := q.isLt
  match i with
  | ⟨0, _⟩ => rfl
  | ⟨1, _⟩ => exact Fin.ext (show (k.val * 2048 + q.val) / 2048 % 2048 = k.val by omega)
  | ⟨2, _⟩ => exact Fin.ext (show (k.val * 2048 + q.val) % 2048 = q.val by omega)

/-- The sum through the output weights. -/
theorem product_apply (r : Fin 16640) (q : Fin 2048) :
    val_main_v57 (F := Ideal) p d a z g wb wo (ix2 r q) = ∑ k : Fin 2048, summed (Ideal.ofBits .f32 0x3F4CCCCD#32) 0 p d a z g wb r k * wo (ix3 0 k q) := by
  rw [val_main_v57_apply]
  refine Finset.sum_congr rfl fun k _ => ?_
  have el : lidx_main_v57 (ix2 r q) k = ix2 r k := funext fun i => match i with
    | ⟨0, _⟩ => rfl
    | ⟨1, _⟩ => rfl
  have er : ridx_main_v57 (ix2 r q) k = ix2 k q := funext fun i => match i with
    | ⟨0, _⟩ => rfl
    | ⟨1, _⟩ => rfl
  rw [el, er, summed_apply, out_weights_apply]

/-- The gate row of a latent token. -/
theorem row0_apply (q : Fin 2048) : val_main_v62 (F := Ideal) b (ix1 q) = b (ix3 0 0 ⟨4096 + q, by omega⟩) := by
  pointwise [val_main_v62, val_main_v61, val_main_v59, val_main_v58]
  blk_ext

/-- The gate row of a context token. -/
theorem row1_apply (q : Fin 2048) : val_main_v70 (F := Ideal) b (ix1 q) = b (ix3 0 1 ⟨4096 + q, by omega⟩) := by
  pointwise [val_main_v70, val_main_v69, val_main_v59, val_main_v58]
  blk_ext

/-- A latent token's output. -/
theorem latent_apply (r : Fin 16384) (q : Fin 2048) :
    val_main_v67 (F := Ideal) p d a z g wb wo x b (ix2 r q) = entry (Ideal.ofBits .f32 0x3F4CCCCD#32) 0 p d a z g wb wo x b ⟨r, by omega⟩ q := by
  rw [val_main_v67_apply, val_main_v60_apply, val_main_v66_apply, val_main_v65_apply, val_main_v64_apply, val_main_v63_apply]
  have e1 : idx_main_v60 (ix2 r q) = ix2 ⟨r, by omega⟩ q := funext fun i => match i with
    | ⟨0, _⟩ => rfl
    | ⟨1, _⟩ => rfl
  have e2 : idx_main_v63 (ix2 r q) = ix2 ⟨r, by omega⟩ q := funext fun i => match i with
    | ⟨0, _⟩ => rfl
    | ⟨1, _⟩ => rfl
  have e3 : idx_main_v64 (idx_main_v65 (ix2 r q)) = ix1 q := funext fun i => match i with
    | ⟨0, _⟩ => rfl
  rw [e1, e2, e3, product_apply, row0_apply]
  have hs : stream r.val = 0 := if_pos r.isLt
  unfold entry
  dsimp only
  rw [hs]
  rfl

/-- A context token's output. -/
theorem context_apply (r : Fin 256) (q : Fin 2048) :
    val_main_v75 (F := Ideal) p d a z g wb wo x b (ix2 r q) = entry (Ideal.ofBits .f32 0x3F4CCCCD#32) 0 p d a z g wb wo x b ⟨16384 + r, by omega⟩ q := by
  rw [val_main_v75_apply, val_main_v68_apply, val_main_v74_apply, val_main_v73_apply, val_main_v72_apply, val_main_v71_apply]
  have e1 : idx_main_v68 (ix2 r q) = ix2 ⟨16384 + r, by omega⟩ q := funext fun i => match i with
    | ⟨0, _⟩ => rfl
    | ⟨1, _⟩ => rfl
  have e2 : idx_main_v71 (ix2 r q) = ix2 ⟨16384 + r, by omega⟩ q := funext fun i => match i with
    | ⟨0, _⟩ => rfl
    | ⟨1, _⟩ => rfl
  have e3 : idx_main_v72 (idx_main_v73 (ix2 r q)) = ix1 q := funext fun i => match i with
    | ⟨0, _⟩ => rfl
  rw [e1, e2, e3, product_apply, row1_apply]
  have hs : stream (16384 + r.val) = 1 := if_neg (by omega)
  unfold entry
  dsimp only
  rw [hs]
  rfl

/-- **The reference's result** is the output. -/
theorem final : val_main_v76 (F := Ideal) p d a z g wb wo x b = output p d a z g wb wo x b := by
  funext y
  obtain ⟨r, q, rfl⟩ : ∃ (r : Fin 16640) (q : Fin 2048), y = ix2 r q := ⟨y 0, y 1, eq_ix2 (n0 := 16640) (n1 := 2048) y⟩
  have e : val_main_v76 (F := Ideal) p d a z g wb wo x b (ix2 r q)
      = if hx : r.val < 16384 then val_main_v67 (F := Ideal) p d a z g wb wo x b (ix2 ⟨r, hx⟩ q)
        else val_main_v75 (F := Ideal) p d a z g wb wo x b (ix2 ⟨r - 16384, by omega⟩ q) := by
    pointwise [val_main_v76]
  rw [e]
  show _ = entry (Ideal.ofBits .f32 0x3F4CCCCD#32) 0 p d a z g wb wo x b r q
  split
  · exact latent_apply p d a z g wb wo x b _ q
  · refine (context_apply p d a z g wb wo x b _ q).trans (congrArg (fun r => entry (Ideal.ofBits .f32 0x3F4CCCCD#32) 0 p d a z g wb wo x b r q) (Fin.ext ?_))
    show 16384 + (r.val - 16384) = r.val
    omega

end Cert.Reference4Ideal.Value

end
-- ==== Proof.Spec5.lean ====
/-
  What the last layer's merge computes, over the extended reals: the merge of the latent tokens, with the last layer's
  constant and weights, over the root of its mean square plus epsilon, times the final gain.
-/
module

public import proofs.«01_k».proof.Proof.Spec4
public import proofs.«01_k».proof.Proof.Gen.Kernel5Ideal.Value

@[expose] public section

set_option maxRecDepth 16384

noncomputable section

namespace Cert.LastMerge

open Cert.Kernel5Ideal Cert.Merge
open Idealize.ShloMosaic Idealize.ShloMosaic.TcCoe Idealize.SL.Sem

/-- Component `q` of a token's RMS norm, times its gain. -/
def finished (v : Fin 2048 → EReal) (f : EReal) (q : Fin 2048) : EReal :=
  v q * Ideal.rsqrt (Ideal.div (∑ k : Fin 2048, v k * v k) (Ideal.ofBits .f32 0x45000000#32) + Ideal.ofBits .f32 0x358637BD#32) * f

/-- The last layer's constant. -/
abbrev last : EReal := Ideal.ofBits .f32 0x3EE34C57#32

variable (p : FVec Ideal S16640x1024 .bf16) (d : FVec Ideal S8x128x16640 .f32) (a : FVec Ideal S8x128x16640 .f32) (z : FVec Ideal S16640x16384 .bf16)
  (g : FVec Ideal S128 .f32) (wb : FVec Ideal S4x3x1024x2048 .bf16) (wo : FVec Ideal S4x2048x2048 .bf16) (x : FVec Ideal S16640x2048 .f32) (b : FVec Ideal S4x8x6144 .f32)
  (f : FVec Ideal S2048 .f32)

/-- The output array. -/
def output : FVec Ideal S16384x2048 .f32 := fun y =>
  finished (fun k => entry last 3 p d a z g wb wo x b ⟨(y 0).val, lt_trans (y 0).isLt (by decide : 16384 < 16640)⟩ k) (f (ix1 ⟨(y 1).val, (y 1).isLt⟩)) ⟨(y 1).val, (y 1).isLt⟩

end Cert.LastMerge

end
-- ==== Proof.Block5.lean ====
/-
  What one grid point of the last layer's merge computes from its blocks, over the extended reals: what a grid point of
  the merge computes for latent tokens, with the last layer's constant, over the root of its mean square, times the gain.
-/
module

public import proofs.«01_k».proof.Proof.Spec5
public import proofs.«01_k».proof.Proof.Block4

@[expose] public section

set_option maxRecDepth 16384

noncomputable section

namespace Cert.Kernel5Ideal.Body

open Cert.Kernel5Ideal Cert.Kernel5Ideal.Gen Cert.Merge Cert.LastMerge
open Cert.Kernel4Ideal.Body (dKept aKept rows mixed mod_row branch_weights d_at a_at chosen)
open Idealize.ShloMosaic Idealize.ShloMosaic.TcCoe Idealize.SL.Sem

/-- What a grid point computes before the norm, at an index. -/
def before (x0 : FVec Ideal S256x1024 .bf16) (x1 x2 : FVec Ideal S8x128x256 .f32) (x3 : FVec Ideal S256x1024 .bf16) (x4 x5 : FVec Ideal S256x512 .bf16)
    (x6 : FVec Ideal S1x128 .f32) (x7 x8 x9 : FVec Ideal S256x2048 .bf16) (x10 : FVec Ideal S1x3x1024x2048 .bf16) (x11 : FVec Ideal S1x2048x2048 .bf16)
    (x12 : FVec Ideal S256x2048 .f32) (x13 : FVec Ideal S1x8x6144 .f32) (a : Fin 256) (q : Fin 2048) : EReal :=
  x12 (ix2 a q) + x13 (ix3 0 0 ⟨4096 + q, by omega⟩)
    * ∑ k : Fin 2048, mixed x0 x7 x8 x9 x10 (dKept last x1 x3 x6) (aKept x2 x4 x5) a k * x11 (ix3 0 k q)

/-- A head of the differential branch. -/
theorem d_head (v0 : FVec Ideal S1x128x256 .f32) (v1 : FVec Ideal S1x128 .f32) (v2 : FVec Ideal S256x128 .bf16) (a : Fin 256) (e : Fin 128) :
    k0_pay1 (F := Ideal) v0 v1 v2 (ix2 a e) = normed last (fun k => v0 (ix3 0 k a)) (v1 (ix2 0 e)) e * silu (v2 (ix2 a e)) := by
  pointwise [k0_pay1]
  rfl

/-- A head of the grouped branch. -/
theorem a_head (v0 : FVec Ideal S256x128 .bf16) (v1 : FVec Ideal S1x128x256 .f32) (a : Fin 256) (e : Fin 128) :
    k0_pay16 (F := Ideal) v0 v1 (ix2 a e) = v1 (ix3 0 e a) * silu (v0 (ix2 a e)) := by
  pointwise [k0_pay16]
  rfl

/-- The first two branches, through their weights and gates. -/
theorem two_branches (v0 : FVec Ideal S256x1024 .bf16) (w0 : FVec Ideal S1x1x1024x2048 .bf16) (g0 : FVec Ideal S256x2048 .bf16) (v1 : FVec Ideal S256x1024 .bf16)
    (w1 : FVec Ideal S1x1x1024x2048 .bf16) (g1 : FVec Ideal S256x2048 .bf16) (a : Fin 256) (k : Fin 2048) :
    k0_pay24 (F := Ideal) v0 w0 g0 v1 w1 g1 (ix2 a k)
      = Ideal.logistic (g0 (ix2 a k)) * (∑ j : Fin 1024, v0 (ix2 a j) * w0 (ix4 0 0 j k))
        + Ideal.logistic (g1 (ix2 a k)) * (∑ j : Fin 1024, v1 (ix2 a j) * w1 (ix4 0 0 j k)) := by
  pointwise [k0_pay24]

/-- What is written, at an index. -/
theorem stored (n : ℕ) (hn : n < 64) (s : FVec Ideal S256x2048 .f32) (v : FVec Ideal S256x1024 .bf16) (w : FVec Ideal S1x1x1024x2048 .bf16) (g : FVec Ideal S256x2048 .bf16)
    (wo : FVec Ideal S1x2048x2048 .bf16) (m1 m0 : FVec Ideal S1x1x2048 .f32) (x : FVec Ideal S256x2048 .f32) (f : FVec Ideal S1x2048 .f32) (a : Fin 256) (q : Fin 2048) :
    k0_pay25 (F := Ideal) (BitVec.ofNat 32 n) s v w g wo m1 m0 x f (ix2 a q)
      = finished (fun i => x (ix2 a i) + m0 (ix3 0 0 i)
        * ∑ k : Fin 2048, (s (ix2 a k) + Ideal.logistic (g (ix2 a k)) * (∑ j : Fin 1024, v (ix2 a j) * w (ix4 0 0 j k))) * wo (ix3 0 k i)) (f (ix2 0 q)) q := by
  have h := chosen ⟨n, by omega⟩
  dsimp only at h
  rw [if_neg (by omega)] at h
  unfold k0_pay25
  rw [h]
  pointwise []
  rfl

variable (c : Dev nD) (i : grid0.Coords) (arg1 : Memref sig .tc .vmem S256x1024 .bf16) (harg1 : arg1.IsWhole) (arg2 : Memref sig .tc .vmem S8x128x256 .f32) (harg2 : arg2.IsWhole) (arg3 : Memref sig .tc .vmem S8x128x256 .f32) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x128 .f32) (harg7 : arg7.IsWhole) (arg8 : Memref sig .tc .vmem S256x2048 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S1x3x1024x2048 .bf16) (harg11 : arg11.IsWhole) (arg12 : Memref sig .tc .vmem S1x2048x2048 .bf16) (harg12 : arg12.IsWhole) (arg13 : Memref sig .tc .vmem S256x2048 .f32) (harg13 : arg13.IsWhole) (arg14 : Memref sig .tc .vmem S1x8x6144 .f32) (harg14 : arg14.IsWhole) (arg15 : Memref sig .tc .vmem S1x2048 .f32) (harg15 : arg15.IsWhole) (arg16 : Memref sig .tc .vmem S256x2048 .f32) (harg16 : arg16.IsWhole) (arg17 : Memref sig .tc .vmem S256x1024 .bf16) (harg17 : arg17.IsWhole) (arg18 : Memref sig .tc .vmem S256x1024 .bf16) (harg18 : arg18.IsWhole)
  (x0 : FVec Ideal S256x1024 .bf16) (x1 : FVec Ideal S8x128x256 .f32) (x2 : FVec Ideal S8x128x256 .f32) (x3 : FVec Ideal S256x1024 .bf16) (x4 : FVec Ideal S256x512 .bf16) (x5 : FVec Ideal S256x512 .bf16) (x6 : FVec Ideal S1x128 .f32) (x7 : FVec Ideal S256x2048 .bf16) (x8 : FVec Ideal S256x2048 .bf16) (x9 : FVec Ideal S256x2048 .bf16) (x10 : FVec Ideal S1x3x1024x2048 .bf16) (x11 : FVec Ideal S1x2048x2048 .bf16) (x12 : FVec Ideal S256x2048 .f32) (x13 : FVec Ideal S1x8x6144 .f32) (x14 : FVec Ideal S1x2048 .f32)

/-- What is written from what is kept. -/
theorem assembled (hn : (i 0).val < 64) (D A : FVec Ideal S256x1024 .bf16) (hD : D = rows (dKept last x1 x3 x6)) (hA : A = rows (aKept x2 x4 x5))
    (w0 w1 w2 : FVec Ideal S1x1x1024x2048 .bf16) (h0 : ∀ j k, w0 (ix4 0 0 j k) = x10 (ix4 0 0 j k)) (h1 : ∀ j k, w1 (ix4 0 0 j k) = x10 (ix4 0 1 j k)) (h2 : ∀ j k, w2 (ix4 0 0 j k) = x10 (ix4 0 2 j k))
    (m1 m0 : FVec Ideal S1x1x2048 .f32) (k0 : ∀ q : Fin 2048, m0 (ix3 0 0 q) = x13 (ix3 0 0 ⟨4096 + q, by omega⟩)) :
    k0_pay25 (F := Ideal) (BitVec.ofNat 32 (i 0).val) (k0_pay24 (F := Ideal) x0 w0 x7 D w1 x8) A w2 x9 x11 m1 m0 x12 x14
      = fun y => finished (before x0 x1 x2 x3 x4 x5 x6 x7 x8 x9 x10 x11 x12 x13 ⟨(y 0).val, (y 0).isLt⟩) (x14 (ix2 0 ⟨(y 1).val, (y 1).isLt⟩)) ⟨(y 1).val, (y 1).isLt⟩ := by
  funext y
  obtain ⟨a, q, rfl⟩ : ∃ (a : Fin 256) (q : Fin 2048), y = ix2 a q := ⟨y 0, y 1, eq_ix2 (n0 := 256) (n1 := 2048) y⟩
  rw [stored _ hn]
  subst hD hA
  simp only [two_branches, h0, h1, h2, k0]
  rfl

/-- **What a grid point writes.** -/
theorem writes (hn : (i 0).val < 64) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14
      = fun y => finished (before x0 x1 x2 x3 x4 x5 x6 x7 x8 x9 x10 x11 x12 x13 ⟨(y 0).val, (y 0).isLt⟩) (x14 (ix2 0 ⟨(y 1).val, (y 1).isLt⟩)) ⟨(y 1).val, (y 1).isLt⟩ := by
  frame_out
  refine assembled i x0 x1 x2 x3 x4 x5 x6 x7 x8 x9 x10 x11 x12 x13 x14 hn _ _ ?_ ?_ _ _ _ (branch_weights x10 0 _ rfl _) (branch_weights x10 1 _ rfl _) (branch_weights x10 2 _ rfl _) _ _
    (mod_row x13 0 _ rfl _)
  · refine (View.readCov_eq_canon_ld _ _ _ fun y => ?_).trans ((View.ld_unit_lit _ _ fun a => ?_).trans (funext fun y => ?_))
    · exact View.cover_of_tiled (s := S256x1024) _ ![256, 128] (by sl_kernel_rfl) y
    · match a with
      | ⟨0, _⟩ => rfl
      | ⟨1, _⟩ => rfl
    refine View.canon_eq_of_allAt _ y _ ?_ ?_
    · exact View.cover_of_tiled (s := S256x1024) _ ![256, 128] (by sl_kernel_rfl) y
    exact View.allAt_cons _ _ _ (fun z hz => d_at x1 x3 x6 last 7 896 rfl (by decide) _ rfl _ _ rfl _ _ _ (fun a e => d_head _ _ _ a e) y z hz) (
      View.allAt_cons _ _ _ (fun z hz => d_at x1 x3 x6 last 6 768 rfl (by decide) _ rfl _ _ rfl _ _ _ (fun a e => d_head _ _ _ a e) y z hz) (
      View.allAt_cons _ _ _ (fun z hz => d_at x1 x3 x6 last 5 640 rfl (by decide) _ rfl _ _ rfl _ _ _ (fun a e => d_head _ _ _ a e) y z hz) (
      View.allAt_cons _ _ _ (fun z hz => d_at x1 x3 x6 last 4 512 rfl (by decide) _ rfl _ _ rfl _ _ _ (fun a e => d_head _ _ _ a e) y z hz) (
      View.allAt_cons _ _ _ (fun z hz => d_at x1 x3 x6 last 3 384 rfl (by decide) _ rfl _ _ rfl _ _ _ (fun a e => d_head _ _ _ a e) y z hz) (
      View.allAt_cons _ _ _ (fun z hz => d_at x1 x3 x6 last 2 256 rfl (by decide) _ rfl _ _ rfl _ _ _ (fun a e => d_head _ _ _ a e) y z hz) (
      View.allAt_cons _ _ _ (fun z hz => d_at x1 x3 x6 last 1 128 rfl (by decide) _ rfl _ _ rfl _ _ _ (fun a e => d_head _ _ _ a e) y z hz) (
      View.allAt_cons _ _ _ (fun z hz => d_at x1 x3 x6 last 0 0 rfl (by decide) _ rfl _ _ rfl _ _ _ (fun a e => d_head _ _ _ a e) y z hz) (
      View.allAt_nil _ _))))))))
  · refine (View.readCov_eq_canon_ld _ _ _ fun y => ?_).trans ((View.ld_unit_lit _ _ fun a => ?_).trans (funext fun y => ?_))
    · exact View.cover_of_tiled (s := S256x1024) _ ![256, 128] (by sl_kernel_rfl) y
    · match a with
      | ⟨0, _⟩ => rfl
      | ⟨1, _⟩ => rfl
    refine View.canon_eq_of_allAt _ y _ ?_ ?_
    · exact View.cover_of_tiled (s := S256x1024) _ ![256, 128] (by sl_kernel_rfl) y
    exact View.allAt_cons _ _ _ (fun z hz => a_at x2 x4 x5 7 896 384 rfl (by decide) _ (.inr ⟨rfl, rfl, by decide⟩) _ rfl _ _ rfl _ _ rfl _ _ (fun a e => a_head _ _ a e) y z hz) (
      View.allAt_cons _ _ _ (fun z hz => a_at x2 x4 x5 6 768 256 rfl (by decide) _ (.inr ⟨rfl, rfl, by decide⟩) _ rfl _ _ rfl _ _ rfl _ _ (fun a e => a_head _ _ a e) y z hz) (
      View.allAt_cons _ _ _ (fun z hz => a_at x2 x4 x5 5 640 128 rfl (by decide) _ (.inr ⟨rfl, rfl, by decide⟩) _ rfl _ _ rfl _ _ rfl _ _ (fun a e => a_head _ _ a e) y z hz) (
      View.allAt_cons _ _ _ (fun z hz => a_at x2 x4 x5 4 512 0 rfl (by decide) _ (.inr ⟨rfl, rfl, by decide⟩) _ rfl _ _ rfl _ _ rfl _ _ (fun a e => a_head _ _ a e) y z hz) (
      View.allAt_cons _ _ _ (fun z hz => a_at x2 x4 x5 3 384 384 rfl (by decide) _ (.inl ⟨rfl, rfl, by decide⟩) _ rfl _ _ rfl _ _ rfl _ _ (fun a e => a_head _ _ a e) y z hz) (
      View.allAt_cons _ _ _ (fun z hz => a_at x2 x4 x5 2 256 256 rfl (by decide) _ (.inl ⟨rfl, rfl, by decide⟩) _ rfl _ _ rfl _ _ rfl _ _ (fun a e => a_head _ _ a e) y z hz) (
      View.allAt_cons _ _ _ (fun z hz => a_at x2 x4 x5 1 128 128 rfl (by decide) _ (.inl ⟨rfl, rfl, by decide⟩) _ rfl _ _ rfl _ _ rfl _ _ (fun a e => a_head _ _ a e) y z hz) (
      View.allAt_cons _ _ _ (fun z hz => a_at x2 x4 x5 0 0 0 rfl (by decide) _ (.inl ⟨rfl, rfl, by decide⟩) _ rfl _ _ rfl _ _ rfl _ _ (fun a e => a_head _ _ a e) y z hz) (
      View.allAt_nil _ _))))))))

end Cert.Kernel5Ideal.Body

end
-- ==== Proof.Value5.lean ====
/-
  The last layer's merge's output array, over the extended reals.
-/
module

public import proofs.«01_k».proof.Proof.Block5

@[expose] public section

set_option maxRecDepth 16384

noncomputable section

namespace Cert.Kernel5Ideal.Body

open Cert.Kernel5Ideal Cert.Kernel5Ideal.Gen Cert.Merge Cert.LastMerge
open Cert.Kernel4Ideal.Body (dKept aKept mixed)
open Idealize.ShloMosaic Idealize.ShloMosaic.TcCoe Idealize.SL.Sem

variable (m : (ℓ : Loc nD τ sig) → Buf (Elt Ideal) ℓ)

/-- Which blocks each grid point reads and writes. -/
theorem idx : ∀ t : Fin cfg0.N, win0_0.index t = ![t.val, 0] ∧ win0_1.index t = ![0, 0, t.val] ∧ win0_2.index t = ![0, 0, t.val]
    ∧ win0_3.index t = ![t.val, 6] ∧ win0_4.index t = ![t.val, 17] ∧ win0_5.index t = ![t.val, 18] ∧ win0_6.index t = ![0, 0]
    ∧ win0_7.index t = ![t.val, 5] ∧ win0_8.index t = ![t.val, 6] ∧ win0_9.index t = ![t.val, 7] ∧ win0_10.index t = ![3, 0, 0, 0]
    ∧ win0_11.index t = ![3, 0, 0] ∧ win0_12.index t = ![t.val, 0] ∧ win0_13.index t = ![3, 0, 0] ∧ win0_14.index t = ![0, 0] ∧ win0_15.index t = ![t.val, 0]
    ∧ (grid0.coords t 0).val = t.val ∧ t.val < 64 :=
  (by decide +kernel : ∀ t : Fin grid0.N, _)

variable (c : Dev nD) (t : Fin cfg0.N)

/-- The gain as the kernel finds it, a row. -/
theorem gain_row (e : Fin 128) :
    (V m c main_v0 : FVec Ideal S1x128 .f32) (ix2 0 e) = (m ((c : Thread nD τ).loc main_arg4) : FVec Ideal S128 .f32) (ix1 e) := by
  have h : V m c main_v0 = shapeCast S1x128 (m ((c : Thread nD τ).loc main_arg4) : FVec Ideal S128 .f32) shapeCasts_S128_S1x128 := by
    dsimp only [V, hostOps0]
    after_results
    rfl
  rw [h]
  pointwise []

/-- The gain, whole at every grid point. -/
theorem gain_block (e : Fin 128) :
    (iblk m c 6 t : FVec Ideal S1x128 .f32) (ix2 0 e) = (m ((c : Thread nD τ).loc main_arg4) : FVec Ideal S128 .f32) (ix1 e) := by
  refine Eq.trans (congrArg (V m c main_v0) (?_ : _ = ix2 0 e)) (gain_row m c e)
  blk_ext [idx t]

/-- The final gain as the kernel finds it, a row. -/
theorem final_row (e : Fin 2048) :
    (V m c main_v1 : FVec Ideal S1x2048 .f32) (ix2 0 e) = (m ((c : Thread nD τ).loc main_arg9) : FVec Ideal S2048 .f32) (ix1 e) := by
  have h : V m c main_v1 = shapeCast S1x2048 (m ((c : Thread nD τ).loc main_arg9) : FVec Ideal S2048 .f32) shapeCasts_S2048_S1x2048 := by
    dsimp only [V, hostOps0]
    after_results
    rfl
  rw [h]
  pointwise []

/-- The final gain, whole at every grid point. -/
theorem final_block (e : Fin 2048) :
    (iblk m c 14 t : FVec Ideal S1x2048 .f32) (ix2 0 e) = (m ((c : Thread nD τ).loc main_arg9) : FVec Ideal S2048 .f32) (ix1 e) := by
  refine Eq.trans (congrArg (V m c main_v1) (?_ : _ = ix2 0 e)) (final_row m c e)
  blk_ext [idx t]

/-- A block of the retention branch. -/
theorem r_block (h : t.val < 64) (a : Fin 256) (j : Fin 1024) :
    (iblk m c 0 t : FVec Ideal S256x1024 .bf16) (ix2 a j) = (m ((c : Thread nD τ).loc main_arg0) : FVec Ideal S16640x1024 .bf16) (ix2 ⟨256 * t + a, by omega⟩ j) := by
  blk_ext [iblk, V, idx t]

/-- A block of the differential branch. -/
theorem d_block (h : t.val < 64) (n : Fin 8) (k : Fin 128) (a : Fin 256) :
    (iblk m c 1 t : FVec Ideal S8x128x256 .f32) (ix3 n k a) = (m ((c : Thread nD τ).loc main_arg1) : FVec Ideal S8x128x16640 .f32) (ix3 n k ⟨256 * t + a, by omega⟩) := by
  blk_ext [iblk, V, idx t]

/-- A block of the grouped branch. -/
theorem a_block (h : t.val < 64) (n : Fin 8) (k : Fin 128) (a : Fin 256) :
    (iblk m c 2 t : FVec Ideal S8x128x256 .f32) (ix3 n k a) = (m ((c : Thread nD τ).loc main_arg2) : FVec Ideal S8x128x16640 .f32) (ix3 n k ⟨256 * t + a, by omega⟩) := by
  blk_ext [iblk, V, idx t]

/-- A block of the gates of the differential branch. -/
theorem d_gate_block (h : t.val < 64) (a : Fin 256) (j : Fin 1024) :
    (iblk m c 3 t : FVec Ideal S256x1024 .bf16) (ix2 a j) = (m ((c : Thread nD τ).loc main_arg3) : FVec Ideal S16640x16384 .bf16) (ix2 ⟨256 * t + a, by omega⟩ ⟨6144 + j, by omega⟩) := by
  blk_ext [iblk, V, idx t]

/-- A block of the first gates of the grouped branch. -/
theorem a_gate0_block (h : t.val < 64) (a : Fin 256) (j : Fin 512) :
    (iblk m c 4 t : FVec Ideal S256x512 .bf16) (ix2 a j) = (m ((c : Thread nD τ).loc main_arg3) : FVec Ideal S16640x16384 .bf16) (ix2 ⟨256 * t + a, by omega⟩ ⟨8704 + j, by omega⟩) := by
  blk_ext [iblk, V, idx t]

/-- A block of the last gates of the grouped branch. -/
theorem a_gate1_block (h : t.val < 64) (a : Fin 256) (j : Fin 512) :
    (iblk m c 5 t : FVec Ideal S256x512 .bf16) (ix2 a j) = (m ((c : Thread nD τ).loc main_arg3) : FVec Ideal S16640x16384 .bf16) (ix2 ⟨256 * t + a, by omega⟩ ⟨9216 + j, by omega⟩) := by
  blk_ext [iblk, V, idx t]

/-- A block of the gates of branch 0. -/
theorem gate0_block (h : t.val < 64) (a : Fin 256) (j : Fin 2048) :
    (iblk m c 7 t : FVec Ideal S256x2048 .bf16) (ix2 a j) = (m ((c : Thread nD τ).loc main_arg3) : FVec Ideal S16640x16384 .bf16) (ix2 ⟨256 * t + a, by omega⟩ ⟨10240 + j, by omega⟩) := by
  blk_ext [iblk, V, idx t]

/-- A block of the gates of branch 1. -/
theorem gate1_block (h : t.val < 64) (a : Fin 256) (j : Fin 2048) :
    (iblk m c 8 t : FVec Ideal S256x2048 .bf16) (ix2 a j) = (m ((c : Thread nD τ).loc main_arg3) : FVec Ideal S16640x16384 .bf16) (ix2 ⟨256 * t + a, by omega⟩ ⟨12288 + j, by omega⟩) := by
  blk_ext [iblk, V, idx t]

/-- A block of the gates of branch 2. -/
theorem gate2_block (h : t.val < 64) (a : Fin 256) (j : Fin 2048) :
    (iblk m c 9 t : FVec Ideal S256x2048 .bf16) (ix2 a j) = (m ((c : Thread nD τ).loc main_arg3) : FVec Ideal S16640x16384 .bf16) (ix2 ⟨256 * t + a, by omega⟩ ⟨14336 + j, by omega⟩) := by
  blk_ext [iblk, V, idx t]

/-- The last layer's branch weights, whole at every grid point. -/
theorem branch_block (h : t.val < 64) (s : Fin 3) (j : Fin 1024) (k : Fin 2048) :
    (iblk m c 10 t : FVec Ideal S1x3x1024x2048 .bf16) (ix4 0 s j k) = (m ((c : Thread nD τ).loc main_arg5) : FVec Ideal S4x3x1024x2048 .bf16) (ix4 3 s j k) := by
  blk_ext [iblk, V, idx t]

/-- The last layer's output weights, whole at every grid point. -/
theorem out_block (h : t.val < 64) (k q : Fin 2048) :
    (iblk m c 11 t : FVec Ideal S1x2048x2048 .bf16) (ix3 0 k q) = (m ((c : Thread nD τ).loc main_arg6) : FVec Ideal S4x2048x2048 .bf16) (ix3 3 k q) := by
  blk_ext [iblk, V, idx t]

/-- A block of tokens. -/
theorem token_block (h : t.val < 64) (a : Fin 256) (q : Fin 2048) :
    (iblk m c 12 t : FVec Ideal S256x2048 .f32) (ix2 a q) = (m ((c : Thread nD τ).loc main_arg7) : FVec Ideal S16640x2048 .f32) (ix2 ⟨256 * t + a, by omega⟩ q) := by
  blk_ext [iblk, V, idx t]

/-- The last layer's modulation, whole at every grid point. -/
theorem mod_block (h : t.val < 64) (s : Fin 8) (q : Fin 6144) :
    (iblk m c 13 t : FVec Ideal S1x8x6144 .f32) (ix3 0 s q) = (m ((c : Thread nD τ).loc main_arg8) : FVec Ideal S4x8x6144 .f32) (ix3 3 s q) := by
  blk_ext [iblk, V, idx t]

/-- A block of the differential branch, gated. -/
theorem d_kept (h : t.val < 64) (a : Fin 256) (j : Fin 1024) :
    dKept last (iblk m c 1 t) (iblk m c 3 t) (iblk m c 6 t) a j
      = diffBranch last (m ((c : Thread nD τ).loc main_arg1)) (m ((c : Thread nD τ).loc main_arg3)) (m ((c : Thread nD τ).loc main_arg4)) ⟨256 * t + a, by omega⟩ j := by
  unfold dKept diffBranch
  exact congrArg₂ (· * ·) (congrArg₂ (fun v g => normed _ v g _) (funext fun k => d_block m c t h _ k a) (gain_block m c t _)) (congrArg silu (d_gate_block m c t h a j))

/-- A block of the grouped branch, gated. -/
theorem a_kept (h : t.val < 64) (a : Fin 256) (j : Fin 1024) :
    aKept (iblk m c 2 t) (iblk m c 4 t) (iblk m c 5 t) a j
      = groupBranch (m ((c : Thread nD τ).loc main_arg2)) (m ((c : Thread nD τ).loc main_arg3)) ⟨256 * t + a, by omega⟩ j := by
  unfold aKept groupBranch
  refine congrArg₂ (· * ·) (a_block m c t h _ _ a) (congrArg silu ?_)
  split
  · exact a_gate0_block m c t h a _
  · refine (a_gate1_block m c t h a _).trans (congrArg (fun k => (m ((c : Thread nD τ).loc main_arg3) : FVec Ideal S16640x16384 .bf16) (ix2 ⟨256 * t + a, by omega⟩ k)) (Fin.ext ?_))
    dsimp only
    omega

/-- A block of the three branches' sum. -/
theorem mixed_block (h : t.val < 64) (a : Fin 256) (k : Fin 2048) :
    mixed (iblk m c 0 t) (iblk m c 7 t) (iblk m c 8 t) (iblk m c 9 t) (iblk m c 10 t) (dKept last (iblk m c 1 t) (iblk m c 3 t) (iblk m c 6 t)) (aKept (iblk m c 2 t) (iblk m c 4 t) (iblk m c 5 t)) a k
      = summed last 3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨256 * t + a, by omega⟩ k := by
  unfold mixed summed
  refine congrArg₂ (· + ·) (congrArg₂ (· + ·) (congrArg₂ (· * ·) (congrArg Ideal.logistic (gate0_block m c t h a k)) (Finset.sum_congr rfl fun j _ => ?_))
    (congrArg₂ (· * ·) (congrArg Ideal.logistic (gate1_block m c t h a k)) (Finset.sum_congr rfl fun j _ => ?_)))
    (congrArg₂ (· * ·) (congrArg Ideal.logistic (gate2_block m c t h a k)) (Finset.sum_congr rfl fun j _ => ?_))
  · exact congrArg₂ (· * ·) (r_block m c t h a j) (branch_block m c t h 0 j k)
  · exact congrArg₂ (· * ·) (d_kept m c t h a j) (branch_block m c t h 1 j k)
  · exact congrArg₂ (· * ·) (a_kept m c t h a j) (branch_block m c t h 2 j k)

/-- What a grid point computes before the norm is the merge's entry. -/
theorem before_block (h : t.val < 64) (a : Fin 256) (q : Fin 2048) :
    before (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) a q
      = entry last 3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨256 * t + a, by omega⟩ q := by
  have hs : (0 : Fin 8) = stream (256 * t.val + a.val) := (if_pos (by omega)).symm
  unfold before entry
  refine congrArg₂ (· + ·) (token_block m c t h a q) (congrArg₂ (· * ·) ?_ (Finset.sum_congr rfl fun k _ => ?_))
  · dsimp only
    rw [← hs]
    exact mod_block m c t h _ _
  · exact congrArg₂ (· * ·) (mixed_block m c t h a k) (out_block m c t h k q)

/-- What a grid point writes, at an index. -/
theorem point (h : t.val < 64) (a : Fin 256) (q : Fin 2048) :
    (outsAt0 m c t : FVec Ideal S256x2048 .f32) (ix2 a q)
      = finished (fun k => entry last 3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨256 * t + a, by omega⟩ k) (((m ((c : Thread nD τ).loc main_arg9)) : FVec Ideal S2048 .f32) (ix1 q)) q := by
  have hc : (grid0.coords t 0).val = t.val := (idx t).2.2.2.2.2.2.2.2.2.2.2.2.2.2.2.2.1
  have e : outsAt0 m c t = _ := writes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (by omega)
  refine (congrFun e (ix2 a q)).trans ?_
  exact congrArg₂ (fun v f => finished v f q) (funext fun k => before_block m c t h a k) (final_block m c t q)

/-- **The kernel's output array** is the output. -/
theorem final : (dats m 0 c).arrAt 15 (cfgs 0).N = LastMerge.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t _ y => ?_
  blk_simp
  rw [after0_15]
  have ht : t.val < 64 := (idx t).2.2.2.2.2.2.2.2.2.2.2.2.2.2.2.2.2
  have f0 : (((cfg0.win 15).blk t).view.emb y 0).val = t.val * 256 + (y 0).val := by blk_simp [idx t]
  have f1 : (((cfg0.win 15).blk t).view.emb y 1).val = (y 1).val := by blk_simp [idx t]
  refine Eq.trans ?_ ((point m c t ht ⟨(y 0).val, (y 0).isLt⟩ ⟨(y 1).val, (y 1).isLt⟩).trans ?_)
  · exact congrArg (outsAt0 m c t) (eq_ix2 (n0 := 256) (n1 := 2048) y)
  · unfold LastMerge.output
    have h0 : (y 0).val < 256 := (y 0).isLt
    have r0 : (⟨256 * t.val + (y 0).val, by omega⟩ : Fin 16640) = ⟨(((cfg0.win 15).blk t).view.emb y 0).val, lt_trans (((cfg0.win 15).blk t).view.emb y 0).isLt (by decide : 16384 < 16640)⟩ :=
      Fin.ext (show 256 * t.val + (y 0).val = (((cfg0.win 15).blk t).view.emb y 0).val by omega)
    have r1 : (⟨(y 1).val, (y 1).isLt⟩ : Fin 2048) = ⟨(((cfg0.win 15).blk t).view.emb y 1).val, (((cfg0.win 15).blk t).view.emb y 1).isLt⟩ := Fin.ext f1.symm
    exact congrArg₂ (fun (r : Fin 16640) (q : Fin 2048) => finished (fun k => entry last 3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r k) (((m ((c : Thread nD τ).loc main_arg9)) : FVec Ideal S2048 .f32) (ix1 q)) q) r0 r1

end Cert.Kernel5Ideal.Body

end
-- ==== Proof.Reference5.lean ====
/-
  The last layer's merge's reference's result, over the extended reals: the output.
-/
module

public import proofs.«01_k».proof.Proof.Spec5
public import proofs.«01_k».proof.Proof.Gen.Reference5Ideal.Read
public import Idealize.ShloMosaic.Lib.Pipeline.ValueKit
public import Idealize.ShloMosaic.Lib.IdealHost

@[expose] public section

set_option maxRecDepth 16384

noncomputable section

namespace Cert.Reference5Ideal.Value

open Cert.Reference5Ideal Cert.Reference5Ideal.Gen Cert.Reference5Ideal.Read Cert.Merge Cert.LastMerge
open Idealize.ShloMosaic Idealize.ShloMosaic.TcCoe Idealize.SL.Sem

variable (p : FVec Ideal S16640x1024 .bf16) (d : FVec Ideal S8x128x16640 .f32) (a : FVec Ideal S8x128x16640 .f32) (z : FVec Ideal S16640x16384 .bf16)
  (g : FVec Ideal S128 .f32) (wb : FVec Ideal S4x3x1024x2048 .bf16) (wo : FVec Ideal S4x2048x2048 .bf16) (x : FVec Ideal S16640x2048 .f32) (b : FVec Ideal S4x8x6144 .f32) (f : FVec Ideal S2048 .f32)

/-- A latent token among all tokens. -/
abbrev wide (r : Fin 16384) : Fin 16640 := ⟨r, by omega⟩

/-- The constant one. -/
theorem one : Ideal.ofBits .f32 0x3F800000#32 = 1 := Ideal.ofBits_one_f32

/-- The logistic, written out. -/
theorem logistic_out (v : EReal) : Ideal.div (Ideal.ofBits .f32 0x3F800000#32) (Ideal.ofBits .f32 0x3F800000#32 + Ideal.exp (-v)) = Ideal.logistic v := by
  rw [one]
  rfl

/-- A head's sum of squares. -/
theorem squares_apply (r : Fin 16384) (h : Fin 8) :
    val_main_v11 (F := Ideal) d (ix2 r h) = ∑ k : Fin 128, d (ix3 h k (wide r)) * d (ix3 h k (wide r)) := by
  rw [val_main_v11_apply, val_main_cst_apply]
  have e : ∀ k : Fin 128, idx_main_v8 (idx_main_v9 (idx_main_v11 (ix2 r h) k)) = ix3 h k (wide r) := fun k => funext fun i => match i with
    | ⟨0, _⟩ => rfl
    | ⟨1, _⟩ => rfl
    | ⟨2, _⟩ => rfl
  simp only [val_main_v10_apply, val_main_v9_apply, val_main_v8_apply, e]
  refine (congrArg (· + _) Ideal.ofBits_zero_f32).trans (zero_add _)

/-- A head's norm, times its gain and the layer's constant. -/
theorem normed_apply (r : Fin 16384) (h : Fin 8) (e : Fin 128) :
    val_main_v24 (F := Ideal) d g (ix3 r h e) = normed last (fun k => d (ix3 h k (wide r))) (g (ix1 e)) e := by
  rw [val_main_v24_apply, val_main_v23_apply, val_main_cst_2_apply, val_main_v22_apply, val_main_v21_apply, val_main_v20_apply, val_main_v19_apply,
    val_main_v18_apply, val_main_v17_apply, val_main_v16_apply, val_main_v15_apply, val_main_cst_1_apply, val_main_v14_apply, val_main_v13_apply,
    val_main_cst_0_apply, val_main_v12_apply, val_main_v9_apply, val_main_v8_apply]
  have e1 : idx_main_v12 (idx_main_v18 (ix3 r h e)) = ix2 r h := funext fun i => match i with
    | ⟨0, _⟩ => rfl
    | ⟨1, _⟩ => rfl
  have e2 : idx_main_v20 (idx_main_v21 (ix3 r h e)) = ix1 e := funext fun i => match i with
    | ⟨0, _⟩ => rfl
  have e3 : idx_main_v8 (idx_main_v9 (ix3 r h e)) = ix3 h e (wide r) := funext fun i => match i with
    | ⟨0, _⟩ => rfl
    | ⟨1, _⟩ => rfl
    | ⟨2, _⟩ => rfl
  rw [e1, e2, e3, squares_apply]
  rfl

/-- The differential branch. -/
theorem diff_apply (r : Fin 16384) (j : Fin 1024) : val_main_v28 (F := Ideal) d z g (ix2 r j) = diffBranch last d z g (wide r) j := by
  rw [val_main_v28_apply, val_main_v25_apply, val_main_v27_apply, val_main_call0_v5_apply, val_main_call0_v4_apply, val_main_call0_cst_0_apply,
    val_main_call0_v3_apply, val_main_call0_v2_apply, val_main_call0_cst_apply, val_main_call0_v1_apply, val_main_call0_v0_apply, val_main_v26_apply, val_main_v1_apply, val_main_v0_apply]
  have e1 : idx_main_v25 (ix2 r j) = ix3 r ⟨j / 128, by omega⟩ ⟨j % 128, by omega⟩ := funext fun i => match i with
    | ⟨0, _⟩ => Fin.ext (show (r.val * 1024 + j.val) / 1024 = r.val by omega)
    | ⟨1, _⟩ => Fin.ext (show (r.val * 1024 + j.val) / 128 % 8 = j.val / 128 by omega)
    | ⟨2, _⟩ => Fin.ext (show (r.val * 1024 + j.val) % 128 = j.val % 128 by omega)
  have e2 : idx_main_v1 (idx_main_v26 (ix2 r j)) = ix2 (wide r) ⟨6144 + j, by omega⟩ := funext fun i => match i with
    | ⟨0, _⟩ => rfl
    | ⟨1, _⟩ => rfl
  rw [e1, e2, normed_apply]
  refine congrArg (_ * ·) (congrArg (_ * ·) (logistic_out _))

/-- The grouped branch. -/
theorem group_apply (r : Fin 16384) (j : Fin 1024) : val_main_v34 (F := Ideal) a z (ix2 r j) = groupBranch a z (wide r) j := by
  rw [val_main_v34_apply, val_main_v31_apply, val_main_v30_apply, val_main_v29_apply, val_main_v33_apply, val_main_call1_v5_apply, val_main_call1_v4_apply, val_main_call1_cst_0_apply,
    val_main_call1_v3_apply, val_main_call1_v2_apply, val_main_call1_cst_apply, val_main_call1_v1_apply, val_main_call1_v0_apply, val_main_v32_apply, val_main_v1_apply, val_main_v0_apply]
  have e1 : idx_main_v29 (idx_main_v30 (idx_main_v31 (ix2 r j))) = ix3 ⟨j / 128, by omega⟩ ⟨j % 128, by omega⟩ (wide r) := funext fun i => match i with
    | ⟨0, _⟩ => Fin.ext (show (r.val * 1024 + j.val) / 128 % 8 = j.val / 128 by omega)
    | ⟨1, _⟩ => Fin.ext (show (r.val * 1024 + j.val) % 128 = j.val % 128 by omega)
    | ⟨2, _⟩ => Fin.ext (show (r.val * 1024 + j.val) / 1024 = r.val by omega)
  have e2 : idx_main_v1 (idx_main_v32 (ix2 r j)) = ix2 (wide r) ⟨8704 + j, by omega⟩ := funext fun i => match i with
    | ⟨0, _⟩ => rfl
    | ⟨1, _⟩ => rfl
  rw [e1, e2]
  refine congrArg (_ * ·) (congrArg (_ * ·) (logistic_out _))

/-- A branch's gate. -/
theorem gate_apply (r : Fin 16384) (q : Fin 6144) :
    val_main_v41 (F := Ideal) z (ix2 r q) = Ideal.logistic (z (ix2 (wide r) ⟨10240 + q, by omega⟩)) := by
  rw [val_main_v41_apply, val_main_v40_apply, val_main_cst_4_apply, val_main_v39_apply, val_main_v38_apply, val_main_cst_3_apply, val_main_v37_apply, val_main_v36_apply,
    val_main_v35_apply, val_main_v1_apply, val_main_v0_apply]
  have e : idx_main_v1 (idx_main_v35 (ix2 r q)) = ix2 (wide r) ⟨10240 + q, by omega⟩ := funext fun i => match i with
    | ⟨0, _⟩ => rfl
    | ⟨1, _⟩ => rfl
  rw [e]
  exact logistic_out _

/-- Branch 0's weights. -/
theorem weights0_apply (j : Fin 1024) (q : Fin 2048) : val_main_v46 (F := Ideal) wb (ix2 j q) = wb (ix4 3 0 j q) := by
  rw [val_main_v46_apply, val_main_v45_apply, val_main_v4_apply, val_main_v3_apply, val_main_v2_apply]
  refine congrArg wb (funext fun i => ?_)
  have hj := j.isLt
  have hq := q.isLt
  match i with
  | ⟨0, _⟩ => rfl
  | ⟨1, _⟩ => exact Fin.ext (show ((0 * 1024 + (j.val * 2048 + q.val) / 2048 % 1024) * 2048 + (j.val * 2048 + q.val) % 2048) / 2097152 % 3 = 0 by omega)
  | ⟨2, _⟩ => exact Fin.ext (show ((0 * 1024 + (j.val * 2048 + q.val) / 2048 % 1024) * 2048 + (j.val * 2048 + q.val) % 2048) / 2048 % 1024 = j.val by omega)
  | ⟨3, _⟩ => exact Fin.ext (show ((0 * 1024 + (j.val * 2048 + q.val) / 2048 % 1024) * 2048 + (j.val * 2048 + q.val) % 2048) % 2048 = q.val by omega)

/-- Branch 1's weights. -/
theorem weights1_apply (j : Fin 1024) (q : Fin 2048) : val_main_v51 (F := Ideal) wb (ix2 j q) = wb (ix4 3 1 j q) := by
  rw [val_main_v51_apply, val_main_v50_apply, val_main_v4_apply, val_main_v3_apply, val_main_v2_apply]
  refine congrArg wb (funext fun i => ?_)
  have hj := j.isLt
  have hq := q.isLt
  match i with
  | ⟨0, _⟩ => rfl
  | ⟨1, _⟩ => exact Fin.ext (show (((1 + 0) * 1024 + (j.val * 2048 + q.val) / 2048 % 1024) * 2048 + (j.val * 2048 + q.val) % 2048) / 2097152 % 3 = 1 by omega)
  | ⟨2, _⟩ => exact Fin.ext (show (((1 + 0) * 1024 + (j.val * 2048 + q.val) / 2048 % 1024) * 2048 + (j.val * 2048 + q.val) % 2048) / 2048 % 1024 = j.val by omega)
  | ⟨3, _⟩ => exact Fin.ext (show (((1 + 0) * 1024 + (j.val * 2048 + q.val) / 2048 % 1024) * 2048 + (j.val * 2048 + q.val) % 2048) % 2048 = q.val by omega)

/-- Branch 2's weights. -/
theorem weights2_apply (j : Fin 1024) (q : Fin 2048) : val_main_v57 (F := Ideal) wb (ix2 j q) = wb (ix4 3 2 j q) := by
  rw [val_main_v57_apply, val_main_v56_apply, val_main_v4_apply, val_main_v3_apply, val_main_v2_apply]
  refine congrArg wb (funext fun i => ?_)
  have hj := j.isLt
  have hq := q.isLt
  match i with
  | ⟨0, _⟩ => rfl
  | ⟨1, _⟩ => exact Fin.ext (show (((2 + 0) * 1024 + (j.val * 2048 + q.val) / 2048 % 1024) * 2048 + (j.val * 2048 + q.val) % 2048) / 2097152 % 3 = 2 by omega)
  | ⟨2, _⟩ => exact Fin.ext (show (((2 + 0) * 1024 + (j.val * 2048 + q.val) / 2048 % 1024) * 2048 + (j.val * 2048 + q.val) % 2048) / 2048 % 1024 = j.val by omega)
  | ⟨3, _⟩ => exact Fin.ext (show (((2 + 0) * 1024 + (j.val * 2048 + q.val) / 2048 % 1024) * 2048 + (j.val * 2048 + q.val) % 2048) % 2048 = q.val by omega)

/-- The sum of the branches. -/
theorem summed_apply (r : Fin 16384) (q : Fin 2048) :
    val_main_v60 (F := Ideal) p d a z g wb (ix2 r q) = summed last 3 p d a z g wb (wide r) q := by
  rw [val_main_v60_apply, val_main_v59_apply, val_main_v58_apply, val_main_v55_apply, val_main_v54_apply, val_main_v53_apply, val_main_v52_apply, val_main_v49_apply,
    val_main_v48_apply, val_main_v47_apply, val_main_v42_apply]
  have g0 : idx_main_v42 (ix2 r q) = ix2 r ⟨q, by omega⟩ := funext fun i => match i with
    | ⟨0, _⟩ => rfl
    | ⟨1, _⟩ => rfl
  have l0 : ∀ j : Fin 1024, lidx_main_v47 (ix2 r q) j = ix2 r j := fun j => funext fun i => match i with
    | ⟨0, _⟩ => rfl
    | ⟨1, _⟩ => rfl
  have r0 : ∀ j : Fin 1024, ridx_main_v47 (ix2 r q) j = ix2 j q := fun j => funext fun i => match i with
    | ⟨0, _⟩ => rfl
    | ⟨1, _⟩ => rfl
  have g1 : idx_main_v49 (ix2 r q) = ix2 r ⟨2048 + q, by omega⟩ := funext fun i => match i with
    | ⟨0, _⟩ => rfl
    | ⟨1, _⟩ => rfl
  have l1 : ∀ j : Fin 1024, lidx_main_v52 (ix2 r q) j = ix2 r j := fun j => funext fun i => match i with
    | ⟨0, _⟩ => rfl
    | ⟨1, _⟩ => rfl
  have r1 : ∀ j : Fin 1024, ridx_main_v52 (ix2 r q) j = ix2 j q := fun j => funext fun i => match i with
    | ⟨0, _⟩ => rfl
    | ⟨1, _⟩ => rfl
  have g2 : idx_main_v55 (ix2 r q) = ix2 r ⟨4096 + q, by omega⟩ := funext fun i => match i with
    | ⟨0, _⟩ => rfl
    | ⟨1, _⟩ => rfl
  have l2 : ∀ j : Fin 1024, lidx_main_v58 (ix2 r q) j = ix2 r j := fun j => funext fun i => match i with
    | ⟨0, _⟩ => rfl
    | ⟨1, _⟩ => rfl
  have r2 : ∀ j : Fin 1024, ridx_main_v58 (ix2 r q) j = ix2 j q := fun j => funext fun i => match i with
    | ⟨0, _⟩ => rfl
    | ⟨1, _⟩ => rfl
  have l00 : ∀ j : Fin 1024, idx_main_v44 (ix2 r j) = ix2 (wide r) j := fun j => funext fun i => match i with
    | ⟨0, _⟩ => rfl
    | ⟨1, _⟩ => rfl
  simp only [g0, g1, g2, l0, l1, l2, r0, r1, r2, gate_apply, diff_apply, group_apply, weights0_apply, weights1_apply, weights2_apply, val_main_v44_apply, l00, val_main_v43_apply]
  have c1 : (⟨10240 + (2048 + q.val), by omega⟩ : Fin 16384) = ⟨12288 + q, by omega⟩ := Fin.ext (by dsimp only; omega)
  have c2 : (⟨10240 + (4096 + q.val), by omega⟩ : Fin 16384) = ⟨14336 + q, by omega⟩ := Fin.ext (by dsimp only; omega)
  rw [c1, c2]
  rfl

/-- The output weights. -/
theorem out_weights_apply (k q : Fin 2048) : val_main_v7 (F := Ideal) wo (ix2 k q) = wo (ix3 3 k q) := by
  rw [val_main_v7_apply, val_main_v6_apply, val_main_v5_apply]
  refine congrArg wo (funext fun i => ?_)
  have hk := k.isLt
  have hq := q.isLt
  match i with
  | ⟨0, _⟩ => rfl
  | ⟨1, _⟩ => exact Fin.ext (show (k.val * 2048 + q.val) / 2048 % 2048 = k.val by omega)
  | ⟨2, _⟩ => exact Fin.ext (show (k.val * 2048 + q.val) % 2048 = q.val by omega)

/-- The sum through the output weights. -/
theorem product_apply (r : Fin 16384) (q : Fin 2048) :
    val_main_v64 (F := Ideal) p d a z g wb wo (ix2 r q) = ∑ k : Fin 2048, summed last 3 p d a z g wb (wide r) k * wo (ix3 3 k q) := by
  rw [val_main_v64_apply]
  refine Finset.sum_congr rfl fun k _ => ?_
  have el : lidx_main_v64 (ix2 r q) k = ix2 r k := funext fun i => match i with
    | ⟨0, _⟩ => rfl
    | ⟨1, _⟩ => rfl
  have er : ridx_main_v64 (ix2 r q) k = ix2 k q := funext fun i => match i with
    | ⟨0, _⟩ => rfl
    | ⟨1, _⟩ => rfl
  rw [el, er, summed_apply, out_weights_apply]

/-- The gate row of the latent tokens. -/
theorem row_apply (q : Fin 2048) : val_main_v63 (F := Ideal) b (ix1 q) = b (ix3 3 0 ⟨4096 + q, by omega⟩) := by
  pointwise [val_main_v63, val_main_v62]
  blk_ext

/-- A latent token before the final norm. -/
theorem token_apply (r : Fin 16384) (q : Fin 2048) :
    val_main_v68 (F := Ideal) p d a z g wb wo x b (ix2 r q) = entry last 3 p d a z g wb wo x b (wide r) q := by
  rw [val_main_v68_apply, val_main_v61_apply, val_main_v67_apply, val_main_v66_apply, val_main_v65_apply]
  have e1 : idx_main_v61 (ix2 r q) = ix2 (wide r) q := funext fun i => match i with
    | ⟨0, _⟩ => rfl
    | ⟨1, _⟩ => rfl
  have e2 : idx_main_v65 (idx_main_v66 (ix2 r q)) = ix1 q := funext fun i => match i with
    | ⟨0, _⟩ => rfl
  rw [e1, e2, product_apply, row_apply]
  have hs : stream r.val = 0 := if_pos r.isLt
  unfold entry
  dsimp only
  rw [hs]
  rfl

/-- A token's sum of squares. -/
theorem token_squares_apply (r : Fin 16384) :
    val_main_v70 (F := Ideal) p d a z g wb wo x b (ix1 r)
      = ∑ k : Fin 2048, entry last 3 p d a z g wb wo x b (wide r) k * entry last 3 p d a z g wb wo x b (wide r) k := by
  rw [val_main_v70_apply, val_main_cst_5_apply]
  have e : ∀ k : Fin 2048, idx_main_v70 (ix1 r) k = ix2 r k := fun k => funext fun i => match i with
    | ⟨0, _⟩ => rfl
    | ⟨1, _⟩ => rfl
  simp only [val_main_v69_apply, e, token_apply]
  refine (congrArg (· + _) Ideal.ofBits_zero_f32).trans (zero_add _)

/-- **The reference's result** is the output. -/
theorem final : val_main_v81 (F := Ideal) p d a z g wb wo x b f = LastMerge.output p d a z g wb wo x b f := by
  funext y
  obtain ⟨r, q, rfl⟩ : ∃ (r : Fin 16384) (q : Fin 2048), y = ix2 r q := ⟨y 0, y 1, eq_ix2 (n0 := 16384) (n1 := 2048) y⟩
  rw [val_main_v81_apply, val_main_v80_apply, val_main_v79_apply, val_main_v78_apply, val_main_v77_apply, val_main_v76_apply, val_main_v75_apply,
    val_main_v74_apply, val_main_cst_7_apply, val_main_v73_apply, val_main_v72_apply, val_main_cst_6_apply, val_main_v71_apply]
  have e1 : idx_main_v71 (idx_main_v77 (ix2 r q)) = ix1 r := funext fun i => match i with
    | ⟨0, _⟩ => rfl
  have e2 : idx_main_v79 (idx_main_v80 (ix2 r q)) = ix1 q := funext fun i => match i with
    | ⟨0, _⟩ => rfl
  rw [e1, e2, token_squares_apply, token_apply]
  rfl

end Cert.Reference5Ideal.Value

end
-- ==== Proof.lean ====
/-
  The claims, from each kernel's whole run (Region, and RegionIdeal for its ideal reading), the reference's run, and
  the equality of the two with the output (Value and Reference). The names that end in 2 are the differential call's,
  those that end in 3 the input projection's, those that end in 4 the merge's,
  those that end in 5 the last layer's merge's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_well_formed
public import proofs.«01_k».proof.Proof.Gen.Kernel2
public import proofs.«01_k».proof.Proof.Gen.Kernel2.Frame
public import proofs.«01_k».proof.Proof.Gen.Kernel2.Loops
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Frame
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_well_formed2
public import proofs.«01_k».proof.Proof.Gen.Kernel3
public import proofs.«01_k».proof.Proof.Gen.Kernel3.Value
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Value
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Value
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Region
public import proofs.«01_k».proof.Proof.RegionIdeal
public import proofs.«01_k».proof.Proof.Value
public import proofs.«01_k».proof.Proof.Reference
public import proofs.«01_k».proof.Proof.Wellformed
public import proofs.«01_k».proof.Proof.Region2
public import proofs.«01_k».proof.Proof.Region2Ideal
public import proofs.«01_k».proof.Proof.Value2
public import proofs.«01_k».proof.Proof.Reference2
public import proofs.«01_k».proof.Proof.Wellformed2
public import proofs.«01_k».proof.Proof.Value3
public import proofs.«01_k».proof.Proof.Reference3
public import proofs.«01_k».proof.Proof.Value4
public import proofs.«01_k».proof.Proof.Reference4
public import proofs.«01_k».proof.Proof.Value5
public import proofs.«01_k».proof.Proof.Reference5
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end unchanged, and it declares no semaphore. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => ⟨(h c).2.1, (h c).2.2.1, (h c).2.2.2⟩,
    sem_eq_zero_of_no_sems (by decide) r.2⟩) (Cert.ReferenceIdeal.Value.run (F := Ideal) m g)

/-- The kernel and the reference both end with the output in the result. -/
theorem algebraic : Cert.algebraic_KernelIdeal_ReferenceIdeal_pre_well_formed (hKernelIdeal := Cert.KernelIdeal.Gen.facts)
    (hReferenceIdeal := Cert.ReferenceIdeal.Gen.facts) (hPre_well_formed := Cert.Pre_well_formed.Gen.facts) := by
  intro m g m' g' hpre hagree
  have good := fun c => Cert.Pre_well_formed.good _ _ _ (hpre c).1 (hpre c).2.1 (hpre c).2.2
  refine ⟨fun c => Cert.Attention.output (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · have h1 := Cert.KernelIdeal.Body.run_main (F := Ideal) m g
    have h2 := θ_run_mono h1 fun r h => h.1
    run_from h2
    exact Cert.KernelIdeal.Body.final m c (good c)
  · run_from Cert.ReferenceIdeal.Value.run (F := Ideal) m' g'
    rw [Cert.ReferenceIdeal.Read.val_main_v48_eq, (hagree c).1, (hagree c).2.1, (hagree c).2.2]
    exact Cert.ReferenceIdeal.Value.final _ _ _ (good c)

/-- The differential reference runs, its arguments end unchanged, and it declares no semaphore. -/
theorem reference2_quiescent (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal)))
      ⟨m, fun _ => 0, g⟩ (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
        ∧ r.2.sem = fun _ => 0) :=
  (θ_run Cert.Reference2Ideal.defs _ _).mono (fun r h => ⟨fun c => ⟨(h c).2.1, (h c).2.2.1, (h c).2.2.2.1, (h c).2.2.2.2⟩,
    sem_eq_zero_of_no_sems (by decide) r.2⟩) (Cert.Reference2Ideal.Value.run (F := Ideal) m g)

/-- The differential kernel and its reference both end with the output in the result. -/
theorem algebraic2 : Cert.algebraic_Kernel2Ideal_Reference2Ideal_pre_well_formed2 (hKernel2Ideal := Cert.Kernel2Ideal.Gen.facts)
    (hReference2Ideal := Cert.Reference2Ideal.Gen.facts) (hPre_well_formed2 := Cert.Pre_well_formed2.Gen.facts) := by
  intro m g m' g' hpre hagree
  have good := fun c => Cert.Pre_well_formed2.good _ _ _ _ (hpre c).1 (hpre c).2.1 (hpre c).2.2.1 (hpre c).2.2.2.1 (hpre c).2.2.2.2.1 (hpre c).2.2.2.2.2.1 (hpre c).2.2.2.2.2.2
  refine ⟨fun c => Cert.Differential.output (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)), ?_, ?_⟩
  · have h1 := Cert.Kernel2Ideal.Body.run_main (F := Ideal) m g
    have h2 := θ_run_mono h1 fun r h => h.1
    run_from h2
    exact Cert.Kernel2Ideal.Body.final m c (good c)
  · run_from Cert.Reference2Ideal.Value.run (F := Ideal) m' g'
    rw [Cert.Reference2Ideal.Read.val_main_v81_eq, (hagree c).1, (hagree c).2.1, (hagree c).2.2.1, (hagree c).2.2.2]
    exact Cert.Reference2Ideal.Value.final _ _ _ _ (good c)

/-- The projection's reference runs, its arguments end unchanged, and it declares no semaphore. -/
theorem reference3_quiescent (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal)))
      ⟨m, fun _ => 0, g⟩ (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
        ∧ r.2.sem = fun _ => 0) :=
  (θ_run Cert.Reference3Ideal.defs _ _).mono (fun r h => ⟨fun c => ⟨(h c).2.1, (h c).2.2.1, (h c).2.2.2.1, (h c).2.2.2.2⟩,
    sem_eq_zero_of_no_sems (by decide) r.2⟩) (Cert.Reference3Ideal.Value.run (F := Ideal) m g)

/-- The projection's kernel and its reference both end with the output in the result. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Projection.output (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3)), ?_, ?_⟩
  · run_from Cert.Kernel3Ideal.Value.run_blocks (F := Ideal) m g
    exact Cert.Kernel3Ideal.Body.final m c
  · run_from Cert.Reference3Ideal.Value.run (F := Ideal) m' g'
    rw [Cert.Reference3Ideal.Read.val_main_v51_eq, (hagree c).1, (hagree c).2.1, (hagree c).2.2.1, (hagree c).2.2.2]
    exact Cert.Reference3Ideal.Value.final _ _ _ _

/-- The merge's reference runs, its arguments end unchanged, and it declares no semaphore. -/
theorem reference4_quiescent (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal)))
      ⟨m, fun _ => 0, g⟩ (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
        ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
        ∧ r.2.sem = fun _ => 0) :=
  (θ_run Cert.Reference4Ideal.defs _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩,
    sem_eq_zero_of_no_sems (by decide) r.2⟩) (Cert.Reference4Ideal.Value.run (F := Ideal) m g)

/-- The merge's kernel and its reference both end with the output in the result. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Merge.output (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4))
    (m ((c.tc : Thread Cert.Kernel4Ideal.nD Cert.Kernel4Ideal.τ).loc Cert.Kernel4Ideal.main_arg5))
    (m ((c.tc : Thread Cert.Kernel4Ideal.nD Cert.Kernel4Ideal.τ).loc Cert.Kernel4Ideal.main_arg6))
    (m ((c.tc : Thread Cert.Kernel4Ideal.nD Cert.Kernel4Ideal.τ).loc Cert.Kernel4Ideal.main_arg7))
    (m ((c.tc : Thread Cert.Kernel4Ideal.nD Cert.Kernel4Ideal.τ).loc Cert.Kernel4Ideal.main_arg8)), ?_, ?_⟩
  · run_from Cert.Kernel4Ideal.Value.run_blocks (F := Ideal) m g
    exact Cert.Kernel4Ideal.Body.final m c
  · run_from Cert.Reference4Ideal.Value.run (F := Ideal) m' g'
    rw [Cert.Reference4Ideal.Read.val_main_v76_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact Cert.Reference4Ideal.Value.final _ _ _ _ _ _ _ _ _

/-- The last layer's merge's reference runs, its arguments end unchanged, and it declares no semaphore. -/
theorem reference5_quiescent (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal)))
      ⟨m, fun _ => 0, g⟩ (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
        ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
        ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
        ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
        ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
        ∧ r.2.sem = fun _ => 0) :=
  (θ_run Cert.Reference5Ideal.defs _ _).mono (fun r h => ⟨fun c => (h c).2,
    sem_eq_zero_of_no_sems (by decide) r.2⟩) (Cert.Reference5Ideal.Value.run (F := Ideal) m g)

/-- The last layer's merge's kernel and its reference both end with the output in the result. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.LastMerge.output (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4))
    (m ((c.tc : Thread Cert.Kernel5Ideal.nD Cert.Kernel5Ideal.τ).loc Cert.Kernel5Ideal.main_arg5))
    (m ((c.tc : Thread Cert.Kernel5Ideal.nD Cert.Kernel5Ideal.τ).loc Cert.Kernel5Ideal.main_arg6))
    (m ((c.tc : Thread Cert.Kernel5Ideal.nD Cert.Kernel5Ideal.τ).loc Cert.Kernel5Ideal.main_arg7))
    (m ((c.tc : Thread Cert.Kernel5Ideal.nD Cert.Kernel5Ideal.τ).loc Cert.Kernel5Ideal.main_arg8))
    (m ((c.tc : Thread Cert.Kernel5Ideal.nD Cert.Kernel5Ideal.τ).loc Cert.Kernel5Ideal.main_arg9)), ?_, ?_⟩
  · run_from Cert.Kernel5Ideal.Value.run_blocks (F := Ideal) m g
    exact Cert.Kernel5Ideal.Body.final m c
  · run_from Cert.Reference5Ideal.Value.run (F := Ideal) m' g'
    rw [Cert.Reference5Ideal.Read.val_main_v81_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact Cert.Reference5Ideal.Value.final _ _ _ _ _ _ _ _ _ _

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_well_formed.Gen.facts, Cert.Pre_well_formed2.Gen.facts,
    fun m g _ => Cert.Kernel.Body.quiescent m g,
    fun m g _ => Cert.KernelIdeal.Body.quiescent m g,
    fun m g _ => Cert.KernelIdeal.Body.quiescent m g,
    fun m g _ => reference_quiescent m g,
    fun m g _ => reference_quiescent m g,
    fun m g _ => Cert.Kernel2.Body.quiescent m g,
    fun m g _ => Cert.Kernel2Ideal.Body.quiescent m g,
    fun m g _ => Cert.Kernel2Ideal.Body.quiescent m g,
    fun m g _ => reference2_quiescent m g,
    fun m g _ => reference2_quiescent m g,
    fun m g _ => Cert.Kernel3.Gen.frame m g,
    fun m g _ => Cert.Kernel3Ideal.Gen.frame m g,
    fun m g _ => reference3_quiescent m g,
    fun m g _ => Cert.Kernel4.Gen.frame m g,
    fun m g _ => Cert.Kernel4Ideal.Gen.frame m g,
    fun m g _ => reference4_quiescent m g,
    fun m g _ => Cert.Kernel5.Gen.frame m g,
    fun m g _ => Cert.Kernel5Ideal.Gen.frame m g,
    fun m g _ => reference5_quiescent m g, trivial, algebraic, trivial, algebraic2, trivial, algebraic3, trivial, algebraic4,
    trivial, algebraic5⟩

end Cert.Proof

end
